-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "log2e" .f32 0x3FB8AA3B#32 (((Real.log 2)⁻¹ : ℝ) : EReal)
  ∧ IdealRules.named_const.Statement Cert.KernelIdeal.κ "scale" .f32 0x3E0293EE#32 ((((Real.log 2) * (Real.sqrt 128))⁻¹ : ℝ) : EReal)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v39) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v9)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v9) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v18) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v16_0)) (v1 : (c : Dev Cert.Kernel5Ideal.nD) → Buf (Elt Ideal) ((c.tc : Thread Cert.Kernel5Ideal.nD Cert.Kernel5Ideal.τ).loc Cert.Kernel5Ideal.main_v16_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v16_0) = v0 c
          ∧ r.2.mem ((c.tc : Thread Cert.Kernel5Ideal.nD Cert.Kernel5Ideal.τ).loc Cert.Kernel5Ideal.main_v16_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v55) = v0 c
          ∧ r.2.mem ((c.tc : Thread Cert.Reference5Ideal.nD Cert.Reference5Ideal.τ).loc Cert.Reference5Ideal.main_v59) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v4)) (v1 : (c : Dev Cert.Kernel6Ideal.nD) → Buf (Elt Ideal) ((c.tc : Thread Cert.Kernel6Ideal.nD Cert.Kernel6Ideal.τ).loc Cert.Kernel6Ideal.main_v5)) (v2 : (c : Dev Cert.Kernel6Ideal.nD) → Buf (Elt Ideal) ((c.tc : Thread Cert.Kernel6Ideal.nD Cert.Kernel6Ideal.τ).loc Cert.Kernel6Ideal.main_v3_2)) (v3 : (c : Dev Cert.Kernel6Ideal.nD) → Buf (Elt Ideal) ((c.tc : Thread Cert.Kernel6Ideal.nD Cert.Kernel6Ideal.τ).loc Cert.Kernel6Ideal.main_v3_3)) (v4 : (c : Dev Cert.Kernel6Ideal.nD) → Buf (Elt Ideal) ((c.tc : Thread Cert.Kernel6Ideal.nD Cert.Kernel6Ideal.τ).loc Cert.Kernel6Ideal.main_v3_4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_v5) = v1 c
          ∧ r.2.mem ((c.tc : Thread Cert.Kernel6Ideal.nD Cert.Kernel6Ideal.τ).loc Cert.Kernel6Ideal.main_v3_2) = v2 c
          ∧ r.2.mem ((c.tc : Thread Cert.Kernel6Ideal.nD Cert.Kernel6Ideal.τ).loc Cert.Kernel6Ideal.main_v3_3) = v3 c
          ∧ r.2.mem ((c.tc : Thread Cert.Kernel6Ideal.nD Cert.Kernel6Ideal.τ).loc Cert.Kernel6Ideal.main_v3_4) = v4 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v57) = v0 c
          ∧ r.2.mem ((c.tc : Thread Cert.Reference6Ideal.nD Cert.Reference6Ideal.τ).loc Cert.Reference6Ideal.main_v60) = v1 c
          ∧ r.2.mem ((c.tc : Thread Cert.Reference6Ideal.nD Cert.Reference6Ideal.τ).loc Cert.Reference6Ideal.main_v63) = v2 c
          ∧ r.2.mem ((c.tc : Thread Cert.Reference6Ideal.nD Cert.Reference6Ideal.τ).loc Cert.Reference6Ideal.main_v66) = v3 c
          ∧ r.2.mem ((c.tc : Thread Cert.Reference6Ideal.nD Cert.Reference6Ideal.τ).loc Cert.Reference6Ideal.main_v69) = v4 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Kernel.lean ====
abbrev S4x2048x6656 : Shape := ⟨3, ![4, 2048, 6656]⟩
abbrev S1x8 : Shape := ⟨2, ![1, 8]⟩
abbrev S32x8 : Shape := ⟨2, ![32, 8]⟩
abbrev S1x2048x2048 : Shape := ⟨3, ![1, 2048, 2048]⟩
abbrev S128x384 : Shape := ⟨2, ![128, 384]⟩
abbrev S8192x52x128 : Shape := ⟨3, ![8192, 52, 128]⟩
abbrev S52x8192x128 : Shape := ⟨3, ![52, 8192, 128]⟩
abbrev S16x8192x128 : Shape := ⟨3, ![16, 8192, 128]⟩
abbrev S20x8192x128 : Shape := ⟨3, ![20, 8192, 128]⟩
abbrev S36x8192x128 : Shape := ⟨3, ![36, 8192, 128]⟩
abbrev S2048x2048 : Shape := ⟨2, ![2048, 2048]⟩
abbrev S8x8192x128 : Shape := ⟨3, ![8, 8192, 128]⟩
abbrev S4x2048x128 : Shape := ⟨3, ![4, 2048, 128]⟩
abbrev S1x2048x128 : Shape := ⟨3, ![1, 2048, 128]⟩
abbrev S256x2048 : Shape := ⟨2, ![256, 2048]⟩
abbrev S1024x384 : Shape := ⟨2, ![1024, 384]⟩
abbrev S1x1 : Shape := ⟨2, ![1, 1]⟩
abbrev S512x1 : Shape := ⟨2, ![512, 1]⟩
abbrev S1x128x128 : Shape := ⟨3, ![1, 128, 128]⟩
abbrev S128x128 : Shape := ⟨2, ![128, 128]⟩
abbrev S512x128 : Shape := ⟨2, ![512, 128]⟩
abbrev S384x128 : Shape := ⟨2, ![384, 128]⟩
abbrev S512x384 : Shape := ⟨2, ![512, 384]⟩
abbrev S512 : Shape := ⟨1, ![512]⟩

abbrev nBuf : Space → Nat
  | .hbm => 14
  | .vmem => 14
  | .smem => 2
  | _ => 0

abbrev bufTy : (tb : Table) → Fin (tcTables nBuf tb) → BufTy
  | .hbm, ⟨0, _⟩ => ⟨S4x2048x6656, .f32⟩
  | .hbm, ⟨1, _⟩ => ⟨S1x8, .f32⟩
  | .hbm, ⟨2, _⟩ => ⟨S32x8, .f32⟩
  | .hbm, ⟨3, _⟩ => ⟨S1x2048x2048, .f32⟩
  | .hbm, ⟨4, _⟩ => ⟨S128x384, .i32⟩
  | .hbm, ⟨5, _⟩ => ⟨S8192x52x128, .f32⟩
  | .hbm, ⟨6, _⟩ => ⟨S52x8192x128, .f32⟩
  | .hbm, ⟨7, _⟩ => ⟨S16x8192x128, .f32⟩
  | .hbm, ⟨8, _⟩ => ⟨S20x8192x128, .f32⟩
  | .hbm, ⟨9, _⟩ => ⟨S36x8192x128, .f32⟩
  | .hbm, ⟨10, _⟩ => ⟨S36x8192x128, .bf16⟩
  | .hbm, ⟨11, _⟩ => ⟨S2048x2048, .f32⟩
  | .hbm, ⟨12, _⟩ => ⟨S8x8192x128, .bf16⟩
  | .hbm, ⟨13, _⟩ => ⟨S2048x2048, .bf16⟩
  | .local _ .vmem, ⟨0, _⟩ => ⟨S128x384, .i32⟩
  | .local _ .vmem, ⟨1, _⟩ => ⟨S4x2048x128, .bf16⟩
  | .local _ .vmem, ⟨2, _⟩ => ⟨S4x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x128, .bf16⟩
  | .local _ .vmem, ⟨7, _⟩ => ⟨S256x2048, .f32⟩
  | .local _ .vmem, ⟨8, _⟩ => ⟨S256x2048, .f32⟩
  | .local _ .vmem, ⟨9, _⟩ => ⟨S4x2048x128, .bf16⟩
  | .local _ .vmem, ⟨10, _⟩ => ⟨S4x2048x128, .bf16⟩
  | .local _ .vmem, ⟨11, _⟩ => ⟨S256x2048, .bf16⟩
  | .local _ .vmem, ⟨12, _⟩ => ⟨S256x2048, .bf16⟩
  | .local _ .vmem, ⟨13, _⟩ => ⟨S1024x384, .f32⟩
  | .local _ .smem, ⟨0, _⟩ => ⟨S32x8, .f32⟩
  | .local _ .smem, ⟨1, _⟩ => ⟨S1x8, .f32⟩
  | _, _ => ⟨S4x2048x6656, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg2_0 : Ref sig .tc := ⟨.vmem, 0, rfl⟩
abbrev cc0_stg3_0 : Ref sig .tc := ⟨.vmem, 1, rfl⟩
abbrev cc0_stg3_1 : Ref sig .tc := ⟨.vmem, 2, rfl⟩
abbrev cc0_stg4_0 : Ref sig .tc := ⟨.vmem, 3, rfl⟩
abbrev cc0_stg4_1 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![4, 2], ![false, false]⟩

def k0_off1 (i : grid0.Coords) (c0_i32_11 : BitVec 32) : Fin 2 → Nat :=
  let c0_12 : Index := 0#32
  let arg1 : BitVec 32 := BitVec.ofNat 32 (i 1).val
  let c4_i32 : BitVec 32 := 4#32
  let v37 : BitVec 32 := Scalar.muli arg1 c4_i32
  let v38 : BitVec 32 := Scalar.addi v37 c0_i32_11
  let v39 : Index := Scalar.indexCast v38
  ![0, v39.toNat]
def k0_mult1 (i : grid0.Coords) : BitVec 32 :=
  let arg1 : BitVec 32 := BitVec.ofNat 32 (i 1).val
  let c512_i32 : BitVec 32 := 512#32
  let v71 : BitVec 32 := Scalar.muli arg1 c512_i32
  v71
def k0_off2 (i : grid0.Coords) : Fin 2 → Nat :=
  let arg1 : BitVec 32 := BitVec.ofNat 32 (i 1).val
  let c512_i32 : BitVec 32 := 512#32
  let v71 : BitVec 32 := Scalar.muli arg1 c512_i32
  let v72 : BitVec 32 := v71
  let v92 : Index := Scalar.indexCast v72
  let c0_46 : Index := 0#32
  ![v92.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  let c0_i32_0 : BitVec 32 := 0#32
  ![v0.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  ![v0.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c34_i32 : BitVec 32 := 34#32
  let v0 : BitVec 32 := Scalar.addi c34_i32 arg1
  let c0_i32 : BitVec 32 := 0#32
  let c0_i32_0 : BitVec 32 := 0#32
  ![v0.toNat, arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S32x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S1x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x384 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S4x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S4x2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "log2e" => some (((Real.log 2)⁻¹ : ℝ) : EReal)
  | "mask" => some ⊥
  | "scale" => some ((((Real.log 2) * (Real.sqrt 128))⁻¹ : ℝ) : EReal)
  | _ => none
-- ==== ReferenceIdeal.lean ====
abbrev S4x2048x6656 : Shape := ⟨3, ![4, 2048, 6656]⟩
abbrev S1x8 : Shape := ⟨2, ![1, 8]⟩
abbrev S32x8 : Shape := ⟨2, ![32, 8]⟩
abbrev S1x2048x2048 : Shape := ⟨3, ![1, 2048, 2048]⟩
abbrev S4x2048x1024 : Shape := ⟨3, ![4, 2048, 1024]⟩
abbrev S4x2048x256 : Shape := ⟨3, ![4, 2048, 256]⟩
abbrev S8 : Shape := ⟨1, ![8]⟩
abbrev S4x16x128x2x4x128 : Shape := ⟨6, ![4, 16, 128, 2, 4, 128]⟩
abbrev S_ : Shape := ⟨0, ![]⟩
abbrev S4x2304x256 : Shape := ⟨3, ![4, 2304, 256]⟩
abbrev S4x18x128x2x128 : Shape := ⟨5, ![4, 18, 128, 2, 128]⟩
abbrev S4x16x128x2x128 : Shape := ⟨5, ![4, 16, 128, 2, 128]⟩
abbrev S4x16x384x2x128 : Shape := ⟨5, ![4, 16, 384, 2, 128]⟩
abbrev S4x2x16x384x128x4 : Shape := ⟨6, ![4, 2, 16, 384, 128, 4]⟩
abbrev S4x2x4x16x128x384 : Shape := ⟨6, ![4, 2, 4, 16, 128, 384]⟩
abbrev S128x384 : Shape := ⟨2, ![128, 384]⟩
abbrev S128x384x1 : Shape := ⟨3, ![128, 384, 1]⟩
abbrev S128x384x8 : Shape := ⟨3, ![128, 384, 8]⟩
abbrev S8x128x384 : Shape := ⟨3, ![8, 128, 384]⟩
abbrev S2x4x1x128x384 : Shape := ⟨5, ![2, 4, 1, 128, 384]⟩
abbrev S16x1x384 : Shape := ⟨3, ![16, 1, 384]⟩
abbrev S1x128x384 : Shape := ⟨3, ![1, 128, 384]⟩
abbrev S16x128x384 : Shape := ⟨3, ![16, 128, 384]⟩
abbrev S1x2x4x1x128x384 : Shape := ⟨6, ![1, 2, 4, 1, 128, 384]⟩
abbrev S1x2x4x1x1x1 : Shape := ⟨6, ![1, 2, 4, 1, 1, 1]⟩
abbrev S4x2x4x16x128x1 : Shape := ⟨6, ![4, 2, 4, 16, 128, 1]⟩
abbrev S4x2x4x16x128x385 : Shape := ⟨6, ![4, 2, 4, 16, 128, 385]⟩
abbrev S4x2x4x16x128 : Shape := ⟨5, ![4, 2, 4, 16, 128]⟩
abbrev S4x16x2x128x4x128 : Shape := ⟨6, ![4, 16, 2, 128, 4, 128]⟩
abbrev S8192x8x128 : Shape := ⟨3, ![8192, 8, 128]⟩
abbrev S8x8192x128 : Shape := ⟨3, ![8, 8192, 128]⟩
abbrev S2048x2048 : Shape := ⟨2, ![2048, 2048]⟩

abbrev nBuf : Space → Nat
  | .hbm => 168
  | .vmem => 0
  | .smem => 0
  | _ => 0

abbrev hbmTy0_0 (i : Nat) : BufTy := match i % 128 with
  | 0 => ⟨S4x2048x6656, .f32⟩
  | 1 => ⟨S1x8, .f32⟩
  | 2 => ⟨S32x8, .f32⟩
  | 3 => ⟨S1x2048x2048, .f32⟩
  | 4 => ⟨S4x2048x1024, .f32⟩
  | 5 => ⟨S4x2048x256, .f32⟩
  | 6 => ⟨S4x2048x256, .f32⟩
  | 7 => ⟨S8, .f32⟩
  | 8 => ⟨S4x16x128x2x4x128, .f32⟩
  | 9 => ⟨S_, .i32⟩
  | 10 => ⟨S_, .f32⟩
  | 11 => ⟨S4x2304x256, .f32⟩
  | 12 => ⟨S4x18x128x2x128, .f32⟩
  | 13 => ⟨S4x16x128x2x128, .f32⟩
  | 14 => ⟨S4x16x128x2x128, .f32⟩
  | 15 => ⟨S4x16x128x2x128, .f32⟩
  | 16 => ⟨S4x16x384x2x128, .f32⟩
  | 17 => ⟨S_, .i32⟩
  | 18 => ⟨S_, .f32⟩
  | 19 => ⟨S4x2304x256, .f32⟩
  | 20 => ⟨S4x18x128x2x128, .f32⟩
  | 21 => ⟨S4x16x128x2x128, .f32⟩
  | 22 => ⟨S4x16x128x2x128, .f32⟩
  | 23 => ⟨S4x16x128x2x128, .f32⟩
  | 24 => ⟨S4x16x384x2x128, .f32⟩
  | 25 => ⟨S4x2x16x384x128x4, .f32⟩
  | 26 => ⟨S4x2x4x16x128x384, .f32⟩
  | 27 => ⟨S_, .f32⟩
  | 28 => ⟨S4x2x4x16x128x384, .f32⟩
  | 29 => ⟨S4x2x4x16x128x384, .f32⟩
  | 30 => ⟨S128x384, .i32⟩
  | 31 => ⟨S128x384, .i32⟩
  | 32 => ⟨S_, .i32⟩
  | 33 => ⟨S128x384, .i32⟩
  | 34 => ⟨S128x384, .i32⟩
  | 35 => ⟨S128x384, .i32⟩
  | 36 => ⟨S128x384, .i32⟩
  | 37 => ⟨S128x384, .i32⟩
  | 38 => ⟨S_, .i32⟩
  | 39 => ⟨S128x384, .i32⟩
  | 40 => ⟨S128x384, .i1⟩
  | 41 => ⟨S128x384, .i32⟩
  | 42 => ⟨S_, .i32⟩
  | 43 => ⟨S128x384, .i32⟩
  | 44 => ⟨S128x384, .i32⟩
  | 45 => ⟨S128x384, .i32⟩
  | 46 => ⟨S_, .i32⟩
  | 47 => ⟨S128x384, .i32⟩
  | 48 => ⟨S128x384, .i1⟩
  | 49 => ⟨S128x384, .i32⟩
  | 50 => ⟨S128x384, .i32⟩
  | 51 => ⟨S128x384, .i32⟩
  | 52 => ⟨S_, .i32⟩
  | 53 => ⟨S128x384, .i32⟩
  | 54 => ⟨S128x384, .i1⟩
  | 55 => ⟨S128x384, .i32⟩
  | 56 => ⟨S128x384, .i32⟩
  | 57 => ⟨S128x384, .i32⟩
  | 58 => ⟨S_, .i32⟩
  | 59 => ⟨S128x384, .i32⟩
  | 60 => ⟨S128x384, .i1⟩
  | 61 => ⟨S128x384, .i32⟩
  | 62 => ⟨S128x384, .i32⟩
  | 63 => ⟨S128x384, .i32⟩
  | 64 => ⟨S_, .i32⟩
  | 65 => ⟨S128x384, .i32⟩
  | 66 => ⟨S128x384, .i1⟩
  | 67 => ⟨S128x384, .i32⟩
  | 68 => ⟨S128x384, .i32⟩
  | 69 => ⟨S128x384, .i32⟩
  | 70 => ⟨S_, .i32⟩
  | 71 => ⟨S128x384, .i32⟩
  | 72 => ⟨S128x384, .i1⟩
  | 73 => ⟨S128x384, .i32⟩
  | 74 => ⟨S128x384, .i32⟩
  | 75 => ⟨S128x384, .i32⟩
  | 76 => ⟨S_, .i32⟩
  | 77 => ⟨S128x384, .i32⟩
  | 78 => ⟨S128x384, .i1⟩
  | 79 => ⟨S128x384, .i32⟩
  | 80 => ⟨S128x384, .i32⟩
  | 81 => ⟨S_, .i32⟩
  | 82 => ⟨S128x384, .i32⟩
  | 83 => ⟨S128x384, .i32⟩
  | 84 => ⟨S_, .i32⟩
  | 85 => ⟨S128x384, .i32⟩
  | 86 => ⟨S128x384, .i1⟩
  | 87 => ⟨S_, .i32⟩
  | 88 => ⟨S_, .i32⟩
  | 89 => ⟨S128x384, .i32⟩
  | 90 => ⟨S128x384, .i32⟩
  | 91 => ⟨S128x384, .i32⟩
  | 92 => ⟨S_, .i32⟩
  | 93 => ⟨S128x384, .i32⟩
  | 94 => ⟨S128x384, .i1⟩
  | 95 => ⟨S128x384, .i32⟩
  | 96 => ⟨S128x384, .i32⟩
  | 97 => ⟨S128x384, .i32⟩
  | 98 => ⟨S_, .i32⟩
  | 99 => ⟨S128x384, .i32⟩
  | 100 => ⟨S128x384, .i1⟩
  | 101 => ⟨S_, .i32⟩
  | 102 => ⟨S128x384, .i32⟩
  | 103 => ⟨S128x384, .i32⟩
  | 104 => ⟨S128x384, .i32⟩
  | 105 => ⟨S128x384x1, .i32⟩
  | 106 => ⟨S128x384x8, .f32⟩
  | 107 => ⟨S8x128x384, .f32⟩
  | 108 => ⟨S2x4x1x128x384, .f32⟩
  | 109 => ⟨S16x1x384, .i32⟩
  | 110 => ⟨S_, .i32⟩
  | 111 => ⟨S16x1x384, .i32⟩
  | 112 => ⟨S16x1x384, .i32⟩
  | 113 => ⟨S_, .i32⟩
  | 114 => ⟨S16x1x384, .i32⟩
  | 115 => ⟨S16x1x384, .i32⟩
  | 116 => ⟨S16x1x384, .i32⟩
  | 117 => ⟨S16x1x384, .i32⟩
  | 118 => ⟨S128x384, .i32⟩
  | 119 => ⟨S1x128x384, .i32⟩
  | 120 => ⟨S_, .i32⟩
  | 121 => ⟨S1x128x384, .i32⟩
  | 122 => ⟨S1x128x384, .i1⟩
  | 123 => ⟨S_, .i32⟩
  | 124 => ⟨S16x1x384, .i32⟩
  | 125 => ⟨S16x1x384, .i1⟩
  | 126 => ⟨S16x128x384, .i1⟩
  | 127 => ⟨S16x128x384, .i1⟩
  | _ => ⟨S4x2048x6656, .f32⟩

abbrev hbmTy0_1 (i : Nat) : BufTy := match i % 128 with
  | 0 => ⟨S16x128x384, .i1⟩
  | 1 => ⟨S_, .i32⟩
  | 2 => ⟨S16x1x384, .i32⟩
  | 3 => ⟨S16x1x384, .i1⟩
  | 4 => ⟨S16x128x384, .i1⟩
  | 5 => ⟨S16x128x384, .i1⟩
  | 6 => ⟨S1x2x4x1x128x384, .f32⟩
  | 7 => ⟨S4x2x4x16x128x384, .f32⟩
  | 8 => ⟨S4x2x4x16x128x384, .f32⟩
  | 9 => ⟨S_, .f32⟩
  | 10 => ⟨S_, .f32⟩
  | 11 => ⟨S4x2x4x16x128x384, .i1⟩
  | 12 => ⟨S4x2x4x16x128x384, .f32⟩
  | 13 => ⟨S4x2x4x16x128x384, .f32⟩
  | 14 => ⟨S1x2x4x1x1x1, .f32⟩
  | 15 => ⟨S4x2x4x16x128x1, .f32⟩
  | 16 => ⟨S4x2x4x16x128x385, .f32⟩
  | 17 => ⟨S_, .f32⟩
  | 18 => ⟨S4x2x4x16x128, .f32⟩
  | 19 => ⟨S_, .f32⟩
  | 20 => ⟨S4x2x4x16x128, .f32⟩
  | 21 => ⟨S4x2x4x16x128, .f32⟩
  | 22 => ⟨S4x2x4x16x128x1, .f32⟩
  | 23 => ⟨S4x2x4x16x128x385, .f32⟩
  | 24 => ⟨S4x2x4x16x128x385, .f32⟩
  | 25 => ⟨S4x2x4x16x128x385, .f32⟩
  | 26 => ⟨S_, .f32⟩
  | 27 => ⟨S4x2x4x16x128, .f32⟩
  | 28 => ⟨S4x2x4x16x128x1, .f32⟩
  | 29 => ⟨S4x2x4x16x128x385, .f32⟩
  | 30 => ⟨S4x2x4x16x128x385, .f32⟩
  | 31 => ⟨S4x2x4x16x128x384, .f32⟩
  | 32 => ⟨S4x16x2x128x4x128, .f32⟩
  | 33 => ⟨S4x16x128x2x4x128, .f32⟩
  | 34 => ⟨S4x2048x1024, .f32⟩
  | 35 => ⟨S8192x8x128, .f32⟩
  | 36 => ⟨S8x8192x128, .f32⟩
  | 37 => ⟨S8x8192x128, .bf16⟩
  | 38 => ⟨S2048x2048, .f32⟩
  | 39 => ⟨S2048x2048, .bf16⟩
  | _ => ⟨S4x2048x6656, .f32⟩

abbrev hbmTy (i : Nat) : BufTy := match i / 128 with
  | 0 => hbmTy0_0 i
  | 1 => hbmTy0_1 i
  | _ => ⟨S4x2048x6656, .f32⟩

abbrev bufTy : (tb : Table) → Fin (tcTables nBuf tb) → BufTy
  | .hbm, ⟨i, _⟩ => hbmTy i
  | _, _ => ⟨S4x2048x6656, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_call0_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_0 : Ref sig .tc := ⟨.hbm, 17, rfl⟩
abbrev main_call1_v0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c_1 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_c_2 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c_3 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_4 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_c_5 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_c_6 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_c_7 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_c_8 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_c_9 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_c_10 : Ref sig .tc := ⟨.hbm, 81, rfl⟩
abbrev main_v63 : Ref sig .tc := ⟨.hbm, 82, rfl⟩
abbrev main_v64 : Ref sig .tc := ⟨.hbm, 83, rfl⟩
abbrev main_c_11 : Ref sig .tc := ⟨.hbm, 84, rfl⟩
abbrev main_v65 : Ref sig .tc := ⟨.hbm, 85, rfl⟩
abbrev main_v66 : Ref sig .tc := ⟨.hbm, 86, rfl⟩
abbrev main_c_12 : Ref sig .tc := ⟨.hbm, 87, rfl⟩
abbrev main_c_13 : Ref sig .tc := ⟨.hbm, 88, rfl⟩
abbrev main_call2_v0 : Ref sig .tc := ⟨.hbm, 89, rfl⟩
abbrev main_call2_v1 : Ref sig .tc := ⟨.hbm, 90, rfl⟩
abbrev main_v67 : Ref sig .tc := ⟨.hbm, 91, rfl⟩
abbrev main_c_14 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_c_15 : Ref sig .tc := ⟨.hbm, 98, rfl⟩
abbrev main_v73 : Ref sig .tc := ⟨.hbm, 99, rfl⟩
abbrev main_v74 : Ref sig .tc := ⟨.hbm, 100, rfl⟩
abbrev main_c_16 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_c_17 : Ref sig .tc := ⟨.hbm, 110, rfl⟩
abbrev main_v83 : Ref sig .tc := ⟨.hbm, 111, rfl⟩
abbrev main_v84 : Ref sig .tc := ⟨.hbm, 112, rfl⟩
abbrev main_c_18 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_c_19 : Ref sig .tc := ⟨.hbm, 120, rfl⟩
abbrev main_v91 : Ref sig .tc := ⟨.hbm, 121, rfl⟩
abbrev main_v92 : Ref sig .tc := ⟨.hbm, 122, rfl⟩
abbrev main_c_20 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_c_21 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_cst_22 : Ref sig .tc := ⟨.hbm, 137, rfl⟩
abbrev main_call4_v0 : Ref sig .tc := ⟨.hbm, 138, rfl⟩
abbrev main_call4_v1 : Ref sig .tc := ⟨.hbm, 139, rfl⟩
abbrev main_call4_v2 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_cst_23 : Ref sig .tc := ⟨.hbm, 145, rfl⟩
abbrev main_v109 : Ref sig .tc := ⟨.hbm, 146, rfl⟩
abbrev main_cst_24 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_cst_25 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩

abbrev nD : Nat := 1
abbrev τ : Topo := Topo.v7x

variable {F : FTy → Type} [FloatOps F]

def κ : String → Option EReal := fun
  | "mask" => some ⊥
  | "sqrt_d" => some ((Real.sqrt 128 : ℝ) : EReal)
  | _ => none
-- ==== Kernel2.lean ====
abbrev S4x2048x2048 : Shape := ⟨3, ![4, 2048, 2048]⟩
abbrev S1x2048 : Shape := ⟨2, ![1, 2048]⟩
abbrev S1x2048x11264 : Shape := ⟨3, ![1, 2048, 11264]⟩
abbrev S1x5632x2048 : Shape := ⟨3, ![1, 5632, 2048]⟩
abbrev S8192x2048 : Shape := ⟨2, ![8192, 2048]⟩
abbrev S2048x11264 : Shape := ⟨2, ![2048, 11264]⟩
abbrev S5632x2048 : Shape := ⟨2, ![5632, 2048]⟩
abbrev S1024x2048 : Shape := ⟨2, ![1024, 2048]⟩
abbrev S2048x512 : Shape := ⟨2, ![2048, 512]⟩
abbrev S512x2048 : Shape := ⟨2, ![512, 2048]⟩
abbrev S32x2048 : Shape := ⟨2, ![32, 2048]⟩
abbrev S32 : Shape := ⟨1, ![32]⟩
abbrev S32x1 : Shape := ⟨2, ![32, 1]⟩
abbrev S256x2048 : Shape := ⟨2, ![256, 2048]⟩
abbrev S256x512 : Shape := ⟨2, ![256, 512]⟩
abbrev S1024x512 : Shape := ⟨2, ![1024, 512]⟩

abbrev nBuf : Space → Nat
  | .hbm => 11
  | .vmem => 13
  | .smem => 0
  | _ => 0

abbrev bufTy : (tb : Table) → Fin (tcTables nBuf tb) → BufTy
  | .hbm, ⟨0, _⟩ => ⟨S4x2048x2048, .f32⟩
  | .hbm, ⟨1, _⟩ => ⟨S1x2048, .f32⟩
  | .hbm, ⟨2, _⟩ => ⟨S1x2048, .f32⟩
  | .hbm, ⟨3, _⟩ => ⟨S1x2048x11264, .f32⟩
  | .hbm, ⟨4, _⟩ => ⟨S1x5632x2048, .f32⟩
  | .hbm, ⟨5, _⟩ => ⟨S8192x2048, .f32⟩
  | .hbm, ⟨6, _⟩ => ⟨S2048x11264, .f32⟩
  | .hbm, ⟨7, _⟩ => ⟨S2048x11264, .bf16⟩
  | .hbm, ⟨8, _⟩ => ⟨S5632x2048, .f32⟩
  | .hbm, ⟨9, _⟩ => ⟨S5632x2048, .bf16⟩
  | .hbm, ⟨10, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048, .f32⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S512x2048, .bf16⟩
  | .local _ .vmem, ⟨9, _⟩ => ⟨S512x2048, .bf16⟩
  | .local _ .vmem, ⟨10, _⟩ => ⟨S1024x2048, .f32⟩
  | .local _ .vmem, ⟨11, _⟩ => ⟨S1024x2048, .f32⟩
  | .local _ .vmem, ⟨12, _⟩ => ⟨S1024x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c10_i32 : BitVec 32 := 10#32
  let v4 : BitVec 1 := Scalar.cmpi .slt arg1 c10_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c10_i32_3 : BitVec 32 := 10#32
  let v8 : BitVec 1 := Scalar.cmpi .eq arg1 c10_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference2Ideal.lean ====
abbrev S4x2048x2048 : Shape := ⟨3, ![4, 2048, 2048]⟩
abbrev S1x2048 : Shape := ⟨2, ![1, 2048]⟩
abbrev S1x2048x11264 : Shape := ⟨3, ![1, 2048, 11264]⟩
abbrev S1x5632x2048 : Shape := ⟨3, ![1, 5632, 2048]⟩
abbrev S2048 : Shape := ⟨1, ![2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S2048x11264 : Shape := ⟨2, ![2048, 11264]⟩
abbrev S5632x2048 : Shape := ⟨2, ![5632, 2048]⟩
abbrev S4x2048x11264 : Shape := ⟨3, ![4, 2048, 11264]⟩
abbrev S4x2048x5632 : Shape := ⟨3, ![4, 2048, 5632]⟩
abbrev S8192x2048 : Shape := ⟨2, ![8192, 2048]⟩

abbrev nBuf : Space → Nat
  | .hbm => 60
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S1x2048, .f32⟩
  | .hbm, ⟨2, _⟩ => ⟨S1x2048, .f32⟩
  | .hbm, ⟨3, _⟩ => ⟨S1x2048x11264, .f32⟩
  | .hbm, ⟨4, _⟩ => ⟨S1x5632x2048, .f32⟩
  | .hbm, ⟨5, _⟩ => ⟨S2048, .f32⟩
  | .hbm, ⟨6, _⟩ => ⟨S4x2048x2048, .f32⟩
  | .hbm, ⟨7, _⟩ => ⟨S_, .f32⟩
  | .hbm, ⟨8, _⟩ => ⟨S4x2048, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S_, .f32⟩
  | .hbm, ⟨14, _⟩ => ⟨S4x2048x1, .f32⟩
  | .hbm, ⟨15, _⟩ => ⟨S4x2048x1, .f32⟩
  | .hbm, ⟨16, _⟩ => ⟨S4x2048x1, .f32⟩
  | .hbm, ⟨17, _⟩ => ⟨S4x2048x2048, .f32⟩
  | .hbm, ⟨18, _⟩ => ⟨S4x2048x2048, .f32⟩
  | .hbm, ⟨19, _⟩ => ⟨S1x1x2048, .f32⟩
  | .hbm, ⟨20, _⟩ => ⟨S4x2048x2048, .f32⟩
  | .hbm, ⟨21, _⟩ => ⟨S4x2048x2048, .f32⟩
  | .hbm, ⟨22, _⟩ => ⟨S2048x11264, .f32⟩
  | .hbm, ⟨23, _⟩ => ⟨S5632x2048, .f32⟩
  | .hbm, ⟨24, _⟩ => ⟨S4x2048x11264, .f32⟩
  | .hbm, ⟨25, _⟩ => ⟨S4x2048x5632, .f32⟩
  | .hbm, ⟨26, _⟩ => ⟨S4x2048x5632, .f32⟩
  | .hbm, ⟨27, _⟩ => ⟨S4x2048x5632, .f32⟩
  | .hbm, ⟨28, _⟩ => ⟨S4x2048x5632, .f32⟩
  | .hbm, ⟨29, _⟩ => ⟨S_, .f32⟩
  | .hbm, ⟨30, _⟩ => ⟨S4x2048x5632, .f32⟩
  | .hbm, ⟨31, _⟩ => ⟨S4x2048x5632, .f32⟩
  | .hbm, ⟨32, _⟩ => ⟨S_, .f32⟩
  | .hbm, ⟨33, _⟩ => ⟨S4x2048x5632, .f32⟩
  | .hbm, ⟨34, _⟩ => ⟨S4x2048x5632, .f32⟩
  | .hbm, ⟨35, _⟩ => ⟨S4x2048x5632, .f32⟩
  | .hbm, ⟨36, _⟩ => ⟨S4x2048x5632, .f32⟩
  | .hbm, ⟨37, _⟩ => ⟨S4x2048x2048, .f32⟩
  | .hbm, ⟨38, _⟩ => ⟨S2048, .f32⟩
  | .hbm, ⟨39, _⟩ => ⟨S4x2048x2048, .f32⟩
  | .hbm, ⟨40, _⟩ => ⟨S_, .f32⟩
  | .hbm, ⟨41, _⟩ => ⟨S4x2048, .f32⟩
  | .hbm, ⟨42, _⟩ => ⟨S4x2048x1, .f32⟩
  | .hbm, ⟨43, _⟩ => ⟨S_, .f32⟩
  | .hbm, ⟨44, _⟩ => ⟨S4x2048x1, .f32⟩
  | .hbm, ⟨45, _⟩ => ⟨S4x2048x1, .f32⟩
  | .hbm, ⟨46, _⟩ => ⟨S_, .f32⟩
  | .hbm, ⟨47, _⟩ => ⟨S4x2048x1, .f32⟩
  | .hbm, ⟨48, _⟩ => ⟨S4x2048x1, .f32⟩
  | .hbm, ⟨49, _⟩ => ⟨S4x2048x1, .f32⟩
  | .hbm, ⟨50, _⟩ => ⟨S4x2048x2048, .f32⟩
  | .hbm, ⟨51, _⟩ => ⟨S4x2048x2048, .f32⟩
  | .hbm, ⟨52, _⟩ => ⟨S1x1x2048, .f32⟩
  | .hbm, ⟨53, _⟩ => ⟨S4x2048x2048, .f32⟩
  | .hbm, ⟨54, _⟩ => ⟨S4x2048x2048, .f32⟩
  | .hbm, ⟨55, _⟩ => ⟨S_, .f32⟩
  | .hbm, ⟨56, _⟩ => ⟨S4x2048x2048, .f32⟩
  | .hbm, ⟨57, _⟩ => ⟨S4x2048x2048, .f32⟩
  | .hbm, ⟨58, _⟩ => ⟨S4x2048x2048, .f32⟩
  | .hbm, ⟨59, _⟩ => ⟨S8192x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_2 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev main_cst_4 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_5 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩

abbrev nD : Nat := 1
abbrev τ : Topo := Topo.v7x

variable {F : FTy → Type} [FloatOps F]
-- ==== Kernel3.lean ====
abbrev S4x2048x2048 : Shape := ⟨3, ![4, 2048, 2048]⟩
abbrev S1x2048x6656 : Shape := ⟨3, ![1, 2048, 6656]⟩
abbrev S8192x2048 : Shape := ⟨2, ![8192, 2048]⟩
abbrev S2048x6656 : Shape := ⟨2, ![2048, 6656]⟩
abbrev S36x8192x128 : Shape := ⟨3, ![36, 8192, 128]⟩
abbrev S4096x2048 : Shape := ⟨2, ![4096, 2048]⟩
abbrev S2048x512 : Shape := ⟨2, ![2048, 512]⟩
abbrev S4x4096x128 : Shape := ⟨3, ![4, 4096, 128]⟩
abbrev S4096x512 : Shape := ⟨2, ![4096, 512]⟩
abbrev S4096x128 : Shape := ⟨2, ![4096, 128]⟩
abbrev S1x4096x128 : Shape := ⟨3, ![1, 4096, 128]⟩

abbrev nBuf : Space → Nat
  | .hbm => 6
  | .vmem => 6
  | .smem => 0
  | _ => 0

abbrev bufTy : (tb : Table) → Fin (tcTables nBuf tb) → BufTy
  | .hbm, ⟨0, _⟩ => ⟨S4x2048x2048, .f32⟩
  | .hbm, ⟨1, _⟩ => ⟨S1x2048x6656, .f32⟩
  | .hbm, ⟨2, _⟩ => ⟨S8192x2048, .f32⟩
  | .hbm, ⟨3, _⟩ => ⟨S8192x2048, .bf16⟩
  | .hbm, ⟨4, _⟩ => ⟨S2048x6656, .f32⟩
  | .hbm, ⟨5, _⟩ => ⟨S36x8192x128, .bf16⟩
  | .local _ .vmem, ⟨0, _⟩ => ⟨S4096x2048, .bf16⟩
  | .local _ .vmem, ⟨1, _⟩ => ⟨S4096x2048, .bf16⟩
  | .local _ .vmem, ⟨2, _⟩ => ⟨S2048x512, .f32⟩
  | .local _ .vmem, ⟨3, _⟩ => ⟨S2048x512, .f32⟩
  | .local _ .vmem, ⟨4, _⟩ => ⟨S4x4096x128, .bf16⟩
  | .local _ .vmem, ⟨5, _⟩ => ⟨S4x4096x128, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c4_i32 : BitVec 32 := 4#32
  let v1 : BitVec 1 := Scalar.cmpi .sge arg1 c4_i32
  let c4_i32_0 : BitVec 32 := 4#32
  let c0_i32_1 : BitVec 32 := 0#32
  let v2 : BitVec 32 := Scalar.select v1 c4_i32_0 c0_i32_1
  let v3 : BitVec 32 := Scalar.addi v0 v2
  let c0_i32_2 : BitVec 32 := 0#32
  let c0_i32_3 : BitVec 32 := 0#32
  ![c0_i32_2.toNat, v3.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S4096x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S4x2048x2048 : Shape := ⟨3, ![4, 2048, 2048]⟩
abbrev S1x2048x6656 : Shape := ⟨3, ![1, 2048, 6656]⟩
abbrev S2048x6656 : Shape := ⟨2, ![2048, 6656]⟩
abbrev S4x2048x6656 : Shape := ⟨3, ![4, 2048, 6656]⟩
abbrev S4x2048x1024 : Shape := ⟨3, ![4, 2048, 1024]⟩
abbrev S4x2048x1536 : Shape := ⟨3, ![4, 2048, 1536]⟩
abbrev S4x2048x4608 : Shape := ⟨3, ![4, 2048, 4608]⟩
abbrev S8192x36x128 : Shape := ⟨3, ![8192, 36, 128]⟩
abbrev S36x8192x128 : Shape := ⟨3, ![36, 8192, 128]⟩

abbrev nBuf : Space → Nat
  | .hbm => 12
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S1x2048x6656, .f32⟩
  | .hbm, ⟨2, _⟩ => ⟨S2048x6656, .f32⟩
  | .hbm, ⟨3, _⟩ => ⟨S4x2048x6656, .f32⟩
  | .hbm, ⟨4, _⟩ => ⟨S4x2048x1024, .f32⟩
  | .hbm, ⟨5, _⟩ => ⟨S4x2048x1024, .f32⟩
  | .hbm, ⟨6, _⟩ => ⟨S4x2048x1024, .f32⟩
  | .hbm, ⟨7, _⟩ => ⟨S4x2048x1536, .f32⟩
  | .hbm, ⟨8, _⟩ => ⟨S4x2048x4608, .f32⟩
  | .hbm, ⟨9, _⟩ => ⟨S8192x36x128, .f32⟩
  | .hbm, ⟨10, _⟩ => ⟨S36x8192x128, .f32⟩
  | .hbm, ⟨11, _⟩ => ⟨S36x8192x128, .bf16⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== Kernel4.lean ====
abbrev S4x2048x1024 : Shape := ⟨3, ![4, 2048, 1024]⟩
abbrev S4x2048x2048 : Shape := ⟨3, ![4, 2048, 2048]⟩
abbrev S1x2048x2048 : Shape := ⟨3, ![1, 2048, 2048]⟩
abbrev S1x2048 : Shape := ⟨2, ![1, 2048]⟩
abbrev S8192x8x128 : Shape := ⟨3, ![8192, 8, 128]⟩
abbrev S8x8192x128 : Shape := ⟨3, ![8, 8192, 128]⟩
abbrev S8192x2048 : Shape := ⟨2, ![8192, 2048]⟩
abbrev S2048x2048 : Shape := ⟨2, ![2048, 2048]⟩
abbrev S8x512x128 : Shape := ⟨3, ![8, 512, 128]⟩
abbrev S512x2048 : Shape := ⟨2, ![512, 2048]⟩
abbrev S1024x2048 : Shape := ⟨2, ![1024, 2048]⟩
abbrev S1x512x128 : Shape := ⟨3, ![1, 512, 128]⟩
abbrev S512x128 : Shape := ⟨2, ![512, 128]⟩
abbrev S512x1024 : Shape := ⟨2, ![512, 1024]⟩
abbrev S512 : Shape := ⟨1, ![512]⟩
abbrev S512x1 : Shape := ⟨2, ![512, 1]⟩

abbrev nBuf : Space → Nat
  | .hbm => 15
  | .vmem => 11
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x2048, .f32⟩
  | .hbm, ⟨3, _⟩ => ⟨S1x2048x2048, .f32⟩
  | .hbm, ⟨4, _⟩ => ⟨S1x2048, .f32⟩
  | .hbm, ⟨5, _⟩ => ⟨S8192x8x128, .f32⟩
  | .hbm, ⟨6, _⟩ => ⟨S8x8192x128, .f32⟩
  | .hbm, ⟨7, _⟩ => ⟨S8x8192x128, .bf16⟩
  | .hbm, ⟨8, _⟩ => ⟨S8192x8x128, .f32⟩
  | .hbm, ⟨9, _⟩ => ⟨S8x8192x128, .f32⟩
  | .hbm, ⟨10, _⟩ => ⟨S8x8192x128, .bf16⟩
  | .hbm, ⟨11, _⟩ => ⟨S8192x2048, .f32⟩
  | .hbm, ⟨12, _⟩ => ⟨S2048x2048, .f32⟩
  | .hbm, ⟨13, _⟩ => ⟨S2048x2048, .bf16⟩
  | .hbm, ⟨14, _⟩ => ⟨S8192x2048, .f32⟩
  | .local _ .vmem, ⟨0, _⟩ => ⟨S8x512x128, .bf16⟩
  | .local _ .vmem, ⟨1, _⟩ => ⟨S8x512x128, .bf16⟩
  | .local _ .vmem, ⟨2, _⟩ => ⟨S8x512x128, .bf16⟩
  | .local _ .vmem, ⟨3, _⟩ => ⟨S8x512x128, .bf16⟩
  | .local _ .vmem, ⟨4, _⟩ => ⟨S512x2048, .f32⟩
  | .local _ .vmem, ⟨5, _⟩ => ⟨S512x2048, .f32⟩
  | .local _ .vmem, ⟨6, _⟩ => ⟨S1024x2048, .bf16⟩
  | .local _ .vmem, ⟨7, _⟩ => ⟨S1024x2048, .bf16⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S4x2048x1024 : Shape := ⟨3, ![4, 2048, 1024]⟩
abbrev S4x2048x2048 : Shape := ⟨3, ![4, 2048, 2048]⟩
abbrev S1x2048x2048 : Shape := ⟨3, ![1, 2048, 2048]⟩
abbrev S1x2048 : Shape := ⟨2, ![1, 2048]⟩
abbrev S2048x2048 : Shape := ⟨2, ![2048, 2048]⟩
abbrev S2048 : Shape := ⟨1, ![2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S8192x2048 : Shape := ⟨2, ![8192, 2048]⟩

abbrev nBuf : Space → Nat
  | .hbm => 27
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x2048, .f32⟩
  | .hbm, ⟨3, _⟩ => ⟨S1x2048x2048, .f32⟩
  | .hbm, ⟨4, _⟩ => ⟨S1x2048, .f32⟩
  | .hbm, ⟨5, _⟩ => ⟨S4x2048x2048, .f32⟩
  | .hbm, ⟨6, _⟩ => ⟨S2048x2048, .f32⟩
  | .hbm, ⟨7, _⟩ => ⟨S4x2048x2048, .f32⟩
  | .hbm, ⟨8, _⟩ => ⟨S2048, .f32⟩
  | .hbm, ⟨9, _⟩ => ⟨S4x2048x2048, .f32⟩
  | .hbm, ⟨10, _⟩ => ⟨S_, .f32⟩
  | .hbm, ⟨11, _⟩ => ⟨S4x2048, .f32⟩
  | .hbm, ⟨12, _⟩ => ⟨S4x2048x1, .f32⟩
  | .hbm, ⟨13, _⟩ => ⟨S_, .f32⟩
  | .hbm, ⟨14, _⟩ => ⟨S4x2048x1, .f32⟩
  | .hbm, ⟨15, _⟩ => ⟨S4x2048x1, .f32⟩
  | .hbm, ⟨16, _⟩ => ⟨S_, .f32⟩
  | .hbm, ⟨17, _⟩ => ⟨S4x2048x1, .f32⟩
  | .hbm, ⟨18, _⟩ => ⟨S4x2048x1, .f32⟩
  | .hbm, ⟨19, _⟩ => ⟨S4x2048x1, .f32⟩
  | .hbm, ⟨20, _⟩ => ⟨S4x2048x2048, .f32⟩
  | .hbm, ⟨21, _⟩ => ⟨S4x2048x2048, .f32⟩
  | .hbm, ⟨22, _⟩ => ⟨S1x1x2048, .f32⟩
  | .hbm, ⟨23, _⟩ => ⟨S4x2048x2048, .f32⟩
  | .hbm, ⟨24, _⟩ => ⟨S4x2048x2048, .f32⟩
  | .hbm, ⟨25, _⟩ => ⟨S4x2048x2048, .f32⟩
  | .hbm, ⟨26, _⟩ => ⟨S8192x2048, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Kernel5.lean ====
abbrev S4x2048x2048 : Shape := ⟨3, ![4, 2048, 2048]⟩
abbrev S1x2048 : Shape := ⟨2, ![1, 2048]⟩
abbrev S1x2048x11264 : Shape := ⟨3, ![1, 2048, 11264]⟩
abbrev S1x5632x2048 : Shape := ⟨3, ![1, 5632, 2048]⟩
abbrev S1024x2048 : Shape := ⟨2, ![1024, 2048]⟩
abbrev S2048x11264 : Shape := ⟨2, ![2048, 11264]⟩
abbrev S2048x5632 : Shape := ⟨2, ![2048, 5632]⟩
abbrev S2048x22x256 : Shape := ⟨3, ![2048, 22, 256]⟩
abbrev S22x2048x256 : Shape := ⟨3, ![22, 2048, 256]⟩
abbrev S5632x2048 : Shape := ⟨2, ![5632, 2048]⟩
abbrev S22x256x2048 : Shape := ⟨3, ![22, 256, 2048]⟩
abbrev S_ : Shape := ⟨0, ![]⟩
abbrev S7168x2048 : Shape := ⟨2, ![7168, 2048]⟩
abbrev S8192x2048 : Shape := ⟨2, ![8192, 2048]⟩
abbrev S2x2048x256 : Shape := ⟨3, ![2, 2048, 256]⟩
abbrev S2x256x2048 : Shape := ⟨3, ![2, 256, 2048]⟩
abbrev S1x2048x256 : Shape := ⟨3, ![1, 2048, 256]⟩
abbrev S2048x256 : Shape := ⟨2, ![2048, 256]⟩
abbrev S2048x512 : Shape := ⟨2, ![2048, 512]⟩
abbrev S1x256x2048 : Shape := ⟨3, ![1, 256, 2048]⟩
abbrev S256x2048 : Shape := ⟨2, ![256, 2048]⟩
abbrev S512x2048 : Shape := ⟨2, ![512, 2048]⟩
abbrev S32x2048 : Shape := ⟨2, ![32, 2048]⟩
abbrev S32 : Shape := ⟨1, ![32]⟩
abbrev S32x1 : Shape := ⟨2, ![32, 1]⟩
abbrev S256x512 : Shape := ⟨2, ![256, 512]⟩
abbrev S1024x512 : Shape := ⟨2, ![1024, 512]⟩

abbrev nBuf : Space → Nat
  | .hbm => 27
  | .vmem => 15
  | .smem => 0
  | _ => 0

abbrev bufTy : (tb : Table) → Fin (tcTables nBuf tb) → BufTy
  | .hbm, ⟨0, _⟩ => ⟨S4x2048x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S1x2048x11264, .f32⟩
  | .hbm, ⟨5, _⟩ => ⟨S1x5632x2048, .f32⟩
  | .hbm, ⟨6, _⟩ => ⟨S1024x2048, .f32⟩
  | .hbm, ⟨7, _⟩ => ⟨S1024x2048, .f32⟩
  | .hbm, ⟨8, _⟩ => ⟨S2048x11264, .f32⟩
  | .hbm, ⟨9, _⟩ => ⟨S2048x11264, .bf16⟩
  | .hbm, ⟨10, _⟩ => ⟨S2048x5632, .bf16⟩
  | .hbm, ⟨11, _⟩ => ⟨S2048x22x256, .bf16⟩
  | .hbm, ⟨12, _⟩ => ⟨S22x2048x256, .bf16⟩
  | .hbm, ⟨13, _⟩ => ⟨S2048x5632, .bf16⟩
  | .hbm, ⟨14, _⟩ => ⟨S2048x22x256, .bf16⟩
  | .hbm, ⟨15, _⟩ => ⟨S22x2048x256, .bf16⟩
  | .hbm, ⟨16, _⟩ => ⟨S5632x2048, .f32⟩
  | .hbm, ⟨17, _⟩ => ⟨S5632x2048, .bf16⟩
  | .hbm, ⟨18, _⟩ => ⟨S22x256x2048, .bf16⟩
  | .hbm, ⟨19, _⟩ => ⟨S_, .f32⟩
  | .hbm, ⟨20, _⟩ => ⟨S7168x2048, .f32⟩
  | .hbm, ⟨21, _⟩ => ⟨S8192x2048, .f32⟩
  | .hbm, ⟨22, _⟩ => ⟨S8192x2048, .f32⟩
  | .hbm, ⟨23, _⟩ => ⟨S8192x2048, .bf16⟩
  | .hbm, ⟨24, _⟩ => ⟨S8192x2048, .f32⟩
  | .hbm, ⟨25, _⟩ => ⟨S8192x2048, .f32⟩
  | .hbm, ⟨26, _⟩ => ⟨S8192x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S2x2048x256, .bf16⟩
  | .local _ .vmem, ⟨6, _⟩ => ⟨S2x2048x256, .bf16⟩
  | .local _ .vmem, ⟨7, _⟩ => ⟨S2x2048x256, .bf16⟩
  | .local _ .vmem, ⟨8, _⟩ => ⟨S2x2048x256, .bf16⟩
  | .local _ .vmem, ⟨9, _⟩ => ⟨S2x256x2048, .bf16⟩
  | .local _ .vmem, ⟨10, _⟩ => ⟨S2x256x2048, .bf16⟩
  | .local _ .vmem, ⟨11, _⟩ => ⟨S1024x2048, .f32⟩
  | .local _ .vmem, ⟨12, _⟩ => ⟨S1024x2048, .f32⟩
  | .local _ .vmem, ⟨13, _⟩ => ⟨S1024x2048, .bf16⟩
  | .local _ .vmem, ⟨14, _⟩ => ⟨S1024x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16_0 : Ref sig .tc := ⟨.hbm, 25, rfl⟩
abbrev main_v16_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![7, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c10_i32 : BitVec 32 := 10#32
  let v4 : BitVec 1 := Scalar.cmpi .slt arg1 c10_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c10_i32_3 : BitVec 32 := 10#32
  let v8 : BitVec 1 := Scalar.cmpi .eq arg1 c10_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2x2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2x2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2x256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference5Ideal.lean ====
abbrev S4x2048x2048 : Shape := ⟨3, ![4, 2048, 2048]⟩
abbrev S1x2048 : Shape := ⟨2, ![1, 2048]⟩
abbrev S1x2048x11264 : Shape := ⟨3, ![1, 2048, 11264]⟩
abbrev S1x5632x2048 : Shape := ⟨3, ![1, 5632, 2048]⟩
abbrev S1024x2048 : Shape := ⟨2, ![1024, 2048]⟩
abbrev S2048 : Shape := ⟨1, ![2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S2048x11264 : Shape := ⟨2, ![2048, 11264]⟩
abbrev S4x2048x11264 : Shape := ⟨3, ![4, 2048, 11264]⟩
abbrev S4x2048x5632 : Shape := ⟨3, ![4, 2048, 5632]⟩
abbrev S5632x2048 : Shape := ⟨2, ![5632, 2048]⟩
abbrev S8192x2048 : Shape := ⟨2, ![8192, 2048]⟩
abbrev S7168x2048 : Shape := ⟨2, ![7168, 2048]⟩

abbrev nBuf : Space → Nat
  | .hbm => 86
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S1x2048x11264, .f32⟩
  | .hbm, ⟨5, _⟩ => ⟨S1x5632x2048, .f32⟩
  | .hbm, ⟨6, _⟩ => ⟨S1024x2048, .f32⟩
  | .hbm, ⟨7, _⟩ => ⟨S1024x2048, .f32⟩
  | .hbm, ⟨8, _⟩ => ⟨S2048, .f32⟩
  | .hbm, ⟨9, _⟩ => ⟨S4x2048x2048, .f32⟩
  | .hbm, ⟨10, _⟩ => ⟨S_, .f32⟩
  | .hbm, ⟨11, _⟩ => ⟨S4x2048, .f32⟩
  | .hbm, ⟨12, _⟩ => ⟨S4x2048x1, .f32⟩
  | .hbm, ⟨13, _⟩ => ⟨S_, .f32⟩
  | .hbm, ⟨14, _⟩ => ⟨S4x2048x1, .f32⟩
  | .hbm, ⟨15, _⟩ => ⟨S4x2048x1, .f32⟩
  | .hbm, ⟨16, _⟩ => ⟨S_, .f32⟩
  | .hbm, ⟨17, _⟩ => ⟨S4x2048x1, .f32⟩
  | .hbm, ⟨18, _⟩ => ⟨S4x2048x1, .f32⟩
  | .hbm, ⟨19, _⟩ => ⟨S4x2048x1, .f32⟩
  | .hbm, ⟨20, _⟩ => ⟨S4x2048x2048, .f32⟩
  | .hbm, ⟨21, _⟩ => ⟨S4x2048x2048, .f32⟩
  | .hbm, ⟨22, _⟩ => ⟨S1x1x2048, .f32⟩
  | .hbm, ⟨23, _⟩ => ⟨S4x2048x2048, .f32⟩
  | .hbm, ⟨24, _⟩ => ⟨S4x2048x2048, .f32⟩
  | .hbm, ⟨25, _⟩ => ⟨S2048x11264, .f32⟩
  | .hbm, ⟨26, _⟩ => ⟨S4x2048x11264, .f32⟩
  | .hbm, ⟨27, _⟩ => ⟨S4x2048x5632, .f32⟩
  | .hbm, ⟨28, _⟩ => ⟨S4x2048x5632, .f32⟩
  | .hbm, ⟨29, _⟩ => ⟨S4x2048x5632, .f32⟩
  | .hbm, ⟨30, _⟩ => ⟨S4x2048x5632, .f32⟩
  | .hbm, ⟨31, _⟩ => ⟨S_, .f32⟩
  | .hbm, ⟨32, _⟩ => ⟨S4x2048x5632, .f32⟩
  | .hbm, ⟨33, _⟩ => ⟨S4x2048x5632, .f32⟩
  | .hbm, ⟨34, _⟩ => ⟨S_, .f32⟩
  | .hbm, ⟨35, _⟩ => ⟨S4x2048x5632, .f32⟩
  | .hbm, ⟨36, _⟩ => ⟨S4x2048x5632, .f32⟩
  | .hbm, ⟨37, _⟩ => ⟨S4x2048x5632, .f32⟩
  | .hbm, ⟨38, _⟩ => ⟨S4x2048x5632, .f32⟩
  | .hbm, ⟨39, _⟩ => ⟨S5632x2048, .f32⟩
  | .hbm, ⟨40, _⟩ => ⟨S4x2048x2048, .f32⟩
  | .hbm, ⟨41, _⟩ => ⟨S2048, .f32⟩
  | .hbm, ⟨42, _⟩ => ⟨S4x2048x2048, .f32⟩
  | .hbm, ⟨43, _⟩ => ⟨S_, .f32⟩
  | .hbm, ⟨44, _⟩ => ⟨S4x2048, .f32⟩
  | .hbm, ⟨45, _⟩ => ⟨S4x2048x1, .f32⟩
  | .hbm, ⟨46, _⟩ => ⟨S_, .f32⟩
  | .hbm, ⟨47, _⟩ => ⟨S4x2048x1, .f32⟩
  | .hbm, ⟨48, _⟩ => ⟨S4x2048x1, .f32⟩
  | .hbm, ⟨49, _⟩ => ⟨S_, .f32⟩
  | .hbm, ⟨50, _⟩ => ⟨S4x2048x1, .f32⟩
  | .hbm, ⟨51, _⟩ => ⟨S4x2048x1, .f32⟩
  | .hbm, ⟨52, _⟩ => ⟨S4x2048x1, .f32⟩
  | .hbm, ⟨53, _⟩ => ⟨S4x2048x2048, .f32⟩
  | .hbm, ⟨54, _⟩ => ⟨S4x2048x2048, .f32⟩
  | .hbm, ⟨55, _⟩ => ⟨S1x1x2048, .f32⟩
  | .hbm, ⟨56, _⟩ => ⟨S4x2048x2048, .f32⟩
  | .hbm, ⟨57, _⟩ => ⟨S4x2048x2048, .f32⟩
  | .hbm, ⟨58, _⟩ => ⟨S_, .f32⟩
  | .hbm, ⟨59, _⟩ => ⟨S4x2048x2048, .f32⟩
  | .hbm, ⟨60, _⟩ => ⟨S4x2048x2048, .f32⟩
  | .hbm, ⟨61, _⟩ => ⟨S4x2048x2048, .f32⟩
  | .hbm, ⟨62, _⟩ => ⟨S2048, .f32⟩
  | .hbm, ⟨63, _⟩ => ⟨S4x2048x2048, .f32⟩
  | .hbm, ⟨64, _⟩ => ⟨S_, .f32⟩
  | .hbm, ⟨65, _⟩ => ⟨S4x2048, .f32⟩
  | .hbm, ⟨66, _⟩ => ⟨S4x2048x1, .f32⟩
  | .hbm, ⟨67, _⟩ => ⟨S_, .f32⟩
  | .hbm, ⟨68, _⟩ => ⟨S4x2048x1, .f32⟩
  | .hbm, ⟨69, _⟩ => ⟨S4x2048x1, .f32⟩
  | .hbm, ⟨70, _⟩ => ⟨S_, .f32⟩
  | .hbm, ⟨71, _⟩ => ⟨S4x2048x1, .f32⟩
  | .hbm, ⟨72, _⟩ => ⟨S4x2048x1, .f32⟩
  | .hbm, ⟨73, _⟩ => ⟨S4x2048x1, .f32⟩
  | .hbm, ⟨74, _⟩ => ⟨S4x2048x2048, .f32⟩
  | .hbm, ⟨75, _⟩ => ⟨S4x2048x2048, .f32⟩
  | .hbm, ⟨76, _⟩ => ⟨S1x1x2048, .f32⟩
  | .hbm, ⟨77, _⟩ => ⟨S4x2048x2048, .f32⟩
  | .hbm, ⟨78, _⟩ => ⟨S4x2048x2048, .f32⟩
  | .hbm, ⟨79, _⟩ => ⟨S8192x2048, .f32⟩
  | .hbm, ⟨80, _⟩ => ⟨S7168x2048, .f32⟩
  | .hbm, ⟨81, _⟩ => ⟨S8192x2048, .f32⟩
  | .hbm, ⟨82, _⟩ => ⟨S8192x2048, .f32⟩
  | .hbm, ⟨83, _⟩ => ⟨S7168x2048, .f32⟩
  | .hbm, ⟨84, _⟩ => ⟨S8192x2048, .f32⟩
  | .hbm, ⟨85, _⟩ => ⟨S8192x2048, .bf16⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_2 : Ref sig .tc := ⟨.hbm, 43, rfl⟩
abbrev main_v24 : Ref sig .tc := ⟨.hbm, 44, rfl⟩
abbrev main_v25 : Ref sig .tc := ⟨.hbm, 45, rfl⟩
abbrev main_cst_3 : Ref sig .tc := ⟨.hbm, 46, rfl⟩
abbrev main_v26 : Ref sig .tc := ⟨.hbm, 47, rfl⟩
abbrev main_v27 : Ref sig .tc := ⟨.hbm, 48, rfl⟩
abbrev main_cst_4 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_5 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_6 : Ref sig .tc := ⟨.hbm, 64, rfl⟩
abbrev main_v41 : Ref sig .tc := ⟨.hbm, 65, rfl⟩
abbrev main_v42 : Ref sig .tc := ⟨.hbm, 66, rfl⟩
abbrev main_cst_7 : Ref sig .tc := ⟨.hbm, 67, rfl⟩
abbrev main_v43 : Ref sig .tc := ⟨.hbm, 68, rfl⟩
abbrev main_v44 : Ref sig .tc := ⟨.hbm, 69, rfl⟩
abbrev main_cst_8 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩

abbrev nD : Nat := 1
abbrev τ : Topo := Topo.v7x

variable {F : FTy → Type} [FloatOps F]
-- ==== Kernel6.lean ====
abbrev S4x2048x2048 : Shape := ⟨3, ![4, 2048, 2048]⟩
abbrev S1x2048 : Shape := ⟨2, ![1, 2048]⟩
abbrev S1x2048x11264 : Shape := ⟨3, ![1, 2048, 11264]⟩
abbrev S1x5632x2048 : Shape := ⟨3, ![1, 5632, 2048]⟩
abbrev S8192x2048 : Shape := ⟨2, ![8192, 2048]⟩
abbrev S2048x11264 : Shape := ⟨2, ![2048, 11264]⟩
abbrev S5632x2048 : Shape := ⟨2, ![5632, 2048]⟩
abbrev S22x2048x256 : Shape := ⟨3, ![22, 2048, 256]⟩
abbrev S22x256x2048 : Shape := ⟨3, ![22, 256, 2048]⟩
abbrev S1024x2048 : Shape := ⟨2, ![1024, 2048]⟩
abbrev S2048x256 : Shape := ⟨2, ![2048, 256]⟩
abbrev S256x2048 : Shape := ⟨2, ![256, 2048]⟩
abbrev S1x2048x256 : Shape := ⟨3, ![1, 2048, 256]⟩
abbrev S1x256x2048 : Shape := ⟨3, ![1, 256, 2048]⟩
abbrev S32x2048 : Shape := ⟨2, ![32, 2048]⟩
abbrev S32 : Shape := ⟨1, ![32]⟩
abbrev S32x1 : Shape := ⟨2, ![32, 1]⟩
abbrev S256x256 : Shape := ⟨2, ![256, 256]⟩
abbrev S1024x256 : Shape := ⟨2, ![1024, 256]⟩

abbrev nBuf : Space → Nat
  | .hbm => 16
  | .vmem => 18
  | .smem => 0
  | _ => 0

abbrev bufTy : (tb : Table) → Fin (tcTables nBuf tb) → BufTy
  | .hbm, ⟨0, _⟩ => ⟨S4x2048x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S1x2048x11264, .f32⟩
  | .hbm, ⟨5, _⟩ => ⟨S1x5632x2048, .f32⟩
  | .hbm, ⟨6, _⟩ => ⟨S8192x2048, .f32⟩
  | .hbm, ⟨7, _⟩ => ⟨S2048x11264, .f32⟩
  | .hbm, ⟨8, _⟩ => ⟨S5632x2048, .f32⟩
  | .hbm, ⟨9, _⟩ => ⟨S8192x2048, .f32⟩
  | .hbm, ⟨10, _⟩ => ⟨S8192x2048, .bf16⟩
  | .hbm, ⟨11, _⟩ => ⟨S22x2048x256, .bf16⟩
  | .hbm, ⟨12, _⟩ => ⟨S22x2048x256, .bf16⟩
  | .hbm, ⟨13, _⟩ => ⟨S22x256x2048, .bf16⟩
  | .hbm, ⟨14, _⟩ => ⟨S1024x2048, .f32⟩
  | .hbm, ⟨15, _⟩ => ⟨S1024x2048, .bf16⟩
  | .local _ .vmem, ⟨0, _⟩ => ⟨S1024x2048, .f32⟩
  | .local _ .vmem, ⟨1, _⟩ => ⟨S1x2048, .f32⟩
  | .local _ .vmem, ⟨2, _⟩ => ⟨S1x2048, .f32⟩
  | .local _ .vmem, ⟨3, _⟩ => ⟨S1x2048, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S256x2048, .f32⟩
  | .local _ .vmem, ⟨9, _⟩ => ⟨S256x2048, .f32⟩
  | .local _ .vmem, ⟨10, _⟩ => ⟨S1024x2048, .f32⟩
  | .local _ .vmem, ⟨11, _⟩ => ⟨S1024x2048, .bf16⟩
  | .local _ .vmem, ⟨12, _⟩ => ⟨S1x2048x256, .bf16⟩
  | .local _ .vmem, ⟨13, _⟩ => ⟨S1x2048x256, .bf16⟩
  | .local _ .vmem, ⟨14, _⟩ => ⟨S1x2048x256, .bf16⟩
  | .local _ .vmem, ⟨15, _⟩ => ⟨S1x2048x256, .bf16⟩
  | .local _ .vmem, ⟨16, _⟩ => ⟨S1x256x2048, .bf16⟩
  | .local _ .vmem, ⟨17, _⟩ => ⟨S1x256x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev main_v4 : Ref sig .tc := ⟨.hbm, 14, rfl⟩
abbrev main_v5 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨2, ![1, 22], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c21_i32 : BitVec 32 := 21#32
  let v4 : BitVec 1 := Scalar.cmpi .slt arg1 c21_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c21_i32_3 : BitVec 32 := 21#32
  let v8 : BitVec 1 := Scalar.cmpi .eq arg1 c21_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi arg1 c22_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1024x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x2048x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x2048x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]
-- ==== Reference6Ideal.lean ====
abbrev S4x2048x2048 : Shape := ⟨3, ![4, 2048, 2048]⟩
abbrev S1x2048 : Shape := ⟨2, ![1, 2048]⟩
abbrev S1x2048x11264 : Shape := ⟨3, ![1, 2048, 11264]⟩
abbrev S1x5632x2048 : Shape := ⟨3, ![1, 5632, 2048]⟩
abbrev S2048 : Shape := ⟨1, ![2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S2048x11264 : Shape := ⟨2, ![2048, 11264]⟩
abbrev S4x2048x11264 : Shape := ⟨3, ![4, 2048, 11264]⟩
abbrev S4x2048x5632 : Shape := ⟨3, ![4, 2048, 5632]⟩
abbrev S5632x2048 : Shape := ⟨2, ![5632, 2048]⟩
abbrev S2048x5632 : Shape := ⟨2, ![2048, 5632]⟩
abbrev S8192x2048 : Shape := ⟨2, ![8192, 2048]⟩
abbrev S1024x2048 : Shape := ⟨2, ![1024, 2048]⟩
abbrev S2048x22x256 : Shape := ⟨3, ![2048, 22, 256]⟩
abbrev S22x2048x256 : Shape := ⟨3, ![22, 2048, 256]⟩
abbrev S22x256x2048 : Shape := ⟨3, ![22, 256, 2048]⟩

abbrev nBuf : Space → Nat
  | .hbm => 94
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S1x2048x11264, .f32⟩
  | .hbm, ⟨5, _⟩ => ⟨S1x5632x2048, .f32⟩
  | .hbm, ⟨6, _⟩ => ⟨S2048, .f32⟩
  | .hbm, ⟨7, _⟩ => ⟨S4x2048x2048, .f32⟩
  | .hbm, ⟨8, _⟩ => ⟨S_, .f32⟩
  | .hbm, ⟨9, _⟩ => ⟨S4x2048, .f32⟩
  | .hbm, ⟨10, _⟩ => ⟨S4x2048x1, .f32⟩
  | .hbm, ⟨11, _⟩ => ⟨S_, .f32⟩
  | .hbm, ⟨12, _⟩ => ⟨S4x2048x1, .f32⟩
  | .hbm, ⟨13, _⟩ => ⟨S4x2048x1, .f32⟩
  | .hbm, ⟨14, _⟩ => ⟨S_, .f32⟩
  | .hbm, ⟨15, _⟩ => ⟨S4x2048x1, .f32⟩
  | .hbm, ⟨16, _⟩ => ⟨S4x2048x1, .f32⟩
  | .hbm, ⟨17, _⟩ => ⟨S4x2048x1, .f32⟩
  | .hbm, ⟨18, _⟩ => ⟨S4x2048x2048, .f32⟩
  | .hbm, ⟨19, _⟩ => ⟨S4x2048x2048, .f32⟩
  | .hbm, ⟨20, _⟩ => ⟨S1x1x2048, .f32⟩
  | .hbm, ⟨21, _⟩ => ⟨S4x2048x2048, .f32⟩
  | .hbm, ⟨22, _⟩ => ⟨S4x2048x2048, .f32⟩
  | .hbm, ⟨23, _⟩ => ⟨S2048x11264, .f32⟩
  | .hbm, ⟨24, _⟩ => ⟨S4x2048x11264, .f32⟩
  | .hbm, ⟨25, _⟩ => ⟨S4x2048x5632, .f32⟩
  | .hbm, ⟨26, _⟩ => ⟨S4x2048x5632, .f32⟩
  | .hbm, ⟨27, _⟩ => ⟨S4x2048x5632, .f32⟩
  | .hbm, ⟨28, _⟩ => ⟨S4x2048x5632, .f32⟩
  | .hbm, ⟨29, _⟩ => ⟨S_, .f32⟩
  | .hbm, ⟨30, _⟩ => ⟨S4x2048x5632, .f32⟩
  | .hbm, ⟨31, _⟩ => ⟨S4x2048x5632, .f32⟩
  | .hbm, ⟨32, _⟩ => ⟨S_, .f32⟩
  | .hbm, ⟨33, _⟩ => ⟨S4x2048x5632, .f32⟩
  | .hbm, ⟨34, _⟩ => ⟨S4x2048x5632, .f32⟩
  | .hbm, ⟨35, _⟩ => ⟨S4x2048x5632, .f32⟩
  | .hbm, ⟨36, _⟩ => ⟨S4x2048x5632, .f32⟩
  | .hbm, ⟨37, _⟩ => ⟨S5632x2048, .f32⟩
  | .hbm, ⟨38, _⟩ => ⟨S4x2048x2048, .f32⟩
  | .hbm, ⟨39, _⟩ => ⟨S2048, .f32⟩
  | .hbm, ⟨40, _⟩ => ⟨S4x2048x2048, .f32⟩
  | .hbm, ⟨41, _⟩ => ⟨S_, .f32⟩
  | .hbm, ⟨42, _⟩ => ⟨S4x2048, .f32⟩
  | .hbm, ⟨43, _⟩ => ⟨S4x2048x1, .f32⟩
  | .hbm, ⟨44, _⟩ => ⟨S_, .f32⟩
  | .hbm, ⟨45, _⟩ => ⟨S4x2048x1, .f32⟩
  | .hbm, ⟨46, _⟩ => ⟨S4x2048x1, .f32⟩
  | .hbm, ⟨47, _⟩ => ⟨S_, .f32⟩
  | .hbm, ⟨48, _⟩ => ⟨S4x2048x1, .f32⟩
  | .hbm, ⟨49, _⟩ => ⟨S4x2048x1, .f32⟩
  | .hbm, ⟨50, _⟩ => ⟨S4x2048x1, .f32⟩
  | .hbm, ⟨51, _⟩ => ⟨S4x2048x2048, .f32⟩
  | .hbm, ⟨52, _⟩ => ⟨S4x2048x2048, .f32⟩
  | .hbm, ⟨53, _⟩ => ⟨S1x1x2048, .f32⟩
  | .hbm, ⟨54, _⟩ => ⟨S4x2048x2048, .f32⟩
  | .hbm, ⟨55, _⟩ => ⟨S4x2048x2048, .f32⟩
  | .hbm, ⟨56, _⟩ => ⟨S_, .f32⟩
  | .hbm, ⟨57, _⟩ => ⟨S4x2048x2048, .f32⟩
  | .hbm, ⟨58, _⟩ => ⟨S4x2048x2048, .f32⟩
  | .hbm, ⟨59, _⟩ => ⟨S4x2048x2048, .f32⟩
  | .hbm, ⟨60, _⟩ => ⟨S2048, .f32⟩
  | .hbm, ⟨61, _⟩ => ⟨S4x2048x2048, .f32⟩
  | .hbm, ⟨62, _⟩ => ⟨S_, .f32⟩
  | .hbm, ⟨63, _⟩ => ⟨S4x2048, .f32⟩
  | .hbm, ⟨64, _⟩ => ⟨S4x2048x1, .f32⟩
  | .hbm, ⟨65, _⟩ => ⟨S_, .f32⟩
  | .hbm, ⟨66, _⟩ => ⟨S4x2048x1, .f32⟩
  | .hbm, ⟨67, _⟩ => ⟨S4x2048x1, .f32⟩
  | .hbm, ⟨68, _⟩ => ⟨S_, .f32⟩
  | .hbm, ⟨69, _⟩ => ⟨S4x2048x1, .f32⟩
  | .hbm, ⟨70, _⟩ => ⟨S4x2048x1, .f32⟩
  | .hbm, ⟨71, _⟩ => ⟨S4x2048x1, .f32⟩
  | .hbm, ⟨72, _⟩ => ⟨S4x2048x2048, .f32⟩
  | .hbm, ⟨73, _⟩ => ⟨S4x2048x2048, .f32⟩
  | .hbm, ⟨74, _⟩ => ⟨S1x1x2048, .f32⟩
  | .hbm, ⟨75, _⟩ => ⟨S4x2048x2048, .f32⟩
  | .hbm, ⟨76, _⟩ => ⟨S4x2048x2048, .f32⟩
  | .hbm, ⟨77, _⟩ => ⟨S2048x11264, .f32⟩
  | .hbm, ⟨78, _⟩ => ⟨S2048x5632, .f32⟩
  | .hbm, ⟨79, _⟩ => ⟨S2048x5632, .f32⟩
  | .hbm, ⟨80, _⟩ => ⟨S8192x2048, .f32⟩
  | .hbm, ⟨81, _⟩ => ⟨S1024x2048, .f32⟩
  | .hbm, ⟨82, _⟩ => ⟨S8192x2048, .f32⟩
  | .hbm, ⟨83, _⟩ => ⟨S1024x2048, .f32⟩
  | .hbm, ⟨84, _⟩ => ⟨S1024x2048, .bf16⟩
  | .hbm, ⟨85, _⟩ => ⟨S2048x22x256, .f32⟩
  | .hbm, ⟨86, _⟩ => ⟨S22x2048x256, .f32⟩
  | .hbm, ⟨87, _⟩ => ⟨S22x2048x256, .bf16⟩
  | .hbm, ⟨88, _⟩ => ⟨S2048x22x256, .f32⟩
  | .hbm, ⟨89, _⟩ => ⟨S22x2048x256, .f32⟩
  | .hbm, ⟨90, _⟩ => ⟨S22x2048x256, .bf16⟩
  | .hbm, ⟨91, _⟩ => ⟨S5632x2048, .f32⟩
  | .hbm, ⟨92, _⟩ => ⟨S22x256x2048, .f32⟩
  | .hbm, ⟨93, _⟩ => ⟨S22x256x2048, .bf16⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_2 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_5 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_6 : Ref sig .tc := ⟨.hbm, 62, rfl⟩
abbrev main_v41 : Ref sig .tc := ⟨.hbm, 63, rfl⟩
abbrev main_v42 : Ref sig .tc := ⟨.hbm, 64, rfl⟩
abbrev main_cst_7 : Ref sig .tc := ⟨.hbm, 65, rfl⟩
abbrev main_v43 : Ref sig .tc := ⟨.hbm, 66, rfl⟩
abbrev main_v44 : Ref sig .tc := ⟨.hbm, 67, rfl⟩
abbrev main_cst_8 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩

abbrev nD : Nat := 1
abbrev τ : Topo := Topo.v7x

variable {F : FTy → Type} [FloatOps F]
-- ==== Proof.RestFirst.lean ====
module

public import proofs.«01_k».proof.Proof.Gen.Kernel5Ideal.Frame
public import proofs.«01_k».proof.Proof.Gen.Kernel5Ideal.Skeleton
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.Kernel5Ideal.Rest

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg2 : Memref sig .tc .vmem S1024x2048 .f32) (harg2 : arg2.IsWhole)
  (arg3 : Memref sig .tc .vmem S1x2048 .f32) (harg3 : arg3.IsWhole)
  (arg4 : Memref sig .tc .vmem S1x2048 .f32) (harg4 : arg4.IsWhole)
  (arg5 : Memref sig .tc .vmem S1x2048 .f32) (harg5 : arg5.IsWhole)
  (arg6 : Memref sig .tc .vmem S2x2048x256 .bf16) (harg6 : arg6.IsWhole)
  (arg7 : Memref sig .tc .vmem S2x2048x256 .bf16) (harg7 : arg7.IsWhole)
  (arg8 : Memref sig .tc .vmem S2x256x2048 .bf16) (harg8 : arg8.IsWhole)
  (arg11 : Memref sig .tc .vmem S1024x2048 .f32) (harg11 : arg11.IsWhole)
  (arg12 : Memref sig .tc .vmem S1024x2048 .bf16) (harg12 : arg12.IsWhole)
  (x0 : Vec F S1024x2048 .f32) (x1 : Vec F S1x2048 .f32) (x2 : Vec F S1x2048 .f32) (x3 : Vec F S1x2048 .f32) (x4 : Vec F S2x2048x256 .bf16) (x5 : Vec F S2x2048x256 .bf16) (x6 : Vec F S2x256x2048 .bf16)

set_option maxHeartbeats 1000000 in
/-- The first point of a tile of rows: nothing the two results hold is read. What its stores leave in each, newest first, is
found by running the body. -/
noncomputable def firstRun (hc0 : k0_cond1 i = 1#1) (hc1 : ¬k0_cond2 i = 1#1) (hc2 : ¬k0_cond3 i = 1#1) :
    Σ' (L7 : List (View.Piece (Elt F) S1024x2048 .f32)), { L8 : List (View.Piece (Elt F) S1024x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
          ∗ (∃ d, owns (c : Thread nD τ) arg11 fullShare d) ∗ (∃ d, owns (c : Thread nD τ) arg12 fullShare d)
          ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ (∃ f, arg11.view.loc (c : Thread nD τ) ↦[arg11.view.set]{fullShare} arg11.view.writes (Elt F) f L7) ∗ (∃ f, arg12.view.loc (c : Thread nD τ) ↦[arg12.view.set]{fullShare} arg12.view.writes (Elt F) f L8)) -∗ K ⟨⟩))
        ⊢ wp frame (wpE (defs₀ (F := F)) Variants.none c none) E (cc0_ffn_rest i arg2 harg2 arg3 harg3 arg4 harg4 arg5 harg5 arg6 harg6 arg7 harg7 arg8 harg8
            (Memref.whole main_v12) (Memref.isWhole_whole _) (Memref.whole main_v14) (Memref.isWhole_whole _) arg11 harg11 arg12 harg12) K } := by
  refine ⟨?_, ?_, fun E K => ?run⟩
  case run =>
    simp only [cc0_ffn_rest_eq_skeleton]; unfold cc0_ffn_rest_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    iexists _; iexact H8

end Cert.Kernel5Ideal.Rest

end
-- ==== Proof.RestMid.lean ====
module

public import proofs.«01_k».proof.Proof.RestFirst

@[expose] public section

set_option maxRecDepth 16384

noncomputable section

namespace Cert.Kernel5Ideal.Rest

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg2 : Memref sig .tc .vmem S1024x2048 .f32) (harg2 : arg2.IsWhole)
  (arg3 : Memref sig .tc .vmem S1x2048 .f32) (harg3 : arg3.IsWhole)
  (arg4 : Memref sig .tc .vmem S1x2048 .f32) (harg4 : arg4.IsWhole)
  (arg5 : Memref sig .tc .vmem S1x2048 .f32) (harg5 : arg5.IsWhole)
  (arg6 : Memref sig .tc .vmem S2x2048x256 .bf16) (harg6 : arg6.IsWhole)
  (arg7 : Memref sig .tc .vmem S2x2048x256 .bf16) (harg7 : arg7.IsWhole)
  (arg8 : Memref sig .tc .vmem S2x256x2048 .bf16) (harg8 : arg8.IsWhole)
  (arg11 : Memref sig .tc .vmem S1024x2048 .f32) (harg11 : arg11.IsWhole)
  (arg12 : Memref sig .tc .vmem S1024x2048 .bf16) (harg12 : arg12.IsWhole)
  (x0 : Vec F S1024x2048 .f32) (x1 : Vec F S1x2048 .f32) (x2 : Vec F S1x2048 .f32) (x3 : Vec F S1x2048 .f32) (x4 : Vec F S2x2048x256 .bf16) (x5 : Vec F S2x2048x256 .bf16) (x6 : Vec F S2x256x2048 .bf16)

set_option maxHeartbeats 1000000 in
/-- A point in the middle: the contribution is added to the first result; the second, which holds the normed rows, is read and
handed back. -/
noncomputable def midRun (hc0 : ¬k0_cond1 i = 1#1) (hc1 : k0_cond2 i = 1#1) (hc2 : ¬k0_cond3 i = 1#1)
    (xo7 : Vec F S1024x2048 .f32) (xo8 : Vec F S1024x2048 .bf16) :
    { L7 : List (View.Piece (Elt F) S1024x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
          ∗ owns (c : Thread nD τ) arg11 fullShare xo7 ∗ owns (c : Thread nD τ) arg12 fullShare xo8
          ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ (∃ f, arg11.view.loc (c : Thread nD τ) ↦[arg11.view.set]{fullShare} arg11.view.writes (Elt F) f L7) ∗ owns (c : Thread nD τ) arg12 fullShare xo8) -∗ K ⟨⟩))
        ⊢ wp frame (wpE (defs₀ (F := F)) Variants.none c none) E (cc0_ffn_rest i arg2 harg2 arg3 harg3 arg4 harg4 arg5 harg5 arg6 harg6 arg7 harg7 arg8 harg8
            (Memref.whole main_v12) (Memref.isWhole_whole _) (Memref.whole main_v14) (Memref.isWhole_whole _) arg11 harg11 arg12 harg12) K } := by
  refine ⟨?_, fun E K => ?run⟩
  case run =>
    simp only [cc0_ffn_rest_eq_skeleton]; unfold cc0_ffn_rest_skel
    simp only [k0_part17_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg11.eq_unread hf7
    obtain rfl := harg12.eq_unread hf8
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    iexists _; isplitr; · ipureintro; exact harg12.read_unread _
    iexact H8

end Cert.Kernel5Ideal.Rest

end
-- ==== Proof.RestLast.lean ====
module

public import proofs.«01_k».proof.Proof.RestMid

@[expose] public section

set_option maxRecDepth 16384

noncomputable section

namespace Cert.Kernel5Ideal.Rest

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg2 : Memref sig .tc .vmem S1024x2048 .f32) (harg2 : arg2.IsWhole)
  (arg3 : Memref sig .tc .vmem S1x2048 .f32) (harg3 : arg3.IsWhole)
  (arg4 : Memref sig .tc .vmem S1x2048 .f32) (harg4 : arg4.IsWhole)
  (arg5 : Memref sig .tc .vmem S1x2048 .f32) (harg5 : arg5.IsWhole)
  (arg6 : Memref sig .tc .vmem S2x2048x256 .bf16) (harg6 : arg6.IsWhole)
  (arg7 : Memref sig .tc .vmem S2x2048x256 .bf16) (harg7 : arg7.IsWhole)
  (arg8 : Memref sig .tc .vmem S2x256x2048 .bf16) (harg8 : arg8.IsWhole)
  (arg11 : Memref sig .tc .vmem S1024x2048 .f32) (harg11 : arg11.IsWhole)
  (arg12 : Memref sig .tc .vmem S1024x2048 .bf16) (harg12 : arg12.IsWhole)
  (x0 : Vec F S1024x2048 .f32) (x1 : Vec F S1x2048 .f32) (x2 : Vec F S1x2048 .f32) (x3 : Vec F S1x2048 .f32) (x4 : Vec F S2x2048x256 .bf16) (x5 : Vec F S2x2048x256 .bf16) (x6 : Vec F S2x256x2048 .bf16)

set_option maxHeartbeats 1800000 in
/-- The last point of a tile: the last contribution, then the finished rows and their norms. -/
noncomputable def lastRun (hc0 : ¬k0_cond1 i = 1#1) (hc1 : ¬k0_cond2 i = 1#1) (hc2 : k0_cond3 i = 1#1)
    (xo7 : Vec F S1024x2048 .f32) (xo8 : Vec F S1024x2048 .bf16) :
    Σ' (L7 : List (View.Piece (Elt F) S1024x2048 .f32)), { L8 : List (View.Piece (Elt F) S1024x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
          ∗ owns (c : Thread nD τ) arg11 fullShare xo7 ∗ owns (c : Thread nD τ) arg12 fullShare xo8
          ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ (∃ f, arg11.view.loc (c : Thread nD τ) ↦[arg11.view.set]{fullShare} arg11.view.writes (Elt F) f L7) ∗ (∃ f, arg12.view.loc (c : Thread nD τ) ↦[arg12.view.set]{fullShare} arg12.view.writes (Elt F) f L8)) -∗ K ⟨⟩))
        ⊢ wp frame (wpE (defs₀ (F := F)) Variants.none c none) E (cc0_ffn_rest i arg2 harg2 arg3 harg3 arg4 harg4 arg5 harg5 arg6 harg6 arg7 harg7 arg8 harg8
            (Memref.whole main_v12) (Memref.isWhole_whole _) (Memref.whole main_v14) (Memref.isWhole_whole _) arg11 harg11 arg12 harg12) K } := by
  refine ⟨?_, ?_, fun E K => ?run⟩
  case run =>
    simp only [cc0_ffn_rest_eq_skeleton]; unfold cc0_ffn_rest_skel
    simp only [k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg11.eq_unread hf7
    obtain rfl := harg12.eq_unread hf8
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    iexists _; iexact H8

end Cert.Kernel5Ideal.Rest

end
-- ==== Proof.RestFrame.lean ====
module

public import proofs.«01_k».proof.Proof.RestLast
public import Idealize.ShloMosaic.Lib.Claim

@[expose] public section

set_option maxRecDepth 16384

noncomputable section

namespace Cert.Kernel5Ideal.Rest

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem lt_N (t : Fin cfg0.N) : t.val < 77 := lt_of_lt_of_eq t.isLt (show cfg0.N = 77 from N_0)

/-- Which of the body's three branches a point takes: the first of the eleven points of a tile, -/
theorem at_first : ∀ t : Fin cfg0.N, t.val % 11 = 0 →
    k0_cond1 (grid0.coords t) = 1#1 ∧ ¬k0_cond2 (grid0.coords t) = 1#1 ∧ ¬k0_cond3 (grid0.coords t) = 1#1 :=
  (by decide +kernel : ∀ t : Fin grid0.N, t.val % 11 = 0 →
    k0_cond1 (grid0.coords t) = 1#1 ∧ ¬k0_cond2 (grid0.coords t) = 1#1 ∧ ¬k0_cond3 (grid0.coords t) = 1#1)

/-- the last, -/
theorem at_last : ∀ t : Fin cfg0.N, t.val % 11 = 10 →
    ¬k0_cond1 (grid0.coords t) = 1#1 ∧ ¬k0_cond2 (grid0.coords t) = 1#1 ∧ k0_cond3 (grid0.coords t) = 1#1 :=
  (by decide +kernel : ∀ t : Fin grid0.N, t.val % 11 = 10 →
    ¬k0_cond1 (grid0.coords t) = 1#1 ∧ ¬k0_cond2 (grid0.coords t) = 1#1 ∧ k0_cond3 (grid0.coords t) = 1#1)

/-- or one between. -/
theorem at_mid : ∀ t : Fin cfg0.N, ¬t.val % 11 = 0 → ¬t.val % 11 = 10 →
    ¬k0_cond1 (grid0.coords t) = 1#1 ∧ k0_cond2 (grid0.coords t) = 1#1 ∧ ¬k0_cond3 (grid0.coords t) = 1#1 :=
  (by decide +kernel : ∀ t : Fin grid0.N, ¬t.val % 11 = 0 → ¬t.val % 11 = 10 →
    ¬k0_cond1 (grid0.coords t) = 1#1 ∧ k0_cond2 (grid0.coords t) = 1#1 ∧ ¬k0_cond3 (grid0.coords t) = 1#1)

/-- The first result is stored into at every point, the second at the first and the last point of a tile, and neither is
    written back before the last. -/
theorem live7 : ∀ t : Fin cfg0.N, cfg0.idle 7 (grid0.coords t) = false := by decide +kernel
theorem live8 : ∀ t : Fin cfg0.N, t.val % 11 = 0 ∨ t.val % 11 = 10 → cfg0.idle 8 (grid0.coords t) = false := by decide +kernel
theorem idle8 : ∀ t : Fin cfg0.N, ¬t.val % 11 = 0 → ¬t.val % 11 = 10 →
    cfg0.idle 8 (grid0.coords t) = true ∧ (cfg0.win 8).flush t = false := by decide +kernel

/-- A result's buffer holds nothing the body stored just at the first point of a tile. -/
theorem fresh7 (t : Fin cfg0.N) : cfg0.fresh 7 t.val = decide (t.val % 11 = 0) :=
  Pipeline.Cfg.fresh_tab cfg0 7 (fun n => decide (n % 11 = 0)) rfl (by decide +kernel) t.val (Nat.le_of_lt t.isLt)
theorem fresh8 (t : Fin cfg0.N) : cfg0.fresh 8 t.val = decide (t.val % 11 = 0) :=
  Pipeline.Cfg.fresh_tab cfg0 8 (fun n => decide (n % 11 = 0)) rfl (by decide +kernel) t.val (Nat.le_of_lt t.isLt)

abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2x2048x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2x2048x256 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2x256x2048 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x2048 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x2048 .bf16 := win0_8.stage (cfg0.slots t 8)
abbrev hs0_8 (t : Fin cfg0.N) : (ms0_8 t).IsWhole := hstage0_8 ((cfg0.slots t 8).cast nbuf0_8)

/-- A buffer of each result to state its contents through; which one does not matter. -/
abbrev VO7 : View sig .tc .vmem S1024x2048 .f32 := (Memref.whole cc0_stg7_0 : Memref sig .tc .vmem S1024x2048 .f32).view
abbrev VO8 : View sig .tc .vmem S1024x2048 .bf16 := (Memref.whole cc0_stg8_0 : Memref sig .tc .vmem S1024x2048 .bf16).view

/-- What the first point of a tile leaves in result 7, and that its stores cover it. -/
def first7 (c : Dev nD) (t : Fin cfg0.N) (h : t.val % 11 = 0) : Vec F S1024x2048 .f32 :=
  VO7.read (Elt F) (VO7.writes (Elt F) VO7.junk (firstRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t)
      (iblk m c 0 t) (iblk m c 1 t) (iblk m c 2 t) (iblk m c 3 t) (iblk m c 4 t) (iblk m c 5 t) (iblk m c 6 t)
      (at_first t h).1 (at_first t h).2.1 (at_first t h).2.2).1)

theorem first7_cover (c : Dev nD) (t : Fin cfg0.N) (h : t.val % 11 = 0) (y : S1024x2048.Idx) :
    ∃ pc ∈ (firstRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t)
      (iblk m c 0 t) (iblk m c 1 t) (iblk m c 2 t) (iblk m c 3 t) (iblk m c 4 t) (iblk m c 5 t) (iblk m c 6 t)
      (at_first t h).1 (at_first t h).2.1 (at_first t h).2.2).1, y ∈ pc.1.set :=
  View.cover_of_tiledL _ S1024x2048.size (by sl_kernel_rfl) y

/-- What the first point of a tile leaves in result 8, and that its stores cover it. -/
def first8 (c : Dev nD) (t : Fin cfg0.N) (h : t.val % 11 = 0) : Vec F S1024x2048 .bf16 :=
  VO8.read (Elt F) (VO8.writes (Elt F) VO8.junk (firstRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t)
      (iblk m c 0 t) (iblk m c 1 t) (iblk m c 2 t) (iblk m c 3 t) (iblk m c 4 t) (iblk m c 5 t) (iblk m c 6 t)
      (at_first t h).1 (at_first t h).2.1 (at_first t h).2.2).2.1)

theorem first8_cover (c : Dev nD) (t : Fin cfg0.N) (h : t.val % 11 = 0) (y : S1024x2048.Idx) :
    ∃ pc ∈ (firstRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t)
      (iblk m c 0 t) (iblk m c 1 t) (iblk m c 2 t) (iblk m c 3 t) (iblk m c 4 t) (iblk m c 5 t) (iblk m c 6 t)
      (at_first t h).1 (at_first t h).2.1 (at_first t h).2.2).2.1, y ∈ pc.1.set :=
  View.cover_of_tiledBy _ ![32, 2048] (by sl_kernel_rfl) y

/-- What a point in the middle leaves in result 7, and that its stores cover it. -/
def mid7 (c : Dev nD) (t : Fin cfg0.N) (h : ¬t.val % 11 = 0) (h2 : ¬t.val % 11 = 10)
    (xo7 : Vec F S1024x2048 .f32) (xo8 : Vec F S1024x2048 .bf16) : Vec F S1024x2048 .f32 :=
  VO7.read (Elt F) (VO7.writes (Elt F) VO7.junk (midRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t)
      (iblk m c 0 t) (iblk m c 1 t) (iblk m c 2 t) (iblk m c 3 t) (iblk m c 4 t) (iblk m c 5 t) (iblk m c 6 t)
      (at_mid t h h2).1 (at_mid t h h2).2.1 (at_mid t h h2).2.2 xo7 xo8).1)

theorem mid7_cover (c : Dev nD) (t : Fin cfg0.N) (h : ¬t.val % 11 = 0) (h2 : ¬t.val % 11 = 10)
    (xo7 : Vec F S1024x2048 .f32) (xo8 : Vec F S1024x2048 .bf16) (y : S1024x2048.Idx) :
    ∃ pc ∈ (midRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t)
      (iblk m c 0 t) (iblk m c 1 t) (iblk m c 2 t) (iblk m c 3 t) (iblk m c 4 t) (iblk m c 5 t) (iblk m c 6 t)
      (at_mid t h h2).1 (at_mid t h h2).2.1 (at_mid t h h2).2.2 xo7 xo8).1, y ∈ pc.1.set :=
  View.cover_of_tiledL _ S1024x2048.size (by sl_kernel_rfl) y

/-- What the last point of a tile leaves in result 7, and that its stores cover it. -/
def last7 (c : Dev nD) (t : Fin cfg0.N) (h : t.val % 11 = 10)
    (xo7 : Vec F S1024x2048 .f32) (xo8 : Vec F S1024x2048 .bf16) : Vec F S1024x2048 .f32 :=
  VO7.read (Elt F) (VO7.writes (Elt F) VO7.junk (lastRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t)
      (iblk m c 0 t) (iblk m c 1 t) (iblk m c 2 t) (iblk m c 3 t) (iblk m c 4 t) (iblk m c 5 t) (iblk m c 6 t)
      (at_last t h).1 (at_last t h).2.1 (at_last t h).2.2 xo7 xo8).1)

theorem last7_cover (c : Dev nD) (t : Fin cfg0.N) (h : t.val % 11 = 10)
    (xo7 : Vec F S1024x2048 .f32) (xo8 : Vec F S1024x2048 .bf16) (y : S1024x2048.Idx) :
    ∃ pc ∈ (lastRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t)
      (iblk m c 0 t) (iblk m c 1 t) (iblk m c 2 t) (iblk m c 3 t) (iblk m c 4 t) (iblk m c 5 t) (iblk m c 6 t)
      (at_last t h).1 (at_last t h).2.1 (at_last t h).2.2 xo7 xo8).1, y ∈ pc.1.set :=
  View.cover_of_tiledBy _ ![32, 2048] (by sl_kernel_rfl) y

/-- What the last point of a tile leaves in result 8, and that its stores cover it. -/
def last8 (c : Dev nD) (t : Fin cfg0.N) (h : t.val % 11 = 10)
    (xo7 : Vec F S1024x2048 .f32) (xo8 : Vec F S1024x2048 .bf16) : Vec F S1024x2048 .bf16 :=
  VO8.read (Elt F) (VO8.writes (Elt F) VO8.junk (lastRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t)
      (iblk m c 0 t) (iblk m c 1 t) (iblk m c 2 t) (iblk m c 3 t) (iblk m c 4 t) (iblk m c 5 t) (iblk m c 6 t)
      (at_last t h).1 (at_last t h).2.1 (at_last t h).2.2 xo7 xo8).2.1)

theorem last8_cover (c : Dev nD) (t : Fin cfg0.N) (h : t.val % 11 = 10)
    (xo7 : Vec F S1024x2048 .f32) (xo8 : Vec F S1024x2048 .bf16) (y : S1024x2048.Idx) :
    ∃ pc ∈ (lastRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t)
      (iblk m c 0 t) (iblk m c 1 t) (iblk m c 2 t) (iblk m c 3 t) (iblk m c 4 t) (iblk m c 5 t) (iblk m c 6 t)
      (at_last t h).1 (at_last t h).2.1 (at_last t h).2.2 xo7 xo8).2.1, y ∈ pc.1.set :=
  View.cover_of_tiledBy _ ![32, 2048] (by sl_kernel_rfl) y

/-- What the two results hold after each point. -/
def outsAt0 (c : Dev nD) : (n : ℕ) → n < cfg0.N → Vec F S1024x2048 .f32 × Vec F S1024x2048 .bf16
  | 0, hn => (first7 m c ⟨0, hn⟩ (Nat.zero_mod _), first8 m c ⟨0, hn⟩ (Nat.zero_mod _))
  | n + 1, hn =>
    if h : (n + 1) % 11 = 0 then (first7 m c ⟨n + 1, hn⟩ h, first8 m c ⟨n + 1, hn⟩ h)
    else if h2 : (n + 1) % 11 = 10 then
      (last7 m c ⟨n + 1, hn⟩ h2 (outsAt0 c n (Nat.lt_of_succ_lt hn)).1 (outsAt0 c n (Nat.lt_of_succ_lt hn)).2,
        last8 m c ⟨n + 1, hn⟩ h2 (outsAt0 c n (Nat.lt_of_succ_lt hn)).1 (outsAt0 c n (Nat.lt_of_succ_lt hn)).2)
    else
      (mid7 m c ⟨n + 1, hn⟩ h h2 (outsAt0 c n (Nat.lt_of_succ_lt hn)).1 (outsAt0 c n (Nat.lt_of_succ_lt hn)).2,
        (outsAt0 c n (Nat.lt_of_succ_lt hn)).2)

/-- What they held before a point that is not the first of its tile. -/
abbrev prev (c : Dev nD) (t : Fin cfg0.N) := outsAt0 m c (t.val - 1) (Nat.lt_of_le_of_lt (Nat.sub_le _ _) t.isLt)

theorem outs_first (c : Dev nD) (t : Fin cfg0.N) (h : t.val % 11 = 0) :
    outsAt0 m c t.val t.isLt = (first7 m c t h, first8 m c t h) := by
  obtain ⟨n, hn⟩ := t
  cases n with
  | zero => rfl
  | succ n => exact dif_pos h

theorem outs_mid (c : Dev nD) (t : Fin cfg0.N) (h : ¬t.val % 11 = 0) (h2 : ¬t.val % 11 = 10) :
    outsAt0 m c t.val t.isLt = (mid7 m c t h h2 (prev m c t).1 (prev m c t).2, (prev m c t).2) := by
  obtain ⟨n, hn⟩ := t
  cases n with
  | zero => exact absurd (Nat.zero_mod _) h
  | succ n => exact (dif_neg h).trans (dif_neg h2)

theorem outs_last (c : Dev nD) (t : Fin cfg0.N) (h : t.val % 11 = 10) :
    outsAt0 m c t.val t.isLt
      = (last7 m c t h (prev m c t).1 (prev m c t).2, last8 m c t h (prev m c t).1 (prev m c t).2) := by
  obtain ⟨n, hn⟩ := t
  cases n with
  | zero => exact absurd h (show ¬0 % 11 = 10 by decide)
  | succ n => exact (dif_neg (by simp only [] at h; omega)).trans (dif_pos h)

/-- The proof data: the arrays as the region finds them, the inputs' blocks, the two results. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m c t.val t.isLt).1
    | ⟨8, _⟩ => (outsAt0 m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = (outsAt0 m c t.val t.isLt).1 := by dsimp only [dats]
theorem after8 (c : Dev nD) (t : Fin cfg0.N) : (dats m 0 c).after 8 t = (outsAt0 m c t.val t.isLt).2 := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem leaves0 (c : Dev nD) (t : Fin cfg0.N) :
    (dats m 0 c).leavesExact 0 t = owns (c : Thread nD τ) (ms0_0 t) fullShare (iblk m c 0 t) := by
  unfold Dat.leavesExact; rw [show cfg0.idle 0 (cfg0.grid.coords t) = false from rfl, after0]
theorem leaves1 (c : Dev nD) (t : Fin cfg0.N) :
    (dats m 0 c).leavesExact 1 t = owns (c : Thread nD τ) (ms0_1 t) fullShare (iblk m c 1 t) := by
  unfold Dat.leavesExact; rw [show cfg0.idle 1 (cfg0.grid.coords t) = false from rfl, after1]
theorem leaves2 (c : Dev nD) (t : Fin cfg0.N) :
    (dats m 0 c).leavesExact 2 t = owns (c : Thread nD τ) (ms0_2 t) fullShare (iblk m c 2 t) := by
  unfold Dat.leavesExact; rw [show cfg0.idle 2 (cfg0.grid.coords t) = false from rfl, after2]
theorem leaves3 (c : Dev nD) (t : Fin cfg0.N) :
    (dats m 0 c).leavesExact 3 t = owns (c : Thread nD τ) (ms0_3 t) fullShare (iblk m c 3 t) := by
  unfold Dat.leavesExact; rw [show cfg0.idle 3 (cfg0.grid.coords t) = false from rfl, after3]
theorem leaves4 (c : Dev nD) (t : Fin cfg0.N) :
    (dats m 0 c).leavesExact 4 t = owns (c : Thread nD τ) (ms0_4 t) fullShare (iblk m c 4 t) := by
  unfold Dat.leavesExact; rw [show cfg0.idle 4 (cfg0.grid.coords t) = false from rfl, after4]
theorem leaves5 (c : Dev nD) (t : Fin cfg0.N) :
    (dats m 0 c).leavesExact 5 t = owns (c : Thread nD τ) (ms0_5 t) fullShare (iblk m c 5 t) := by
  unfold Dat.leavesExact; rw [show cfg0.idle 5 (cfg0.grid.coords t) = false from rfl, after5]
theorem leaves6 (c : Dev nD) (t : Fin cfg0.N) :
    (dats m 0 c).leavesExact 6 t = owns (c : Thread nD τ) (ms0_6 t) fullShare (iblk m c 6 t) := by
  unfold Dat.leavesExact; rw [show cfg0.idle 6 (cfg0.grid.coords t) = false from rfl, after6]

theorem before7 (c : Dev nD) (t : Fin cfg0.N) (h : ¬t.val % 11 = 0) (d) : (dats m 0 c).before 7 t d = (prev m c t).1 := by
  rw [Dat.before_out_traj _ 7 rfl (fun _ _ => rfl) (fun s _ hi _ => absurd (hi.symm.trans (live7 s)) (by decide)) t.val t rfl d,
    if_neg (by rw [fresh7 t]; exact fun e => h (of_decide_eq_true e))]
  dsimp only [dats]

/-- The second result stays as it was through the points that store nothing into it. -/
theorem before8 (c : Dev nD) (t : Fin cfg0.N) (h : ¬t.val % 11 = 0) (d) : (dats m 0 c).before 8 t d = (prev m c t).2 := by
  rw [Dat.before_out_traj _ 8 rfl (fun _ _ => rfl) (fun s _ hi hf => ?_) t.val t rfl d,
    if_neg (by rw [fresh8 t]; exact fun e => h (of_decide_eq_true e))]
  · dsimp only [dats]
  · have h0 : ¬s.val % 11 = 0 := fun e => absurd (hi.symm.trans (live8 s (.inl e))) (by decide)
    have h1 : ¬s.val % 11 = 10 := fun e => absurd (hi.symm.trans (live8 s (.inr e))) (by decide)
    rw [after8, after8, outs_mid m c s h0 h1]

/-- What the body is called with, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 1000000 in
/-- The body at the first point of a tile. -/
theorem body_first (c : Dev nD) (t : Fin cfg0.N) (h : t.val % 11 = 0) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl]
  rw [leaves0, leaves1, leaves2, leaves3, leaves4, leaves5, leaves6]
  rw [show (dats m 0 c).leavesExact 7 t = owns (c : Thread nD τ) (ms0_7 t) fullShare ((dats m 0 c).after 7 t) from by
    unfold Dat.leavesExact; rw [live7 t], after7]
  rw [show (dats m 0 c).leavesExact 8 t = owns (c : Thread nD τ) (ms0_8 t) fullShare ((dats m 0 c).after 8 t) from by
    unfold Dat.leavesExact; rw [live8 t (.inl h)], after8]
  rw [outs_first m c t h]
  dsimp only
  unfold first7 first8
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((firstRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t)
      (iblk m c 0 t) (iblk m c 1 t) (iblk m c 2 t) (iblk m c 3 t) (iblk m c 4 t) (iblk m c 5 t) (iblk m c 6 t)
      (at_first t h).1 (at_first t h).2.1 (at_first t h).2.2).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, ⟨%e7, H7⟩, ⟨%e8, H8⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_of_cover _ _ _ _ _ (first7_cover m c t h)
  unfold owns; iexists _; isplitr
  swap; · iexact H8
  ipureintro; exact View.read_writes_of_cover _ _ _ _ _ (first8_cover m c t h)

set_option maxHeartbeats 1000000 in
/-- The body at a point in the middle. -/
theorem body_mid (c : Dev nD) (t : Fin cfg0.N) (h : ¬t.val % 11 = 0) (h2 : ¬t.val % 11 = 10) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7 m c t h, before8 m c t h]
  rw [show (dats m 0 c).Φ t.succ = (dats m 0 c).Φ t.castSucc from rfl,
    show (dats m 0 c).owesAt () t.succ = (dats m 0 c).owesAt () t.castSucc from rfl]
  rw [leaves0, leaves1, leaves2, leaves3, leaves4, leaves5, leaves6]
  rw [show (dats m 0 c).leavesExact 7 t = owns (c : Thread nD τ) (ms0_7 t) fullShare ((dats m 0 c).after 7 t) from by
    unfold Dat.leavesExact; rw [live7 t], after7]
  rw [Dat.leavesExact_idle (dats m 0 c) 8 t (idle8 t h h2).1 (idle8 t h h2).2]
  simp only [before8 m c t h]
  rw [outs_mid m c t h h2]
  dsimp only
  unfold mid7
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((midRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t)
      (iblk m c 0 t) (iblk m c 1 t) (iblk m c 2 t) (iblk m c 3 t) (iblk m c 4 t) (iblk m c 5 t) (iblk m c 6 t)
      (at_mid t h h2).1 (at_mid t h h2).2.1 (at_mid t h h2).2.2 (prev m c t).1 (prev m c t).2).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H0, H1, H2, H3, H4, H5, H6, ⟨%e7, H7⟩, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_of_cover _ _ _ _ _ (mid7_cover m c t h h2 _ _)
  iexists d8; iexact H8

set_option maxHeartbeats 1000000 in
/-- The body at the last point of a tile. -/
theorem body_last (c : Dev nD) (t : Fin cfg0.N) (h : t.val % 11 = 10) :
    bodyPre m c t ⊢ wp frame (wpE (defs₀ (F := F)) Variants.none c none) Set.univ (bodyAt0 t) (fun _ => bodyPost m c t) := by
  unfold bodyPre bodyPost bodyAt0
  have h0 : ¬t.val % 11 = 0 := by omega
  simp only [before0, before1, before2, before3, before4, before5, before6, before7 m c t h0, before8 m c t h0]
  rw [show (dats m 0 c).Φ t.succ = (dats m 0 c).Φ t.castSucc from rfl,
    show (dats m 0 c).owesAt () t.succ = (dats m 0 c).owesAt () t.castSucc from rfl]
  rw [leaves0, leaves1, leaves2, leaves3, leaves4, leaves5, leaves6]
  rw [show (dats m 0 c).leavesExact 7 t = owns (c : Thread nD τ) (ms0_7 t) fullShare ((dats m 0 c).after 7 t) from by
    unfold Dat.leavesExact; rw [live7 t], after7]
  rw [show (dats m 0 c).leavesExact 8 t = owns (c : Thread nD τ) (ms0_8 t) fullShare ((dats m 0 c).after 8 t) from by
    unfold Dat.leavesExact; rw [live8 t (.inr h)], after8]
  rw [outs_last m c t h]
  dsimp only
  unfold last7 last8
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((lastRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t)
      (iblk m c 0 t) (iblk m c 1 t) (iblk m c 2 t) (iblk m c 3 t) (iblk m c 4 t) (iblk m c 5 t) (iblk m c 6 t)
      (at_last t h).1 (at_last t h).2.1 (at_last t h).2.2 (prev m c t).1 (prev m c t).2).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H0, H1, H2, H3, H4, H5, H6, ⟨%e7, H7⟩, ⟨%e8, H8⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_of_cover _ _ _ _ _ (last7_cover m c t h _ _)
  unfold owns; iexists _; isplitr
  swap; · iexact H8
  ipureintro; exact View.read_writes_of_cover _ _ _ _ _ (last8_cover m c t h _ _)

theorem body_obligation (c : Dev nD) : BodyObligation (dats (F := F) m 0 c) (defs₀ (F := F)) Variants.none () Set.univ := fun t => by
  rw [bigSep_W0, bigSep_W0,
    show defs₀ (F := F) .tc cfg0.body (cfg0.bodyArgs t (cfg0.slots t)) = bodyAt0 t from by unfold defs₀; rw [Defs.onTc_tc]]
  refine triple_restated (?_ : bodyPre m c t ⊢ wp frame (wpE (defs₀ (F := F)) Variants.none c none) Set.univ (bodyAt0 t)
    (fun _ => bodyPost m c t)) rfl .rfl fun _ => .rfl
  by_cases h : t.val % 11 = 0
  · exact body_first m c t h
  · by_cases h2 : t.val % 11 = 10
    · exact body_last m c t h2
    · exact body_mid m c t h h2

set_option backward.isDefEq.respectTransparency.types false in
/-- Every run terminates with the arrays at what the proof data say and every semaphore at zero. -/
theorem run_main : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_post : θ_run defs (onTc (τ := τ) (main (F := F))) (s₀ m ρ) (Pipeline.FramePost cfgs (dats m) 0 (V m)) :=
  (θ_run defs _ _).mono (fun _ h => h.1) (run_main m ρ)

/-- The arguments end as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_post m ρ)) ((θ_run defs _ _).mono (fun _ h => h.2) (run_main m ρ))

end Cert.Kernel5Ideal.Rest

end
-- ==== Proof.HeadFirst.lean ====
module

public import proofs.«01_k».proof.Proof.Gen.Kernel6Ideal.Frame
public import proofs.«01_k».proof.Proof.Gen.Kernel6Ideal.Skeleton
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.Kernel6Ideal.Head

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg2 : Memref sig .tc .vmem S1024x2048 .f32) (harg2 : arg2.IsWhole)
  (arg3 : Memref sig .tc .vmem S1x2048 .f32) (harg3 : arg3.IsWhole)
  (arg4 : Memref sig .tc .vmem S1x2048 .f32) (harg4 : arg4.IsWhole)
  (arg5 : Memref sig .tc .vmem S1x2048 .f32) (harg5 : arg5.IsWhole)
  (arg6 : Memref sig .tc .vmem S2048x256 .f32) (harg6 : arg6.IsWhole)
  (arg7 : Memref sig .tc .vmem S2048x256 .f32) (harg7 : arg7.IsWhole)
  (arg8 : Memref sig .tc .vmem S256x2048 .f32) (harg8 : arg8.IsWhole)
  (arg9 : Memref sig .tc .vmem S1024x2048 .f32) (harg9 : arg9.IsWhole)
  (arg10 : Memref sig .tc .vmem S1024x2048 .bf16) (harg10 : arg10.IsWhole)
  (arg11 : Memref sig .tc .vmem S1x2048x256 .bf16) (harg11 : arg11.IsWhole)
  (arg12 : Memref sig .tc .vmem S1x2048x256 .bf16) (harg12 : arg12.IsWhole)
  (arg13 : Memref sig .tc .vmem S1x256x2048 .bf16) (harg13 : arg13.IsWhole)
  (x0 : Vec F S1024x2048 .f32) (x1 : Vec F S1x2048 .f32) (x2 : Vec F S1x2048 .f32) (x3 : Vec F S1x2048 .f32) (x4 : Vec F S2048x256 .f32) (x5 : Vec F S2048x256 .f32) (x6 : Vec F S256x2048 .f32)

set_option maxHeartbeats 1400000 in
/-- The first point: nothing the results hold is read. What its stores leave in each, newest first, is found by running the
body; the last three results are the point's slabs of the weights. -/
noncomputable def firstRun (hc0 : k0_cond1 i = 1#1) (hc1 : ¬k0_cond2 i = 1#1) (hc2 : ¬k0_cond3 i = 1#1) :
    Σ' (L7 : List (View.Piece (Elt F) S1024x2048 .f32)), Σ' (L8 : List (View.Piece (Elt F) S1024x2048 .bf16)), Σ' (L9 : List (View.Piece (Elt F) S1x2048x256 .bf16)), Σ' (L10 : List (View.Piece (Elt F) S1x2048x256 .bf16)), { L11 : List (View.Piece (Elt F) S1x256x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
          ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
          ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11)) -∗ K ⟨⟩))
        ⊢ wp frame (wpE (defs₀ (F := F)) Variants.none c none) E (cc0_ffn_first i arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, fun E K => ?run⟩
  case run =>
    simp only [cc0_ffn_first_eq_skeleton]; unfold cc0_ffn_first_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    isplitl [H9]; · iexists _; iexact H9
    isplitl [H10]; · iexists _; iexact H10
    iexists _; iexact H11

end Cert.Kernel6Ideal.Head

end
-- ==== Proof.HeadMid.lean ====
module

public import proofs.«01_k».proof.Proof.Gen.Kernel6Ideal.Frame
public import proofs.«01_k».proof.Proof.Gen.Kernel6Ideal.Skeleton
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.Kernel6Ideal.Head

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg2 : Memref sig .tc .vmem S1024x2048 .f32) (harg2 : arg2.IsWhole)
  (arg3 : Memref sig .tc .vmem S1x2048 .f32) (harg3 : arg3.IsWhole)
  (arg4 : Memref sig .tc .vmem S1x2048 .f32) (harg4 : arg4.IsWhole)
  (arg5 : Memref sig .tc .vmem S1x2048 .f32) (harg5 : arg5.IsWhole)
  (arg6 : Memref sig .tc .vmem S2048x256 .f32) (harg6 : arg6.IsWhole)
  (arg7 : Memref sig .tc .vmem S2048x256 .f32) (harg7 : arg7.IsWhole)
  (arg8 : Memref sig .tc .vmem S256x2048 .f32) (harg8 : arg8.IsWhole)
  (arg9 : Memref sig .tc .vmem S1024x2048 .f32) (harg9 : arg9.IsWhole)
  (arg10 : Memref sig .tc .vmem S1024x2048 .bf16) (harg10 : arg10.IsWhole)
  (arg11 : Memref sig .tc .vmem S1x2048x256 .bf16) (harg11 : arg11.IsWhole)
  (arg12 : Memref sig .tc .vmem S1x2048x256 .bf16) (harg12 : arg12.IsWhole)
  (arg13 : Memref sig .tc .vmem S1x256x2048 .bf16) (harg13 : arg13.IsWhole)
  (x0 : Vec F S1024x2048 .f32) (x1 : Vec F S1x2048 .f32) (x2 : Vec F S1x2048 .f32) (x3 : Vec F S1x2048 .f32) (x4 : Vec F S2048x256 .f32) (x5 : Vec F S2048x256 .f32) (x6 : Vec F S256x2048 .f32)

set_option maxHeartbeats 1000000 in
/-- A point in the middle: the contribution is added to the first result; the second, which holds the normed rows, is read and
handed back. -/
noncomputable def midRun (hc0 : ¬k0_cond1 i = 1#1) (hc1 : k0_cond2 i = 1#1) (hc2 : ¬k0_cond3 i = 1#1)
    (xo7 : Vec F S1024x2048 .f32) (xo8 : Vec F S1024x2048 .bf16) :
    Σ' (L7 : List (View.Piece (Elt F) S1024x2048 .f32)), Σ' (L9 : List (View.Piece (Elt F) S1x2048x256 .bf16)), Σ' (L10 : List (View.Piece (Elt F) S1x2048x256 .bf16)), { L11 : List (View.Piece (Elt F) S1x256x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
          ∗ owns (c : Thread nD τ) arg9 fullShare xo7 ∗ owns (c : Thread nD τ) arg10 fullShare xo8 ∗ (∃ d, owns (c : Thread nD τ) arg11 fullShare d) ∗ (∃ d, owns (c : Thread nD τ) arg12 fullShare d) ∗ (∃ d, owns (c : Thread nD τ) arg13 fullShare d)
          ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ (∃ f, arg9.view.loc (c : Thread nD τ) ↦[arg9.view.set]{fullShare} arg9.view.writes (Elt F) f L7) ∗ owns (c : Thread nD τ) arg10 fullShare xo8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11)) -∗ K ⟨⟩))
        ⊢ wp frame (wpE (defs₀ (F := F)) Variants.none c none) E (cc0_ffn_first i arg2 harg2 arg3 harg3 arg4 harg4 arg5 harg5 arg6 harg6 arg7 harg7 arg8 harg8 arg9 harg9 arg10 harg10 arg11 harg11 arg12 harg12 arg13 harg13) K } := by
  refine ⟨?_, ?_, ?_, ?_, fun E K => ?run⟩
  case run =>
    simp only [cc0_ffn_first_eq_skeleton]; unfold cc0_ffn_first_skel
    simp only [k0_part17_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    obtain rfl := harg10.eq_unread hf8
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]
    · iexists _; isplitr; · ipureintro; exact harg10.read_unread _
      iexact H8
    isplitl [H9]; · iexists _; iexact H9
    isplitl [H10]; · iexists _; iexact H10
    iexists _; iexact H11

end Cert.Kernel6Ideal.Head

end
-- ==== Proof.HeadLast.lean ====
module

public import proofs.«01_k».proof.Proof.Gen.Kernel6Ideal.Frame
public import proofs.«01_k».proof.Proof.Gen.Kernel6Ideal.Skeleton
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.Kernel6Ideal.Head

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg2 : Memref sig .tc .vmem S1024x2048 .f32) (harg2 : arg2.IsWhole)
  (arg3 : Memref sig .tc .vmem S1x2048 .f32) (harg3 : arg3.IsWhole)
  (arg4 : Memref sig .tc .vmem S1x2048 .f32) (harg4 : arg4.IsWhole)
  (arg5 : Memref sig .tc .vmem S1x2048 .f32) (harg5 : arg5.IsWhole)
  (arg6 : Memref sig .tc .vmem S2048x256 .f32) (harg6 : arg6.IsWhole)
  (arg7 : Memref sig .tc .vmem S2048x256 .f32) (harg7 : arg7.IsWhole)
  (arg8 : Memref sig .tc .vmem S256x2048 .f32) (harg8 : arg8.IsWhole)
  (arg9 : Memref sig .tc .vmem S1024x2048 .f32) (harg9 : arg9.IsWhole)
  (arg10 : Memref sig .tc .vmem S1024x2048 .bf16) (harg10 : arg10.IsWhole)
  (arg11 : Memref sig .tc .vmem S1x2048x256 .bf16) (harg11 : arg11.IsWhole)
  (arg12 : Memref sig .tc .vmem S1x2048x256 .bf16) (harg12 : arg12.IsWhole)
  (arg13 : Memref sig .tc .vmem S1x256x2048 .bf16) (harg13 : arg13.IsWhole)
  (x0 : Vec F S1024x2048 .f32) (x1 : Vec F S1x2048 .f32) (x2 : Vec F S1x2048 .f32) (x3 : Vec F S1x2048 .f32) (x4 : Vec F S2048x256 .f32) (x5 : Vec F S2048x256 .f32) (x6 : Vec F S256x2048 .f32)

set_option maxHeartbeats 2400000 in
/-- The last point: the last contribution, then the finished rows and their norms. -/
noncomputable def lastRun (hc0 : ¬k0_cond1 i = 1#1) (hc1 : ¬k0_cond2 i = 1#1) (hc2 : k0_cond3 i = 1#1)
    (xo7 : Vec F S1024x2048 .f32) (xo8 : Vec F S1024x2048 .bf16) :
    Σ' (L7 : List (View.Piece (Elt F) S1024x2048 .f32)), Σ' (L8 : List (View.Piece (Elt F) S1024x2048 .bf16)), Σ' (L9 : List (View.Piece (Elt F) S1x2048x256 .bf16)), Σ' (L10 : List (View.Piece (Elt F) S1x2048x256 .bf16)), { L11 : List (View.Piece (Elt F) S1x256x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
          ∗ owns (c : Thread nD τ) arg9 fullShare xo7 ∗ owns (c : Thread nD τ) arg10 fullShare xo8 ∗ (∃ d, owns (c : Thread nD τ) arg11 fullShare d) ∗ (∃ d, owns (c : Thread nD τ) arg12 fullShare d) ∗ (∃ d, owns (c : Thread nD τ) arg13 fullShare d)
          ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11)) -∗ K ⟨⟩))
        ⊢ wp frame (wpE (defs₀ (F := F)) Variants.none c none) E (cc0_ffn_first i arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, fun E K => ?run⟩
  case run =>
    simp only [cc0_ffn_first_eq_skeleton]; unfold cc0_ffn_first_skel
    simp only [k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    obtain rfl := harg10.eq_unread hf8
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    isplitl [H9]; · iexists _; iexact H9
    isplitl [H10]; · iexists _; iexact H10
    iexists _; iexact H11

end Cert.Kernel6Ideal.Head

end
-- ==== Proof.HeadFrame.lean ====
module

public import proofs.«01_k».proof.Proof.HeadFirst
public import proofs.«01_k».proof.Proof.HeadMid
public import proofs.«01_k».proof.Proof.HeadLast
public import Idealize.ShloMosaic.Lib.Claim

@[expose] public section

set_option maxRecDepth 16384

noncomputable section

namespace Cert.Kernel6Ideal.Head

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem lt_N (t : Fin cfg0.N) : t.val < 22 := lt_of_lt_of_eq t.isLt (show cfg0.N = 22 from N_0)

/-- Which of the body's three branches a point takes: the first of the twenty-two points, -/
theorem at_first : ∀ t : Fin cfg0.N, t.val = 0 →
    k0_cond1 (grid0.coords t) = 1#1 ∧ ¬k0_cond2 (grid0.coords t) = 1#1 ∧ ¬k0_cond3 (grid0.coords t) = 1#1 :=
  (by decide +kernel : ∀ t : Fin grid0.N, t.val = 0 →
    k0_cond1 (grid0.coords t) = 1#1 ∧ ¬k0_cond2 (grid0.coords t) = 1#1 ∧ ¬k0_cond3 (grid0.coords t) = 1#1)

/-- the last, -/
theorem at_last : ∀ t : Fin cfg0.N, t.val = 21 →
    ¬k0_cond1 (grid0.coords t) = 1#1 ∧ ¬k0_cond2 (grid0.coords t) = 1#1 ∧ k0_cond3 (grid0.coords t) = 1#1 :=
  (by decide +kernel : ∀ t : Fin grid0.N, t.val = 21 →
    ¬k0_cond1 (grid0.coords t) = 1#1 ∧ ¬k0_cond2 (grid0.coords t) = 1#1 ∧ k0_cond3 (grid0.coords t) = 1#1)

/-- or one between. -/
theorem at_mid : ∀ t : Fin cfg0.N, ¬t.val = 0 → ¬t.val = 21 →
    ¬k0_cond1 (grid0.coords t) = 1#1 ∧ k0_cond2 (grid0.coords t) = 1#1 ∧ ¬k0_cond3 (grid0.coords t) = 1#1 :=
  (by decide +kernel : ∀ t : Fin grid0.N, ¬t.val = 0 → ¬t.val = 21 →
    ¬k0_cond1 (grid0.coords t) = 1#1 ∧ k0_cond2 (grid0.coords t) = 1#1 ∧ ¬k0_cond3 (grid0.coords t) = 1#1)

/-- The second result is stored into at the first and the last point, the others at every point. -/
theorem live7 : ∀ t : Fin cfg0.N, cfg0.idle 7 (grid0.coords t) = false := by decide +kernel
theorem live8 : ∀ t : Fin cfg0.N, t.val = 0 ∨ t.val = 21 → cfg0.idle 8 (grid0.coords t) = false := by decide +kernel
theorem live9 : ∀ t : Fin cfg0.N, cfg0.idle 9 (grid0.coords t) = false := by decide +kernel
theorem live10 : ∀ t : Fin cfg0.N, cfg0.idle 10 (grid0.coords t) = false := by decide +kernel
theorem live11 : ∀ t : Fin cfg0.N, cfg0.idle 11 (grid0.coords t) = false := by decide +kernel
theorem idle8 : ∀ t : Fin cfg0.N, ¬t.val = 0 → ¬t.val = 21 →
    cfg0.idle 8 (grid0.coords t) = true ∧ (cfg0.win 8).flush t = false := by decide +kernel

/-- The buffers of the first two results hold nothing the body stored just at the first point. -/
theorem fresh7 (t : Fin cfg0.N) : cfg0.fresh 7 t.val = decide (t.val = 0) :=
  Pipeline.Cfg.fresh_tab cfg0 7 (fun n => decide (n % 22 = 0)) rfl (by decide +kernel) t.val (Nat.le_of_lt t.isLt)
    |>.trans (by rw [Nat.mod_eq_of_lt (lt_N t)])
theorem fresh8 (t : Fin cfg0.N) : cfg0.fresh 8 t.val = decide (t.val = 0) :=
  Pipeline.Cfg.fresh_tab cfg0 8 (fun n => decide (n % 22 = 0)) rfl (by decide +kernel) t.val (Nat.le_of_lt t.isLt)
    |>.trans (by rw [Nat.mod_eq_of_lt (lt_N t)])

abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2048x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x2048 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x2048 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x2048 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x2048x256 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x2048x256 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x256x2048 .bf16 := win0_11.stage (cfg0.slots t 11)
abbrev hs0_11 (t : Fin cfg0.N) : (ms0_11 t).IsWhole := hstage0_11 ((cfg0.slots t 11).cast nbuf0_11)

/-- A buffer of each result to state its contents through; which one does not matter. -/
abbrev VO7 : View sig .tc .vmem S1024x2048 .f32 := (Memref.whole cc0_stg7_0 : Memref sig .tc .vmem S1024x2048 .f32).view
abbrev VO8 : View sig .tc .vmem S1024x2048 .bf16 := (Memref.whole cc0_stg8_0 : Memref sig .tc .vmem S1024x2048 .bf16).view
abbrev VO9 : View sig .tc .vmem S1x2048x256 .bf16 := (Memref.whole cc0_stg9_0 : Memref sig .tc .vmem S1x2048x256 .bf16).view
abbrev VO10 : View sig .tc .vmem S1x2048x256 .bf16 := (Memref.whole cc0_stg10_0 : Memref sig .tc .vmem S1x2048x256 .bf16).view
abbrev VO11 : View sig .tc .vmem S1x256x2048 .bf16 := (Memref.whole cc0_stg11_0 : Memref sig .tc .vmem S1x256x2048 .bf16).view

/-- What stores leave in a buffer they cover. -/
abbrev left {s : Shape} {e : EltTy} (V : View sig .tc .vmem s e) (L : List (View.Piece (Elt F) s e)) : Vec F s e :=
  V.read (Elt F) (V.writes (Elt F) V.junk L)

/-- What the five results hold. -/
abbrev Outs (F : FTy → Type) : Type :=
  Vec F S1024x2048 .f32 × Vec F S1024x2048 .bf16 × Vec F S1x2048x256 .bf16 × Vec F S1x2048x256 .bf16 × Vec F S1x256x2048 .bf16

/-- The run of the body at the first point, on that point's blocks. -/
abbrev atFirst (c : Dev nD) (t : Fin cfg0.N) (h : t.val = 0) :=
  firstRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t)
      (iblk m c 0 t) (iblk m c 1 t) (iblk m c 2 t) (iblk m c 3 t) (iblk m c 4 t) (iblk m c 5 t) (iblk m c 6 t)
      (at_first t h).1 (at_first t h).2.1 (at_first t h).2.2

theorem first7_cover (c : Dev nD) (t : Fin cfg0.N) (h : t.val = 0) (y : S1024x2048.Idx) :
    ∃ pc ∈ (atFirst m c t h).1, y ∈ pc.1.set :=
  View.cover_of_tiledL _ S1024x2048.size (by sl_kernel_rfl) y
theorem first8_cover (c : Dev nD) (t : Fin cfg0.N) (h : t.val = 0) (y : S1024x2048.Idx) :
    ∃ pc ∈ (atFirst m c t h).2.1, y ∈ pc.1.set :=
  View.cover_of_tiledBy _ ![32, 2048] (by sl_kernel_rfl) y
theorem first9_cover (c : Dev nD) (t : Fin cfg0.N) (h : t.val = 0) (y : S1x2048x256.Idx) :
    ∃ pc ∈ (atFirst m c t h).2.2.1, y ∈ pc.1.set :=
  View.cover_of_tiledL _ S1x2048x256.size (by sl_kernel_rfl) y
theorem first10_cover (c : Dev nD) (t : Fin cfg0.N) (h : t.val = 0) (y : S1x2048x256.Idx) :
    ∃ pc ∈ (atFirst m c t h).2.2.2.1, y ∈ pc.1.set :=
  View.cover_of_tiledL _ S1x2048x256.size (by sl_kernel_rfl) y
theorem first11_cover (c : Dev nD) (t : Fin cfg0.N) (h : t.val = 0) (y : S1x256x2048.Idx) :
    ∃ pc ∈ (atFirst m c t h).2.2.2.2.1, y ∈ pc.1.set :=
  View.cover_of_tiledL _ S1x256x2048.size (by sl_kernel_rfl) y

/-- What it leaves in the results. -/
def firstOuts (c : Dev nD) (t : Fin cfg0.N) (h : t.val = 0) : Outs F :=
  (left VO7 (atFirst m c t h).1, left VO8 (atFirst m c t h).2.1, left VO9 (atFirst m c t h).2.2.1, left VO10 (atFirst m c t h).2.2.2.1, left VO11 (atFirst m c t h).2.2.2.2.1)

/-- The run of the body at the point in the middle, on that point's blocks. -/
abbrev atMid (c : Dev nD) (t : Fin cfg0.N) (h : ¬t.val = 0) (h2 : ¬t.val = 21)
    (xo7 : Vec F S1024x2048 .f32) (xo8 : Vec F S1024x2048 .bf16) :=
  midRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t)
      (iblk m c 0 t) (iblk m c 1 t) (iblk m c 2 t) (iblk m c 3 t) (iblk m c 4 t) (iblk m c 5 t) (iblk m c 6 t)
      (at_mid t h h2).1 (at_mid t h h2).2.1 (at_mid t h h2).2.2 xo7 xo8

theorem mid7_cover (c : Dev nD) (t : Fin cfg0.N) (h : ¬t.val = 0) (h2 : ¬t.val = 21)
    (xo7 : Vec F S1024x2048 .f32) (xo8 : Vec F S1024x2048 .bf16) (y : S1024x2048.Idx) :
    ∃ pc ∈ (atMid m c t h h2 xo7 xo8).1, y ∈ pc.1.set :=
  View.cover_of_tiledL _ S1024x2048.size (by sl_kernel_rfl) y
theorem mid9_cover (c : Dev nD) (t : Fin cfg0.N) (h : ¬t.val = 0) (h2 : ¬t.val = 21)
    (xo7 : Vec F S1024x2048 .f32) (xo8 : Vec F S1024x2048 .bf16) (y : S1x2048x256.Idx) :
    ∃ pc ∈ (atMid m c t h h2 xo7 xo8).2.1, y ∈ pc.1.set :=
  View.cover_of_tiledL _ S1x2048x256.size (by sl_kernel_rfl) y
theorem mid10_cover (c : Dev nD) (t : Fin cfg0.N) (h : ¬t.val = 0) (h2 : ¬t.val = 21)
    (xo7 : Vec F S1024x2048 .f32) (xo8 : Vec F S1024x2048 .bf16) (y : S1x2048x256.Idx) :
    ∃ pc ∈ (atMid m c t h h2 xo7 xo8).2.2.1, y ∈ pc.1.set :=
  View.cover_of_tiledL _ S1x2048x256.size (by sl_kernel_rfl) y
theorem mid11_cover (c : Dev nD) (t : Fin cfg0.N) (h : ¬t.val = 0) (h2 : ¬t.val = 21)
    (xo7 : Vec F S1024x2048 .f32) (xo8 : Vec F S1024x2048 .bf16) (y : S1x256x2048.Idx) :
    ∃ pc ∈ (atMid m c t h h2 xo7 xo8).2.2.2.1, y ∈ pc.1.set :=
  View.cover_of_tiledL _ S1x256x2048.size (by sl_kernel_rfl) y

/-- What it leaves in the results. -/
def midOuts (c : Dev nD) (t : Fin cfg0.N) (h : ¬t.val = 0) (h2 : ¬t.val = 21)
    (xo7 : Vec F S1024x2048 .f32) (xo8 : Vec F S1024x2048 .bf16) : Outs F :=
  (left VO7 (atMid m c t h h2 xo7 xo8).1, xo8, left VO9 (atMid m c t h h2 xo7 xo8).2.1, left VO10 (atMid m c t h h2 xo7 xo8).2.2.1, left VO11 (atMid m c t h h2 xo7 xo8).2.2.2.1)

/-- The run of the body at the last point, on that point's blocks. -/
abbrev atLast (c : Dev nD) (t : Fin cfg0.N) (h : t.val = 21)
    (xo7 : Vec F S1024x2048 .f32) (xo8 : Vec F S1024x2048 .bf16) :=
  lastRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t)
      (iblk m c 0 t) (iblk m c 1 t) (iblk m c 2 t) (iblk m c 3 t) (iblk m c 4 t) (iblk m c 5 t) (iblk m c 6 t)
      (at_last t h).1 (at_last t h).2.1 (at_last t h).2.2 xo7 xo8

theorem last7_cover (c : Dev nD) (t : Fin cfg0.N) (h : t.val = 21)
    (xo7 : Vec F S1024x2048 .f32) (xo8 : Vec F S1024x2048 .bf16) (y : S1024x2048.Idx) :
    ∃ pc ∈ (atLast m c t h xo7 xo8).1, y ∈ pc.1.set :=
  View.cover_of_tiledBy _ ![32, 2048] (by sl_kernel_rfl) y
theorem last8_cover (c : Dev nD) (t : Fin cfg0.N) (h : t.val = 21)
    (xo7 : Vec F S1024x2048 .f32) (xo8 : Vec F S1024x2048 .bf16) (y : S1024x2048.Idx) :
    ∃ pc ∈ (atLast m c t h xo7 xo8).2.1, y ∈ pc.1.set :=
  View.cover_of_tiledBy _ ![32, 2048] (by sl_kernel_rfl) y
theorem last9_cover (c : Dev nD) (t : Fin cfg0.N) (h : t.val = 21)
    (xo7 : Vec F S1024x2048 .f32) (xo8 : Vec F S1024x2048 .bf16) (y : S1x2048x256.Idx) :
    ∃ pc ∈ (atLast m c t h xo7 xo8).2.2.1, y ∈ pc.1.set :=
  View.cover_of_tiledL _ S1x2048x256.size (by sl_kernel_rfl) y
theorem last10_cover (c : Dev nD) (t : Fin cfg0.N) (h : t.val = 21)
    (xo7 : Vec F S1024x2048 .f32) (xo8 : Vec F S1024x2048 .bf16) (y : S1x2048x256.Idx) :
    ∃ pc ∈ (atLast m c t h xo7 xo8).2.2.2.1, y ∈ pc.1.set :=
  View.cover_of_tiledL _ S1x2048x256.size (by sl_kernel_rfl) y
theorem last11_cover (c : Dev nD) (t : Fin cfg0.N) (h : t.val = 21)
    (xo7 : Vec F S1024x2048 .f32) (xo8 : Vec F S1024x2048 .bf16) (y : S1x256x2048.Idx) :
    ∃ pc ∈ (atLast m c t h xo7 xo8).2.2.2.2.1, y ∈ pc.1.set :=
  View.cover_of_tiledL _ S1x256x2048.size (by sl_kernel_rfl) y

/-- What it leaves in the results. -/
def lastOuts (c : Dev nD) (t : Fin cfg0.N) (h : t.val = 21)
    (xo7 : Vec F S1024x2048 .f32) (xo8 : Vec F S1024x2048 .bf16) : Outs F :=
  (left VO7 (atLast m c t h xo7 xo8).1, left VO8 (atLast m c t h xo7 xo8).2.1, left VO9 (atLast m c t h xo7 xo8).2.2.1, left VO10 (atLast m c t h xo7 xo8).2.2.2.1, left VO11 (atLast m c t h xo7 xo8).2.2.2.2.1)

/-- What the results hold after each point. -/
def outsAt0 (c : Dev nD) : (n : ℕ) → n < cfg0.N → Outs F
  | 0, hn => firstOuts m c ⟨0, hn⟩ rfl
  | n + 1, hn =>
    if h2 : n + 1 = 21 then
      lastOuts m c ⟨n + 1, hn⟩ h2 (outsAt0 c n (Nat.lt_of_succ_lt hn)).1 (outsAt0 c n (Nat.lt_of_succ_lt hn)).2.1
    else
      midOuts m c ⟨n + 1, hn⟩ (Nat.succ_ne_zero n) h2 (outsAt0 c n (Nat.lt_of_succ_lt hn)).1 (outsAt0 c n (Nat.lt_of_succ_lt hn)).2.1

/-- What they held before a point that is not the first. -/
abbrev prev (c : Dev nD) (t : Fin cfg0.N) := outsAt0 m c (t.val - 1) (Nat.lt_of_le_of_lt (Nat.sub_le _ _) t.isLt)

theorem outs_first (c : Dev nD) (t : Fin cfg0.N) (h : t.val = 0) : outsAt0 m c t.val t.isLt = firstOuts m c t h := by
  obtain ⟨n, hn⟩ := t
  cases n with
  | zero => rfl
  | succ n => exact absurd h (Nat.succ_ne_zero n)

theorem outs_mid (c : Dev nD) (t : Fin cfg0.N) (h : ¬t.val = 0) (h2 : ¬t.val = 21) :
    outsAt0 m c t.val t.isLt = midOuts m c t h h2 (prev m c t).1 (prev m c t).2.1 := by
  obtain ⟨n, hn⟩ := t
  cases n with
  | zero => exact absurd rfl h
  | succ n => exact dif_neg h2

theorem outs_last (c : Dev nD) (t : Fin cfg0.N) (h : t.val = 21) :
    outsAt0 m c t.val t.isLt = lastOuts m c t h (prev m c t).1 (prev m c t).2.1 := by
  obtain ⟨n, hn⟩ := t
  cases n with
  | zero => exact absurd h (show ¬0 = 21 by decide)
  | succ n => exact dif_pos h

/-- The proof data: the arrays as the region finds them, the inputs' blocks, the results. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m c t.val t.isLt).1
    | ⟨8, _⟩ => (outsAt0 m c t.val t.isLt).2.1
    | ⟨9, _⟩ => (outsAt0 m c t.val t.isLt).2.2.1
    | ⟨10, _⟩ => (outsAt0 m c t.val t.isLt).2.2.2.1
    | ⟨11, _⟩ => (outsAt0 m c t.val t.isLt).2.2.2.2
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = (outsAt0 m c t.val t.isLt).1 := by dsimp only [dats]
theorem after8 (c : Dev nD) (t : Fin cfg0.N) : (dats m 0 c).after 8 t = (outsAt0 m c t.val t.isLt).2.1 := by dsimp only [dats]
theorem after9 (c : Dev nD) (t : Fin cfg0.N) : (dats m 0 c).after 9 t = (outsAt0 m c t.val t.isLt).2.2.1 := by dsimp only [dats]
theorem after10 (c : Dev nD) (t : Fin cfg0.N) : (dats m 0 c).after 10 t = (outsAt0 m c t.val t.isLt).2.2.2.1 := by dsimp only [dats]
theorem after11 (c : Dev nD) (t : Fin cfg0.N) : (dats m 0 c).after 11 t = (outsAt0 m c t.val t.isLt).2.2.2.2 := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d

theorem leaves0 (c : Dev nD) (t : Fin cfg0.N) :
    (dats m 0 c).leavesExact 0 t = owns (c : Thread nD τ) (ms0_0 t) fullShare (iblk m c 0 t) := by
  unfold Dat.leavesExact; rw [show cfg0.idle 0 (cfg0.grid.coords t) = false from rfl, after0]
theorem leaves1 (c : Dev nD) (t : Fin cfg0.N) :
    (dats m 0 c).leavesExact 1 t = owns (c : Thread nD τ) (ms0_1 t) fullShare (iblk m c 1 t) := by
  unfold Dat.leavesExact; rw [show cfg0.idle 1 (cfg0.grid.coords t) = false from rfl, after1]
theorem leaves2 (c : Dev nD) (t : Fin cfg0.N) :
    (dats m 0 c).leavesExact 2 t = owns (c : Thread nD τ) (ms0_2 t) fullShare (iblk m c 2 t) := by
  unfold Dat.leavesExact; rw [show cfg0.idle 2 (cfg0.grid.coords t) = false from rfl, after2]
theorem leaves3 (c : Dev nD) (t : Fin cfg0.N) :
    (dats m 0 c).leavesExact 3 t = owns (c : Thread nD τ) (ms0_3 t) fullShare (iblk m c 3 t) := by
  unfold Dat.leavesExact; rw [show cfg0.idle 3 (cfg0.grid.coords t) = false from rfl, after3]
theorem leaves4 (c : Dev nD) (t : Fin cfg0.N) :
    (dats m 0 c).leavesExact 4 t = owns (c : Thread nD τ) (ms0_4 t) fullShare (iblk m c 4 t) := by
  unfold Dat.leavesExact; rw [show cfg0.idle 4 (cfg0.grid.coords t) = false from rfl, after4]
theorem leaves5 (c : Dev nD) (t : Fin cfg0.N) :
    (dats m 0 c).leavesExact 5 t = owns (c : Thread nD τ) (ms0_5 t) fullShare (iblk m c 5 t) := by
  unfold Dat.leavesExact; rw [show cfg0.idle 5 (cfg0.grid.coords t) = false from rfl, after5]
theorem leaves6 (c : Dev nD) (t : Fin cfg0.N) :
    (dats m 0 c).leavesExact 6 t = owns (c : Thread nD τ) (ms0_6 t) fullShare (iblk m c 6 t) := by
  unfold Dat.leavesExact; rw [show cfg0.idle 6 (cfg0.grid.coords t) = false from rfl, after6]
theorem leaves7 (c : Dev nD) (t : Fin cfg0.N) :
    (dats m 0 c).leavesExact 7 t = owns (c : Thread nD τ) (ms0_7 t) fullShare (outsAt0 m c t.val t.isLt).1 := by
  unfold Dat.leavesExact; rw [live7 t, after7]
theorem leaves9 (c : Dev nD) (t : Fin cfg0.N) :
    (dats m 0 c).leavesExact 9 t = owns (c : Thread nD τ) (ms0_9 t) fullShare (outsAt0 m c t.val t.isLt).2.2.1 := by
  unfold Dat.leavesExact; rw [live9 t, after9]
theorem leaves10 (c : Dev nD) (t : Fin cfg0.N) :
    (dats m 0 c).leavesExact 10 t = owns (c : Thread nD τ) (ms0_10 t) fullShare (outsAt0 m c t.val t.isLt).2.2.2.1 := by
  unfold Dat.leavesExact; rw [live10 t, after10]
theorem leaves11 (c : Dev nD) (t : Fin cfg0.N) :
    (dats m 0 c).leavesExact 11 t = owns (c : Thread nD τ) (ms0_11 t) fullShare (outsAt0 m c t.val t.isLt).2.2.2.2 := by
  unfold Dat.leavesExact; rw [live11 t, after11]
theorem leaves8 (c : Dev nD) (t : Fin cfg0.N) (h : t.val = 0 ∨ t.val = 21) :
    (dats m 0 c).leavesExact 8 t = owns (c : Thread nD τ) (ms0_8 t) fullShare (outsAt0 m c t.val t.isLt).2.1 := by
  unfold Dat.leavesExact; rw [live8 t h, after8]

theorem before7 (c : Dev nD) (t : Fin cfg0.N) (h : ¬t.val = 0) (d) : (dats m 0 c).before 7 t d = (prev m c t).1 := by
  rw [Dat.before_out_traj _ 7 rfl (fun _ _ => rfl) (fun s _ hi _ => absurd (hi.symm.trans (live7 s)) (by decide)) t.val t rfl d,
    if_neg (by rw [fresh7 t]; exact fun e => h (of_decide_eq_true e))]
  dsimp only [dats]

/-- The second result stays as it was through the points that store nothing into it. -/
theorem before8 (c : Dev nD) (t : Fin cfg0.N) (h : ¬t.val = 0) (d) : (dats m 0 c).before 8 t d = (prev m c t).2.1 := by
  rw [Dat.before_out_traj _ 8 rfl (fun _ _ => rfl) (fun s _ hi hf => ?_) t.val t rfl d,
    if_neg (by rw [fresh8 t]; exact fun e => h (of_decide_eq_true e))]
  · dsimp only [dats]
  · have h0 : ¬s.val = 0 := fun e => absurd (hi.symm.trans (live8 s (.inl e))) (by decide)
    have h1 : ¬s.val = 21 := fun e => absurd (hi.symm.trans (live8 s (.inr e))) (by decide)
    rw [after8, after8, outs_mid m c s h0 h1]
    dsimp only [midOuts]

/-- What the body is called with, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 1000000 in
/-- The body at the first point. -/
theorem body_first (c : Dev nD) (t : Fin cfg0.N) (h : t.val = 0) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl]
  rw [leaves0, leaves1, leaves2, leaves3, leaves4, leaves5, leaves6, leaves7, leaves8 m c t (.inl h), leaves9, leaves10, leaves11]
  rw [outs_first m c t h]
  dsimp only [firstOuts]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((atFirst m c t h).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  iintro ⟨H0, H1, H2, H3, H4, H5, H6, ⟨%e7, H7⟩, ⟨%e8, H8⟩, ⟨%e9, H9⟩, ⟨%e10, H10⟩, ⟨%e11, H11⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_of_cover _ _ _ _ _ (first7_cover m c t h)
  isplitl [H8]
  · unfold owns; iexists _; isplitr
    swap; · iexact H8
    ipureintro; exact View.read_writes_of_cover _ _ _ _ _ (first8_cover m c t h)
  isplitl [H9]
  · unfold owns; iexists _; isplitr
    swap; · iexact H9
    ipureintro; exact View.read_writes_of_cover _ _ _ _ _ (first9_cover m c t h)
  isplitl [H10]
  · unfold owns; iexists _; isplitr
    swap; · iexact H10
    ipureintro; exact View.read_writes_of_cover _ _ _ _ _ (first10_cover m c t h)
  unfold owns; iexists _; isplitr
  swap; · iexact H11
  ipureintro; exact View.read_writes_of_cover _ _ _ _ _ (first11_cover m c t h)

set_option maxHeartbeats 1000000 in
/-- The body at the point in the middle. -/
theorem body_mid (c : Dev nD) (t : Fin cfg0.N) (h : ¬t.val = 0) (h2 : ¬t.val = 21) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7 m c t h, before8 m c t h]
  rw [show (dats m 0 c).Φ t.succ = (dats m 0 c).Φ t.castSucc from rfl,
    show (dats m 0 c).owesAt () t.succ = (dats m 0 c).owesAt () t.castSucc from rfl]
  rw [leaves0, leaves1, leaves2, leaves3, leaves4, leaves5, leaves6, leaves7, leaves9, leaves10, leaves11]
  rw [Dat.leavesExact_idle (dats m 0 c) 8 t (idle8 t h h2).1 (idle8 t h h2).2]
  simp only [before8 m c t h]
  rw [outs_mid m c t h h2]
  dsimp only [midOuts]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((atMid m c t h h2 (prev m c t).1 (prev m c t).2.1).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  iintro ⟨H0, H1, H2, H3, H4, H5, H6, ⟨%e7, H7⟩, H8, ⟨%e9, H9⟩, ⟨%e10, H10⟩, ⟨%e11, H11⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_of_cover _ _ _ _ _ (mid7_cover m c t h h2 _ _)
  isplitl [H8]; · iexists d8; iexact H8
  isplitl [H9]
  · unfold owns; iexists _; isplitr
    swap; · iexact H9
    ipureintro; exact View.read_writes_of_cover _ _ _ _ _ (mid9_cover m c t h h2 _ _)
  isplitl [H10]
  · unfold owns; iexists _; isplitr
    swap; · iexact H10
    ipureintro; exact View.read_writes_of_cover _ _ _ _ _ (mid10_cover m c t h h2 _ _)
  unfold owns; iexists _; isplitr
  swap; · iexact H11
  ipureintro; exact View.read_writes_of_cover _ _ _ _ _ (mid11_cover m c t h h2 _ _)

set_option maxHeartbeats 1000000 in
/-- The body at the last point. -/
theorem body_last (c : Dev nD) (t : Fin cfg0.N) (h : t.val = 21) :
    bodyPre m c t ⊢ wp frame (wpE (defs₀ (F := F)) Variants.none c none) Set.univ (bodyAt0 t) (fun _ => bodyPost m c t) := by
  unfold bodyPre bodyPost bodyAt0
  have h0 : ¬t.val = 0 := by omega
  simp only [before0, before1, before2, before3, before4, before5, before6, before7 m c t h0, before8 m c t h0]
  rw [show (dats m 0 c).Φ t.succ = (dats m 0 c).Φ t.castSucc from rfl,
    show (dats m 0 c).owesAt () t.succ = (dats m 0 c).owesAt () t.castSucc from rfl]
  rw [leaves0, leaves1, leaves2, leaves3, leaves4, leaves5, leaves6, leaves7, leaves8 m c t (.inr h), leaves9, leaves10, leaves11]
  rw [outs_last m c t h]
  dsimp only [lastOuts]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((atLast m c t h (prev m c t).1 (prev m c t).2.1).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  iintro ⟨H0, H1, H2, H3, H4, H5, H6, ⟨%e7, H7⟩, ⟨%e8, H8⟩, ⟨%e9, H9⟩, ⟨%e10, H10⟩, ⟨%e11, H11⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_of_cover _ _ _ _ _ (last7_cover m c t h _ _)
  isplitl [H8]
  · unfold owns; iexists _; isplitr
    swap; · iexact H8
    ipureintro; exact View.read_writes_of_cover _ _ _ _ _ (last8_cover m c t h _ _)
  isplitl [H9]
  · unfold owns; iexists _; isplitr
    swap; · iexact H9
    ipureintro; exact View.read_writes_of_cover _ _ _ _ _ (last9_cover m c t h _ _)
  isplitl [H10]
  · unfold owns; iexists _; isplitr
    swap; · iexact H10
    ipureintro; exact View.read_writes_of_cover _ _ _ _ _ (last10_cover m c t h _ _)
  unfold owns; iexists _; isplitr
  swap; · iexact H11
  ipureintro; exact View.read_writes_of_cover _ _ _ _ _ (last11_cover m c t h _ _)

theorem body_obligation (c : Dev nD) : BodyObligation (dats (F := F) m 0 c) (defs₀ (F := F)) Variants.none () Set.univ := fun t => by
  rw [bigSep_W0, bigSep_W0,
    show defs₀ (F := F) .tc cfg0.body (cfg0.bodyArgs t (cfg0.slots t)) = bodyAt0 t from by unfold defs₀; rw [Defs.onTc_tc]]
  refine triple_restated (?_ : bodyPre m c t ⊢ wp frame (wpE (defs₀ (F := F)) Variants.none c none) Set.univ (bodyAt0 t)
    (fun _ => bodyPost m c t)) rfl .rfl fun _ => .rfl
  by_cases h : t.val = 0
  · exact body_first m c t h
  · by_cases h2 : t.val = 21
    · exact body_last m c t h2
    · exact body_mid m c t h h2

set_option backward.isDefEq.respectTransparency.types false in
/-- Every run terminates with the arrays at what the proof data say, the rest at what the host lines after the region make of
    them, and every semaphore at zero. -/
theorem run_main : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_shared (Q' := _) cfgs (dats m) (0 : Fin 1) launch₀0 defs₀ Variants.none m ρ main
    (hbody := fun c => (body_obligation m c).loose) (hq := fun _ _ _ => rfl) (howed := fun _ _ => rfl) (V₀ := V0 m)
    (opss := [hostOps1]) (hsub := sfx_sub) (hfresh := sfx_fresh) (hkeep := sfx_keeps) (hmain := hmain m Variants.none)
    (hA := A_eq m) (hΦ := fun _ _ => rfl)

theorem run_post : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main m ρ)

/-- The arguments end as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_post m ρ)) ((θ_run defs _ _).mono (fun _ h => h.2) (run_main m ρ))

end Cert.Kernel6Ideal.Head

end
-- ==== Proof.Frames.lean ====
/- The frames of the programs, and that the idealised kernels keep the kernels' text but for the named constants. -/
module

public import proofs.«01_k».proof.Defs
public import proofs.«01_k».proof.Proof.Gen.Kernel.Frame
public import proofs.«01_k».proof.Proof.Gen.KernelIdeal.Frame
public import proofs.«01_k».proof.Proof.Gen.Kernel2.Frame
public import proofs.«01_k».proof.Proof.Gen.Kernel2Ideal.Frame
public import proofs.«01_k».proof.Proof.Gen.ReferenceIdeal.Run
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Kernel4.Frame
public import proofs.«01_k».proof.Proof.Gen.Kernel4Ideal.Frame
public import proofs.«01_k».proof.Proof.Gen.Reference3Ideal.Run
public import proofs.«01_k».proof.Proof.Gen.Reference4Ideal.Run
public import proofs.«01_k».proof.Proof.Gen.Kernel5
public import proofs.«01_k».proof.Proof.RestFrame
public import proofs.«01_k».proof.Proof.Gen.Reference5Ideal.Run
public import proofs.«01_k».proof.Proof.Gen.Kernel6
public import proofs.«01_k».proof.Proof.HeadFrame
public import proofs.«01_k».proof.Proof.Gen.Reference6Ideal.Run
public import Idealize.ShloMosaic.Lib.Claim

@[expose] public section

set_option maxRecDepth 16384

noncomputable section

namespace Cert.Frames

open Idealize.ShloMosaic Idealize.SL.Sem

theorem kernel : Cert.quiescent_Kernel := fun m g _ => Cert.Kernel.Gen.frame m g
theorem kernelIdeal : Cert.quiescent_KernelIdeal := fun m g _ => Cert.KernelIdeal.Gen.frame m g
theorem kernel2 : Cert.quiescent_Kernel2 := fun m g _ => Cert.Kernel2.Gen.frame m g
theorem kernel2Ideal : Cert.quiescent_Kernel2Ideal := fun m g _ => Cert.Kernel2Ideal.Gen.frame m g
theorem kernel3 : Cert.quiescent_Kernel3 := fun m g _ => Cert.Kernel3.Gen.frame m g
theorem kernel3Ideal : Cert.quiescent_Kernel3Ideal := fun m g _ => Cert.Kernel3Ideal.Gen.frame m g
theorem kernel4 : Cert.quiescent_Kernel4 := fun m g _ => Cert.Kernel4.Gen.frame m g
theorem kernel4Ideal : Cert.quiescent_Kernel4Ideal := fun m g _ => Cert.Kernel4Ideal.Gen.frame m g
theorem kernel5Ideal : Cert.quiescent_Kernel5Ideal := fun m g _ => Cert.Kernel5Ideal.Rest.frame m g

/-- The kernel's text is the idealised kernel's: first its body, then its body table. -/
theorem kernel5_body : @Cert.Kernel5.cc0_ffn_rest Bits _ _ = @Cert.Kernel5Ideal.cc0_ffn_rest Bits _ _ := rfl

theorem kernel5_table : Cert.Kernel5.defs₀ (F := Bits) = Cert.Kernel5Ideal.defs₀ (F := Bits) := by
  unfold Cert.Kernel5.defs₀ Cert.Kernel5Ideal.defs₀
  refine congrArg Defs.onTc (funext fun l => funext fun x => ?_)
  match l, x with
  | ⟨0, _⟩, (t, s) =>
    dsimp only
    rw [kernel5_body]
    rfl
  | ⟨_ + 1, h⟩, _ => exact absurd h (Nat.not_lt.2 (Nat.le_add_left _ _))

theorem kernel5_defs : Cert.Kernel5.defs (F := Bits) = Cert.Kernel5Ideal.defs (F := Bits) :=
  congrArg (Pipeline.defs (Cert.Kernel5Ideal.pcfgs (F := Bits))) kernel5_table

/-- So one run serves both, read here at the machine's values. -/
theorem kernel5 : Cert.quiescent_Kernel5 := by
  intro m g _
  rw [kernel5_defs]
  exact Cert.Kernel5Ideal.Rest.frame (F := Bits) m g

theorem kernel6Ideal : Cert.quiescent_Kernel6Ideal := fun m g _ => Cert.Kernel6Ideal.Head.frame (F := Ideal) m g

/-- The same for the call over the first rows. -/
theorem kernel6_body : @Cert.Kernel6.cc0_ffn_first Bits _ _ = @Cert.Kernel6Ideal.cc0_ffn_first Bits _ _ := rfl

theorem kernel6_table : Cert.Kernel6.defs₀ (F := Bits) = Cert.Kernel6Ideal.defs₀ (F := Bits) := by
  unfold Cert.Kernel6.defs₀ Cert.Kernel6Ideal.defs₀
  refine congrArg Defs.onTc (funext fun l => funext fun x => ?_)
  match l, x with
  | ⟨0, _⟩, (t, s) =>
    dsimp only
    rw [kernel6_body]
    rfl
  | ⟨_ + 1, h⟩, _ => exact absurd h (Nat.not_lt.2 (Nat.le_add_left _ _))

theorem kernel6_defs : Cert.Kernel6.defs (F := Bits) = Cert.Kernel6Ideal.defs (F := Bits) :=
  congrArg (Pipeline.defs (Cert.Kernel6Ideal.pcfgs (F := Bits))) kernel6_table

/-- So one run serves both, read here at the machine's values. -/
theorem kernel6 : Cert.quiescent_Kernel6 := by
  intro m g _
  rw [kernel6_defs]
  exact Cert.Kernel6Ideal.Head.frame (F := Bits) m g

theorem referenceIdeal : Cert.quiescent_ReferenceIdeal := fun m g _ =>
  (θ_run Cert.ReferenceIdeal.defs _ _).mono (fun r h => ⟨fun c => (h c).2.2, sem_eq_zero_of_no_sems (by decide) r.2⟩)
    (Cert.ReferenceIdeal.Value.run (F := Ideal) m g)

theorem reference2Ideal : Cert.quiescent_Reference2Ideal := fun m g _ =>
  (θ_run Cert.Reference2Ideal.defs _ _).mono (fun r h => ⟨fun c => (h c).2, sem_eq_zero_of_no_sems (by decide) r.2⟩)
    (Cert.Reference2Ideal.Value.run (F := Ideal) m g)

theorem reference3Ideal : Cert.quiescent_Reference3Ideal := fun m g _ =>
  (θ_run Cert.Reference3Ideal.defs _ _).mono (fun r h => ⟨fun c => (h c).2, sem_eq_zero_of_no_sems (by decide) r.2⟩)
    (Cert.Reference3Ideal.Value.run (F := Ideal) m g)

theorem reference4Ideal : Cert.quiescent_Reference4Ideal := fun m g _ =>
  (θ_run Cert.Reference4Ideal.defs _ _).mono (fun r h => ⟨fun c => (h c).2, sem_eq_zero_of_no_sems (by decide) r.2⟩)
    (Cert.Reference4Ideal.Value.run (F := Ideal) m g)

theorem reference5Ideal : Cert.quiescent_Reference5Ideal := fun m g _ =>
  (θ_run Cert.Reference5Ideal.defs _ _).mono (fun r h => ⟨fun c => (h c).2.2, sem_eq_zero_of_no_sems (by decide) r.2⟩)
    (Cert.Reference5Ideal.Value.run (F := Ideal) m g)

theorem reference6Ideal : Cert.quiescent_Reference6Ideal := fun m g _ =>
  (θ_run Cert.Reference6Ideal.defs _ _).mono (fun r h => ⟨fun c => (h c).2.2.2.2.2, sem_eq_zero_of_no_sems (by decide) r.2⟩)
    (Cert.Reference6Ideal.Value.run (F := Ideal) m g)

theorem preserves : Cert.preserves_Kernel_KernelIdeal :=
  ⟨IdealRules.named_const.statement _ _ _ _ _ rfl, IdealRules.named_const.statement _ _ _ _ _ rfl, IdealRules.named_const.statement _ _ _ _ _ rfl⟩

end Cert.Frames

end
-- ==== Proof.FeedForward.lean ====
/- The mathematics of the feed-forward call, over the extended reals: one row's root-mean-square norm, one gated
   activation, and the finished row. -/
module

public import Idealize.ShloMosaic.PureOps.Ideal
public import Idealize.ShloMosaic.Lib.IdealHost

@[expose] public section

noncomputable section

namespace Cert.FeedForward

open Idealize.ShloMosaic

/-- One half, as the programs write it. -/
abbrev half : EReal := Ideal.ofBits .f32 0x3F000000#32

theorem half_eq : half = (((1 : ℝ) / 2 : ℝ) : EReal) := by
  simp [half, Ideal.ofBits, Ideal.ieee, -EReal.coe_mul]
  norm_num

/-- A row scaled by the reciprocal root of its mean square, times a gain. -/
def rms (x g : Fin 2048 → EReal) (k : Fin 2048) : EReal :=
  x k * Ideal.rsqrt (Ideal.div (∑ l, x l * x l) (Ideal.ofBits .f32 0x45000000#32) + Ideal.ofBits .f32 0x358637BD#32) * g k

theorem rms_congr {x y g h : Fin 2048 → EReal} (hx : ∀ l, x l = y l) (hg : ∀ l, g l = h l) (k : Fin 2048) :
    rms x g k = rms y h k := by
  rw [funext hx, funext hg]

/-- A gated activation, the gate by way of the hyperbolic tangent. -/
def act (g u : EReal) : EReal := half * g * (1 + Ideal.tanh (half * g)) * u

/-- The gate by way of the hyperbolic tangent is the gate by way of the exponential. -/
theorem gate_eq (g : EReal) : half * g * (1 + Ideal.tanh (half * g)) = g * Ideal.div 1 (1 + Ideal.exp (-g)) := by
  have h2 : (0 : ℝ) < 1 / 2 := by norm_num
  change _ = g * Ideal.logistic g
  rw [half_eq]
  induction g using EReal.rec with
  | bot =>
    rw [EReal.coe_mul_bot_of_pos h2, Ideal.tanh_bot, Ideal.logistic_bot, mul_zero]
    have e : (1 : EReal) + (-1) = 0 := by
      rw [← EReal.coe_one, ← EReal.coe_neg, ← EReal.coe_add, add_neg_cancel, EReal.coe_zero]
    rw [e, mul_zero]
  | top =>
    rw [EReal.coe_mul_top_of_pos h2, Ideal.tanh_top, Ideal.logistic_top, mul_one]
    have e : (1 : EReal) + 1 = ((2 : ℝ) : EReal) := by rw [← EReal.coe_one, ← EReal.coe_add]; norm_num
    rw [e, EReal.top_mul_coe_of_pos two_pos]
  | coe g =>
    rw [← EReal.coe_mul, Ideal.tanh_coe, Ideal.logistic_coe, ← EReal.coe_one, ← EReal.coe_add, ← EReal.coe_mul,
      ← EReal.coe_mul]
    congr 1
    have hp : (0 : ℝ) < Real.exp (1 / 2 * g) := Real.exp_pos _
    have e1 : Real.exp (-g) = (Real.exp (1 / 2 * g))⁻¹ * (Real.exp (1 / 2 * g))⁻¹ := by
      rw [← Real.exp_neg, ← Real.exp_add]; congr 1; ring
    rw [Real.tanh_eq_sinh_div_cosh, Real.sinh_eq, Real.cosh_eq, Real.exp_neg, e1]
    generalize Real.exp (1 / 2 * g) = y at hp
    field_simp
    ring

theorem act_eq (g u : EReal) : act g u = g * Ideal.div 1 (1 + Ideal.exp (-g)) * u := by
  unfold act; rw [gate_eq]

/-- The finished row: the input plus half the normed feed-forward row. -/
def fin (x o g : Fin 2048 → EReal) (k : Fin 2048) : EReal := x k + half * rms o g k

theorem fin_congr {x y o p g h : Fin 2048 → EReal} (hx : ∀ l, x l = y l) (ho : ∀ l, o l = p l) (hg : ∀ l, g l = h l)
    (k : Fin 2048) : fin x o g k = fin y p h k := by
  rw [funext hx, funext ho, funext hg]

end Cert.FeedForward

end
-- ==== Proof.RowStores.lean ====
/- What a rank-two array holds while a body stores it a band of whole rows at a time, from the top down: the bands below
   a first bound are finished, those between it and a second bound hold an intermediate value that a later store
   replaces. The list of stores is newest first. -/
module

public import Idealize.ShloMosaic.Lib.Pipeline.ValueKit
public import Idealize.ShloMosaic.Lib.Pointwise

@[expose] public section

noncomputable section

namespace Cert.RowStores

open Idealize.ShloMosaic

variable {Val : EltTy → Type} [∀ e, Nonempty (Val e)] {m n : ℕ} {e : EltTy}

/-- Rows below `f` hold `G`, rows from `f` to `a` hold `A`. -/
def Upto (A G : Fin m → Fin n → Val e) (L : List (View.Piece Val (⟨2, ![m, n]⟩ : Shape) e)) (f a : ℕ) : Prop :=
  ∀ (r : Fin m) (c : Fin n), (r.val < f → View.canon L (ix2 r c) = G r c) ∧ (f ≤ r.val → r.val < a → View.canon L (ix2 r c) = A r c)

theorem Upto.nil (A G : Fin m → Fin n → Val e) : Upto A G [] 0 0 :=
  fun r c => ⟨fun h => absurd h (Nat.not_lt_zero _), fun _ h => absurd h (Nat.not_lt_zero _)⟩

/-- Off the newest band, the older stores. -/
theorem canon_off {k o : ℕ} (inb : ∀ a, (![o, 0] : Fin 2 → ℕ) a + (![k, n] : Fin 2 → ℕ) a ≤ (⟨2, ![m, n]⟩ : Shape).size a)
    (w : (⟨2, ![k, n]⟩ : Shape).Idx → Val e) (L : List (View.Piece Val (⟨2, ![m, n]⟩ : Shape) e)) (r : Fin m) (c : Fin n)
    (h : r.val < o ∨ o + k ≤ r.val) :
    View.canon ((⟨Rect.unit (s := (⟨2, ![m, n]⟩ : Shape)) ![o, 0] ![k, n] inb, w⟩ : View.Piece Val (⟨2, ![m, n]⟩ : Shape) e) :: L) (ix2 r c)
      = View.canon L (ix2 r c) := by
  refine View.canon_cons_of_not_mem _ _ fun hm => ?_
  have h0 := (Rect.mem_set_unit (s := (⟨2, ![m, n]⟩ : Shape)) (off := ![o, 0]) (size := ![k, n]) (inb := inb)).mp hm 0
  have e0 : ((ix2 r c : (⟨2, ![m, n]⟩ : Shape).Idx) 0 : ℕ) = r.val := rfl
  have e1 : (![o, 0] : Fin 2 → ℕ) 0 = o := rfl
  have e2 : (![k, n] : Fin 2 → ℕ) 0 = k := rfl
  rw [e0, e1, e2] at h0
  omega

/-- On the newest band, its payload. -/
theorem canon_on {k o : ℕ} (inb : ∀ a, (![o, 0] : Fin 2 → ℕ) a + (![k, n] : Fin 2 → ℕ) a ≤ (⟨2, ![m, n]⟩ : Shape).size a)
    (w : (⟨2, ![k, n]⟩ : Shape).Idx → Val e) (L : List (View.Piece Val (⟨2, ![m, n]⟩ : Shape) e)) (r : Fin m) (c : Fin n)
    (x : Fin k) (h : r.val = o + x.val) :
    View.canon ((⟨Rect.unit (s := (⟨2, ![m, n]⟩ : Shape)) ![o, 0] ![k, n] inb, w⟩ : View.Piece Val (⟨2, ![m, n]⟩ : Shape) e) :: L) (ix2 r c)
      = w (ix2 x c) := by
  have e : (ix2 r c : (⟨2, ![m, n]⟩ : Shape).Idx)
      = (Rect.unit (s := (⟨2, ![m, n]⟩ : Shape)) ![o, 0] ![k, n] inb).emb (ix2 x c : (⟨2, ![k, n]⟩ : Shape).Idx) := by
    funext a
    apply Fin.ext
    rw [Rect.emb_apply]
    match a with
    | ⟨0, _⟩ => show r.val = o + 1 * x.val; omega
    | ⟨1, _⟩ => show c.val = 0 + 1 * c.val; omega
  rw [e]
  exact View.canon_cons_emb _ _ _ _

/-- A load of a band of a whole value. -/
theorem ld_band {k o : ℕ} (X : (⟨2, ![m, n]⟩ : Shape).Idx → Val e)
    (inb : ∀ a, (![o, 0] : Fin 2 → ℕ) a + (![k, n] : Fin 2 → ℕ) a ≤ (⟨2, ![m, n]⟩ : Shape).size a)
    (r : Fin m) (x : Fin k) (c : Fin n) (h : r.val = o + x.val) :
    View.ld X (Rect.unit (s := (⟨2, ![m, n]⟩ : Shape)) ![o, 0] ![k, n] inb) (ix2 x c : (⟨2, ![k, n]⟩ : Shape).Idx) = X (ix2 r c) := by
  refine congrArg X (funext fun a => Fin.ext ?_)
  match a with
  | ⟨0, _⟩ => show o + 1 * x.val = r.val; omega
  | ⟨1, _⟩ => show 0 + 1 * c.val = c.val; omega

/-- A load of a band reads the band's rows. -/
theorem readCov_band {k o : ℕ} {sig : RefSig} {κ : Kind} {sp : Space} (v : View sig κ sp (⟨2, ![m, n]⟩ : Shape) e)
    (L : List (View.Piece Val (⟨2, ![m, n]⟩ : Shape) e))
    (inb : ∀ a, (![o, 0] : Fin 2 → ℕ) a + (![k, n] : Fin 2 → ℕ) a ≤ (⟨2, ![m, n]⟩ : Shape).size a)
    (r : Fin m) (x : Fin k) (c : Fin n) (h : r.val = o + x.val) :
    v.readCov L (Rect.unit (s := (⟨2, ![m, n]⟩ : Shape)) ![o, 0] ![k, n] inb).toLoadRect (ix2 x c : (⟨2, ![k, n]⟩ : Shape).Idx)
      = View.canon L (ix2 r c) := by
  rw [View.readCov_eq_canon']
  refine congrArg (View.canon L) (funext fun a => Fin.ext ?_)
  match a with
  | ⟨0, _⟩ => show o + 1 * x.val = r.val; omega
  | ⟨1, _⟩ => show 0 + 1 * c.val = c.val; omega

variable {A G : Fin m → Fin n → Val e} {L : List (View.Piece Val (⟨2, ![m, n]⟩ : Shape) e)} {f f' a a' k : ℕ}

/-- A band that continues the intermediate rows, nothing beyond the finished ones being held yet. -/
theorem Upto.next (inb : ∀ a, (![f, 0] : Fin 2 → ℕ) a + (![k, n] : Fin 2 → ℕ) a ≤ (⟨2, ![m, n]⟩ : Shape).size a)
    (w : (⟨2, ![k, n]⟩ : Shape).Idx → Val e) (h : Upto A G L f f) (ha : a' = f + k)
    (hw : ∀ (r : Fin m) (x : Fin k) (c : Fin n), r.val = f + x.val → w (ix2 x c) = A r c) :
    Upto A G ((⟨Rect.unit (s := (⟨2, ![m, n]⟩ : Shape)) ![f, 0] ![k, n] inb, w⟩ : View.Piece Val (⟨2, ![m, n]⟩ : Shape) e) :: L) f a' := by
  intro r c
  refine ⟨fun hr => ?_, fun h1 h2 => ?_⟩
  · rw [canon_off inb w L r c (.inl hr)]; exact (h r c).1 hr
  · rw [canon_on inb w L r c ⟨r.val - f, by omega⟩ (by show r.val = f + (r.val - f); omega)]
    exact hw _ _ _ (by show r.val = f + (r.val - f); omega)

/-- A band that finishes the first unfinished rows, made from what they held. -/
theorem Upto.finish (inb : ∀ a, (![f, 0] : Fin 2 → ℕ) a + (![k, n] : Fin 2 → ℕ) a ≤ (⟨2, ![m, n]⟩ : Shape).size a)
    (w : (⟨2, ![k, n]⟩ : Shape).Idx → Val e) (h : Upto A G L f a) (hf : f' = f + k) (ha : f + k ≤ a)
    (hw : ∀ (r : Fin m) (x : Fin k) (c : Fin n), r.val = f + x.val →
      (∀ (X : (⟨2, ![m, n]⟩ : Shape).Idx → Val e) (c' : Fin n),
        View.ld X (Rect.unit (s := (⟨2, ![m, n]⟩ : Shape)) ![f, 0] ![k, n] inb) (ix2 x c' : (⟨2, ![k, n]⟩ : Shape).Idx) = X (ix2 r c')) →
      (∀ {sig : RefSig} {κ : Kind} {sp : Space} (v : View sig κ sp (⟨2, ![m, n]⟩ : Shape) e) (c' : Fin n),
        v.readCov L (Rect.unit (s := (⟨2, ![m, n]⟩ : Shape)) ![f, 0] ![k, n] inb).toLoadRect (ix2 x c' : (⟨2, ![k, n]⟩ : Shape).Idx) = A r c') → w (ix2 x c) = G r c) :
    Upto A G ((⟨Rect.unit (s := (⟨2, ![m, n]⟩ : Shape)) ![f, 0] ![k, n] inb, w⟩ : View.Piece Val (⟨2, ![m, n]⟩ : Shape) e) :: L) f' a := by
  subst hf
  intro r c
  refine ⟨fun hr => ?_, fun h1 h2 => ?_⟩
  · rcases Nat.lt_or_ge r.val f with h0 | h0
    · rw [canon_off inb _ L r c (.inl h0)]; exact (h r c).1 h0
    · have e : r.val = f + (⟨r.val - f, by omega⟩ : Fin k).val := by show r.val = f + (r.val - f); omega
      rw [canon_on inb _ L r c _ e]
      refine hw r _ c e (fun X c' => ld_band X inb r _ c' e) fun v c' => ?_
      rw [readCov_band v L inb r _ c' e]
      exact (h r c').2 h0 (by omega)
  · rw [canon_off inb _ L r c (.inr h1)]; exact (h r c).2 (by omega) h2

/-- A band of finished rows, made of nothing the array held. -/
theorem Upto.store (inb : ∀ a, (![f, 0] : Fin 2 → ℕ) a + (![k, n] : Fin 2 → ℕ) a ≤ (⟨2, ![m, n]⟩ : Shape).size a)
    (w : (⟨2, ![k, n]⟩ : Shape).Idx → Val e) (h : Upto A G L f f) (hf : f' = f + k)
    (hw : ∀ (r : Fin m) (x : Fin k) (c : Fin n), r.val = f + x.val → w (ix2 x c) = G r c) :
    Upto A G ((⟨Rect.unit (s := (⟨2, ![m, n]⟩ : Shape)) ![f, 0] ![k, n] inb, w⟩ : View.Piece Val (⟨2, ![m, n]⟩ : Shape) e) :: L) f' f' := by
  subst hf
  intro r c
  refine ⟨fun hr => ?_, fun h1 h2 => absurd h2 (by omega)⟩
  rcases Nat.lt_or_ge r.val f with h0 | h0
  · rw [canon_off inb w L r c (.inl h0)]; exact (h r c).1 h0
  · rw [canon_on inb w L r c ⟨r.val - f, by omega⟩ (by show r.val = f + (r.val - f); omega)]
    exact hw _ _ _ (by show r.val = f + (r.val - f); omega)

/-- A load of a band of finished rows. -/
theorem Upto.read {k o : ℕ} {sig : RefSig} {κ : Kind} {sp : Space} (h : Upto A G L f f) (v : View sig κ sp (⟨2, ![m, n]⟩ : Shape) e)
    (inb : ∀ a, (![o, 0] : Fin 2 → ℕ) a + (![k, n] : Fin 2 → ℕ) a ≤ (⟨2, ![m, n]⟩ : Shape).size a) (hk : o + k ≤ f)
    (r : Fin m) (x : Fin k) (c : Fin n) (hr : r.val = o + x.val) :
    v.readCov L (Rect.unit (s := (⟨2, ![m, n]⟩ : Shape)) ![o, 0] ![k, n] inb).toLoadRect (ix2 x c : (⟨2, ![k, n]⟩ : Shape).Idx) = G r c := by
  rw [readCov_band v L inb r x c hr]
  exact (h r c).1 (by omega)

end Cert.RowStores

end
-- ==== Proof.FfnRows.lean ====
module

public import proofs.«01_k».proof.Proof.Gen.Kernel2Ideal.Frame
public import proofs.«01_k».proof.Proof.FeedForward
public import proofs.«01_k».proof.Proof.RowStores
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open Cert.FeedForward Cert.RowStores

namespace Cert.Kernel2Ideal.Rows

open Cert.Kernel2Ideal Cert.Kernel2Ideal.Gen

variable (m : (ℓ : Loc nD τ sig) → Buf (Elt Ideal) ℓ)

/-- One hidden activation of a normed row, from the blocks of the two up projections. -/
def hid (wg wu : FVec Ideal S2048x512 .bf16) (h : Fin 2048 → EReal) (k : Fin 512) : EReal :=
  act (∑ l, h l * wg (ix2 l k)) (∑ l, h l * wu (ix2 l k))

/-- What one block of hidden columns contributes to a row of the down projection. -/
def down (wg wu : FVec Ideal S2048x512 .bf16) (wd : FVec Ideal S512x2048 .bf16) (h : Fin 2048 → EReal) (n : Fin 2048) : EReal :=
  ∑ k, hid wg wu h k * wd (ix2 k n)

theorem down_congr (wg wu : FVec Ideal S2048x512 .bf16) (wd : FVec Ideal S512x2048 .bf16) {h h' : Fin 2048 → EReal}
    (e : ∀ l, h l = h' l) (n : Fin 2048) : down wg wu wd h n = down wg wu wd h' n := by rw [funext e]

/-- Thirty-two normed rows. -/
theorem norm_tile (v : FVec Ideal S32x2048 .f32) (g : FVec Ideal S1x2048 .f32) (r : Fin 32) (k : Fin 2048) :
    k0_pay7 (F := Ideal) v g (ix2 r k) = rms (fun l => v (ix2 r l)) (fun l => g (ix2 0 l)) k := by
  unfold k0_pay7 rms
  pointwise

/-- Two hundred and fifty-six rows of one block of hidden columns. -/
theorem act_tile (wg wu : FVec Ideal S2048x512 .bf16) (h : FVec Ideal S256x2048 .bf16) (r : Fin 256) (k : Fin 512) :
    k0_pay21 (F := Ideal) wg wu h (ix2 r k) = hid wg wu (fun l => h (ix2 r l)) k := by
  unfold k0_pay21 hid act
  pointwise

/-- All rows of one block of hidden columns. -/
theorem act_rows (wg wu : FVec Ideal S2048x512 .bf16) (h : FVec Ideal S1024x2048 .bf16) (r : Fin 1024) (k : Fin 512) :
    k0_pay69 (F := Ideal) wg wu h (ix2 r k) = hid wg wu (fun l => h (ix2 r l)) k := by
  unfold k0_pay69 hid act
  pointwise

/-- Thirty-two finished rows, row by row. -/
theorem fin_tile (x o : FVec Ideal S32x2048 .f32) (g : FVec Ideal S1x2048 .f32) (r : Fin 32) (k : Fin 2048) :
    k0_pay3 (F := Ideal) (k0_pay135 (F := Ideal) x) o g (ix2 r k)
      = fin (fun l => x (ix2 r l)) (fun l => o (ix2 r l)) (fun l => g (ix2 0 l)) k := by
  unfold k0_pay3 k0_pay135 fin rms
  pointwise

/-- A middle point adds one block's contribution to every row. -/
theorem mid_rows (wg wu : FVec Ideal S2048x512 .bf16) (wd : FVec Ideal S512x2048 .bf16) (h : FVec Ideal S1024x2048 .bf16)
    (o : FVec Ideal S1024x2048 .f32) (r : Fin 1024) (n : Fin 2048) :
    k0_pay2 (F := Ideal) wg wu wd h o (ix2 r n) = o (ix2 r n) + down wg wu wd (fun l => h (ix2 r l)) n := by
  unfold k0_pay2 down hid act
  pointwise

/-- The first block's contribution, its hidden rows made a quarter at a time. -/
theorem first_rows (wd : FVec Ideal S512x2048 .bf16) (a b c d : FVec Ideal S256x512 .bf16) (H : Fin 1024 → Fin 512 → EReal)
    (ha : ∀ (x : Fin 256) (r : Fin 1024) k, r.val = 0 + x.val → a (ix2 x k) = H r k)
    (hb : ∀ (x : Fin 256) (r : Fin 1024) k, r.val = 256 + x.val → b (ix2 x k) = H r k)
    (hc : ∀ (x : Fin 256) (r : Fin 1024) k, r.val = 512 + x.val → c (ix2 x k) = H r k)
    (hd : ∀ (x : Fin 256) (r : Fin 1024) k, r.val = 768 + x.val → d (ix2 x k) = H r k) (r : Fin 1024) (n : Fin 2048) :
    k0_pay1 (F := Ideal) wd a b c d (ix2 r n) = ∑ k, H r k * wd (ix2 k n) := by
  unfold k0_pay1
  pointwise
  refine Finset.sum_congr rfl fun k _ => congrArg (· * _) ?_
  have hr := r.isLt
  split_ifs
  all_goals first
    | exact absurd rfl ‹¬_›
    | exact ha _ r k (by simp only []; omega)
    | exact hb _ r k (by simp only []; omega)
    | exact hc _ r k (by simp only []; omega)
    | exact hd _ r k (by simp only []; omega)

end Cert.Kernel2Ideal.Rows

end
-- ==== Proof.FfnCases.lean ====
module

public import proofs.«01_k».proof.Proof.Gen.Kernel2Ideal.Frame
public import proofs.«01_k».proof.Proof.FfnRows
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)
open Cert.FeedForward Cert.RowStores

namespace Cert.Kernel2Ideal.Rows

open Cert.Kernel2Ideal Cert.Kernel2Ideal.Gen

variable (m : (ℓ : Loc nD τ sig) → Buf (Elt Ideal) ℓ)

/-- Row `r` of a point's block of the input, normed. -/
def normed (c : Dev nD) (t : Fin cfg0.N) (r : Fin 1024) (k : Fin 2048) : EReal :=
  rms (fun l => iblk m c 0 t (ix2 r l)) (fun l => iblk m c 1 t (ix2 0 l)) k

/-- What a point's block of hidden columns contributes to a row `h`. -/
def downAt (c : Dev nD) (t : Fin cfg0.N) (h : Fin 2048 → EReal) (n : Fin 2048) : EReal :=
  down (iblk m c 3 t) (iblk m c 4 t) (iblk m c 5 t) h n

theorem cast4 (w : FVec Ideal S2048x512 .bf16) : k0_pay4 (F := Ideal) w = w := by
  funext x; idx_vars x; unfold k0_pay4; pointwise

theorem cast5 (w : FVec Ideal S2048x512 .bf16) : k0_pay5 (F := Ideal) w = w := by
  funext x; idx_vars x; unfold k0_pay5; pointwise

theorem cast6 (w : FVec Ideal S512x2048 .bf16) : k0_pay6 (F := Ideal) w = w := by
  funext x; idx_vars x; unfold k0_pay6; pointwise

/-- The scratch after the first point of a run: the normed rows. -/
theorem first_scratch (c : Dev nD) (t : Fin cfg0.N) (h0 : t.val % 11 = 0) (h1 : ¬(1 ≤ t.val % 11 ∧ t.val % 11 ≤ 9))
    (h2 : ¬t.val % 11 = 10) (r : Fin 1024) (k : Fin 2048) :
    (outsAt0 m c t.val t.isLt).2 (ix2 r k) = normed m c t r k := by
  rw [outsAt0_A m c t h0 h1 h2]
  frame_out
  refine ((?_ : Upto (Val := Elt Ideal) (e := .bf16) (normed m c t) (normed m c t) _ 1024 1024) r k).1 r.isLt
  repeat' refine Upto.store _ _ ?_ rfl ?_
  all_goals first
    | exact Upto.nil _ _
    | exact fun r x l hr => (norm_tile _ _ _ _).trans (rms_congr (fun l' => ld_band _ _ r x l' hr) (fun _ => rfl) _)

theorem first_out (c : Dev nD) (t : Fin cfg0.N) (h0 : t.val % 11 = 0) (h1 : ¬(1 ≤ t.val % 11 ∧ t.val % 11 ≤ 9))
    (h2 : ¬t.val % 11 = 10) (r : Fin 1024) (n : Fin 2048) :
    (outsAt0 m c t.val t.isLt).1 (ix2 r n) = downAt m c t (normed m c t r) n := by
  rw [outsAt0_A m c t h0 h1 h2]
  frame_out
  refine (first_rows _ _ _ _ _ (fun r k => hid (k0_pay4 (iblk m c 3 t)) (k0_pay5 (iblk m c 4 t)) (normed m c t r) k)
    ?_ ?_ ?_ ?_ r n).trans ?_
  rotate_right
  · rw [cast4, cast5, cast6]; rfl
  all_goals
    refine fun x r k hr => (act_tile _ _ _ _ _).trans (congrArg (fun h => hid _ _ h k) (funext fun l => ?_))
    refine Upto.read (Val := Elt Ideal) (e := .bf16) (A := normed m c t) (G := normed m c t) ?_ _ _ (Nat.le_refl _) r x l hr
    repeat' refine Upto.store _ _ ?_ rfl ?_
  all_goals first
    | exact Upto.nil _ _
    | exact fun r x l hr => (norm_tile _ _ _ _).trans (rms_congr (fun l' => ld_band _ _ r x l' hr) (fun _ => rfl) _)

/-- A middle point leaves the scratch as it was and adds its block's contribution to every row. -/
theorem mid_out (c : Dev nD) (t : Fin cfg0.N) (h0 : ¬t.val % 11 = 0) (h1 : 1 ≤ t.val % 11 ∧ t.val % 11 ≤ 9)
    (h2 : ¬t.val % 11 = 10) (r : Fin 1024) (n : Fin 2048) :
    (outsAt0 m c t.val t.isLt).1 (ix2 r n)
      = (outsAt0 m c (t.val - 1) (Nat.lt_of_le_of_lt (Nat.sub_le _ _) t.isLt)).1 (ix2 r n)
        + downAt m c t (fun l => (outsAt0 m c (t.val - 1) (Nat.lt_of_le_of_lt (Nat.sub_le _ _) t.isLt)).2 (ix2 r l)) n := by
  rw [outsAt0_B m c t h0 h1 h2]
  frame_out
  refine (mid_rows _ _ _ _ _ r n).trans (congrArg (_ + ·) (down_congr _ _ _ (fun l => ?_) n))
  rw [read_unread_whole]

theorem cast68 (w : FVec Ideal S512x2048 .bf16) : k0_pay68 (F := Ideal) w = w := by
  funext x; idx_vars x; unfold k0_pay68; pointwise

/-- A quarter of the rows of the last block's contribution, added to what was there. -/
theorem quarter0 (wg wu : FVec Ideal S2048x512 .bf16) (wd : FVec Ideal S512x2048 .bf16) (h : FVec Ideal S1024x2048 .bf16)
    (o : FVec Ideal S256x2048 .f32) (r : Fin 1024) (x : Fin 256) (n : Fin 2048) (hr : r.val = 0 + x.val) :
    k0_pay70 (F := Ideal) wg wu wd h o (ix2 x n) = o (ix2 x n) + ∑ k, k0_pay69 (F := Ideal) wg wu h (ix2 r k) * wd (ix2 k n) := by
  obtain ⟨r, hlt⟩ := r
  obtain rfl : r = x.val := by simp only [] at hr; omega
  unfold k0_pay70
  rw [cast68]
  pointwise

theorem quarter1 (wd : FVec Ideal S512x2048 .bf16) (a : FVec Ideal S1024x512 .bf16)
    (o : FVec Ideal S256x2048 .f32) (r : Fin 1024) (x : Fin 256) (n : Fin 2048) (hr : r.val = 256 + x.val) :
    k0_pay89 (F := Ideal) wd a o (ix2 x n) = o (ix2 x n) + ∑ k, a (ix2 r k) * wd (ix2 k n) := by
  obtain ⟨r, hlt⟩ := r
  obtain rfl : r = 256 + x.val := hr
  unfold k0_pay89
  pointwise

theorem quarter2 (wd : FVec Ideal S512x2048 .bf16) (a : FVec Ideal S1024x512 .bf16)
    (o : FVec Ideal S256x2048 .f32) (r : Fin 1024) (x : Fin 256) (n : Fin 2048) (hr : r.val = 512 + x.val) :
    k0_pay105 (F := Ideal) wd a o (ix2 x n) = o (ix2 x n) + ∑ k, a (ix2 r k) * wd (ix2 k n) := by
  obtain ⟨r, hlt⟩ := r
  obtain rfl : r = 512 + x.val := hr
  unfold k0_pay105
  pointwise

theorem quarter3 (wd : FVec Ideal S512x2048 .bf16) (a : FVec Ideal S1024x512 .bf16)
    (o : FVec Ideal S256x2048 .f32) (r : Fin 1024) (x : Fin 256) (n : Fin 2048) (hr : r.val = 768 + x.val) :
    k0_pay120 (F := Ideal) wd a o (ix2 x n) = o (ix2 x n) + ∑ k, a (ix2 r k) * wd (ix2 k n) := by
  obtain ⟨r, hlt⟩ := r
  obtain rfl : r = 768 + x.val := hr
  unfold k0_pay120
  pointwise

/-- The state before a point: what the point before it left. -/
abbrev prev (c : Dev nD) (t : Fin cfg0.N) := outsAt0 m c (t.val - 1) (Nat.lt_of_le_of_lt (Nat.sub_le _ _) t.isLt)

/-- A row with a point's contribution added. -/
def added (c : Dev nD) (t : Fin cfg0.N) (r : Fin 1024) (n : Fin 2048) : EReal :=
  (prev m c t).1 (ix2 r n) + downAt m c t (fun l => (prev m c t).2 (ix2 r l)) n

/-- A finished row. -/
def finished (c : Dev nD) (t : Fin cfg0.N) (r : Fin 1024) (n : Fin 2048) : EReal :=
  fin (fun l => iblk m c 0 t (ix2 r l)) (added m c t r) (fun l => iblk m c 2 t (ix2 0 l)) n

theorem added_of (c : Dev nD) (t : Fin cfg0.N) (h : FVec Ideal S1024x2048 .bf16) (wd : FVec Ideal S512x2048 .bf16)
    (hh : h = (prev m c t).2) (hwd : wd = iblk m c 5 t) (o : FVec Ideal S256x2048 .f32) (r : Fin 1024) (x : Fin 256)
    (n : Fin 2048) (ho : o (ix2 x n) = (prev m c t).1 (ix2 r n)) :
    o (ix2 x n) + ∑ k, k0_pay69 (F := Ideal) (iblk m c 3 t) (iblk m c 4 t) h (ix2 r k) * wd (ix2 k n) = added m c t r n := by
  subst hh hwd
  rw [ho]
  exact congrArg (_ + ·) (Finset.sum_congr rfl fun k _ => congrArg (· * _) (act_rows _ _ _ _ _))

set_option maxHeartbeats 2000000 in
/-- The last point adds its block's contribution and finishes every row. -/
theorem last_out (c : Dev nD) (t : Fin cfg0.N) (h0 : ¬t.val % 11 = 0) (h1 : ¬(1 ≤ t.val % 11 ∧ t.val % 11 ≤ 9))
    (h2 : t.val % 11 = 10) (r : Fin 1024) (n : Fin 2048) :
    (outsAt0 m c t.val t.isLt).1 (ix2 r n) = finished m c t r n := by
  rw [outsAt0_C m c t h0 h1 h2]
  frame_out
  refine ((?_ : Upto (Val := Elt Ideal) (e := .f32) (added m c t) (finished m c t) _ 1024 1024) r n).1 r.isLt
  iterate 4
    iterate 8 refine Upto.finish _ _ ?_ rfl (by decide) ?_
    refine Upto.next _ _ ?_ rfl ?_
  · exact Upto.nil _ _
  · exact fun r x n hr => (quarter0 _ _ _ _ _ r x n hr).trans
      (added_of m c t _ _ (read_unread_whole _ _ _) rfl _ r x n (ld_band _ _ r x n hr))
  all_goals try
    intro r x n hr hx ho
    replace ho := ho (ms0_6 t).view
    replace hx := hx (iblk m c 0 t)
    revert ho hx
    generalize View.readCov (Val := Elt Ideal) (ms0_6 t).view _ _ = O
    generalize View.ld (Val := Elt Ideal) (iblk m c 0 t) _ = X
    intro ho hx
    exact (fin_tile X O _ x n).trans (fin_congr hx ho (fun _ => rfl) n)

  · exact fun r x n hr => (quarter1 _ _ _ r x n hr).trans
      (added_of m c t _ _ (read_unread_whole _ _ _) (cast68 _) _ r x n (ld_band _ _ r x n hr))
  · exact fun r x n hr => (quarter2 _ _ _ r x n hr).trans
      (added_of m c t _ _ (read_unread_whole _ _ _) (cast68 _) _ r x n (ld_band _ _ r x n hr))
  · exact fun r x n hr => (quarter3 _ _ _ r x n hr).trans
      (added_of m c t _ _ (read_unread_whole _ _ _) (cast68 _) _ r x n (ld_band _ _ r x n hr))

theorem mid_scratch (c : Dev nD) (t : Fin cfg0.N) (h0 : ¬t.val % 11 = 0) (h1 : 1 ≤ t.val % 11 ∧ t.val % 11 ≤ 9)
    (h2 : ¬t.val % 11 = 10) : (outsAt0 m c t.val t.isLt).2 = (prev m c t).2 := by
  rw [outsAt0_B m c t h0 h1 h2]
  rfl

end Cert.Kernel2Ideal.Rows

end
-- ==== Proof.FfnReference.lean ====
module

public import proofs.«01_k».proof.Proof.Gen.Reference2Ideal.Read
public import proofs.«01_k».proof.Proof.FeedForward
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Cert.FeedForward

namespace Cert.Reference2Ideal.Rows

open Cert.Reference2Ideal Cert.Reference2Ideal.Read

variable (x : FVec Ideal S4x2048x2048 .f32) (g p : FVec Ideal S1x2048 .f32) (w : FVec Ideal S1x2048x11264 .f32)
  (d : FVec Ideal S1x5632x2048 .f32)

/-- The normed input. -/
theorem norm_at (b : Fin 4) (s : Fin 2048) (k : Fin 2048) :
    val_main_v13 (F := Ideal) x g (ix3 b s k) = rms (fun l => x (ix3 b s l)) (fun l => g (ix2 0 l)) k := by
  unfold val_main_v13 val_main_v12 val_main_v11 val_main_v10 val_main_v9 val_main_v8 val_main_v7 val_main_v6 val_main_v5
    val_main_v4 val_main_v3 val_main_v2 val_main_v1 val_main_v0 val_main_cst val_main_cst_0 val_main_cst_1 rms
  pointwise

/-- Its projections up. -/
theorem up_at (b : Fin 4) (s : Fin 2048) (k : Fin 11264) :
    val_main_v16 (F := Ideal) x g w (ix3 b s k)
      = ∑ l : Fin 2048, rms (fun l => x (ix3 b s l)) (fun l => g (ix2 0 l)) l * w (ix3 0 l k) := by
  unfold val_main_v16 val_main_v14
  pointwise
  exact Finset.sum_congr rfl fun l _ => by rw [norm_at]

/-- The gated activations. -/
theorem act_at (b : Fin 4) (s : Fin 2048) (k : Fin 5632) :
    val_main_v20 (F := Ideal) x g w (ix3 b s k)
      = act (val_main_v16 (F := Ideal) x g w (ix3 b s ⟨k.val, by omega⟩))
          (val_main_v16 (F := Ideal) x g w (ix3 b s ⟨5632 + k.val, by omega⟩)) := by
  rw [act_eq]
  unfold val_main_v20 val_main_v19 val_main_call0_v5 val_main_call0_v4 val_main_call0_v3 val_main_call0_v2 val_main_call0_v1
    val_main_call0_v0 val_main_call0_cst val_main_call0_cst_0 val_main_v18 val_main_v17
  pointwise

/-- The projection down. -/
theorem down_at (b : Fin 4) (s : Fin 2048) (n : Fin 2048) :
    val_main_v21 (F := Ideal) x g w d (ix3 b s n)
      = ∑ k : Fin 5632, val_main_v20 (F := Ideal) x g w (ix3 b s k) * d (ix3 0 k n) := by
  unfold val_main_v21 val_main_v15
  pointwise

/-- The result. -/
theorem result_at (b : Fin 4) (s : Fin 2048) (n : Fin 2048) :
    val_main_v38 (F := Ideal) x g p w d (ix3 b s n)
      = fin (fun l => x (ix3 b s l)) (fun l => val_main_v21 (F := Ideal) x g w d (ix3 b s l)) (fun l => p (ix2 0 l)) n := by
  unfold val_main_v38 val_main_v37 val_main_v36 val_main_v35 val_main_v34 val_main_v33 val_main_v32 val_main_v31 val_main_v30
    val_main_v29 val_main_v28 val_main_v27 val_main_v26 val_main_v25 val_main_v24 val_main_v23 val_main_v22 val_main_cst_2 val_main_cst_3
    val_main_cst_4 val_main_cst_5 fin rms
  pointwise

end Cert.Reference2Ideal.Rows

end
-- ==== Proof.FfnValue.lean ====
module

public import proofs.«01_k».proof.Proof.Gen.Kernel2Ideal.Frame
public import proofs.«01_k».proof.Proof.FfnCases
public import proofs.«01_k».proof.Proof.Gen.Kernel2Ideal.Value
public import proofs.«01_k».proof.Proof.FfnReference
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open Cert.FeedForward Cert.RowStores

namespace Cert.Kernel2Ideal.Rows

open Cert.Kernel2Ideal Cert.Kernel2Ideal.Gen

variable (m : (ℓ : Loc nD τ sig) → Buf (Elt Ideal) ℓ)

/-- Every window's block at every grid point. -/
theorem places : ∀ t : Fin cfg0.N, win0_0.index t = ![t.val / 11, 0] ∧ win0_1.index t = ![0, 0] ∧ win0_2.index t = ![0, 0]
    ∧ win0_3.index t = ![0, t.val % 11] ∧ win0_4.index t = ![0, t.val % 11 + 11] ∧ win0_5.index t = ![t.val % 11, 0] :=
  (by decide +kernel : ∀ t : Fin grid0.N, _)

theorem lt_N (t : Fin cfg0.N) : t.val < 88 := t.isLt

/-- Row `R` of the input, the batch and the position taken together. -/
def inRow (c : Dev nD) (R : ℕ) (l : Fin 2048) : EReal :=
  (m ((c : Thread nD τ).loc main_arg0)) (ix3 ⟨R / 2048 % 4, Nat.mod_lt _ (by decide)⟩ ⟨R % 2048, Nat.mod_lt _ (by decide)⟩ l)

/-- Column `k` of the up projections, the gates first. -/
def upCol (c : Dev nD) (l : Fin 2048) (k : ℕ) : EReal :=
  (m ((c : Thread nD τ).loc main_arg3)) (ix3 0 l ⟨k % 11264, Nat.mod_lt _ (by decide)⟩)

/-- Row `k` of the down projection. -/
def downRow (c : Dev nD) (k : ℕ) (n : Fin 2048) : EReal :=
  (m ((c : Thread nD τ).loc main_arg4)) (ix3 0 ⟨k % 5632, Nat.mod_lt _ (by decide)⟩ n)

theorem read0 (c : Dev nD) (t : Fin cfg0.N) (r : Fin 1024) (l : Fin 2048) :
    iblk m c 0 t (ix2 r l) = inRow m c (1024 * (t.val / 11) + r.val) l := by
  obtain ⟨e0, e1, e2, e3, e4, e5⟩ := places t
  have ht := lt_N t
  unfold inRow
  blk_simp [iblk, e0]
  entry_read
  pointwise
  blk_ext [e0]

theorem read3 (c : Dev nD) (t : Fin cfg0.N) (l : Fin 2048) (k : Fin 512) :
    iblk m c 3 t (ix2 l k) = upCol m c l (512 * (t.val % 11) + k.val) := by
  obtain ⟨e0, e1, e2, e3, e4, e5⟩ := places t
  unfold upCol
  blk_simp [iblk, e3]
  entry_read
  pointwise
  blk_ext [e3]

theorem read4 (c : Dev nD) (t : Fin cfg0.N) (l : Fin 2048) (k : Fin 512) :
    iblk m c 4 t (ix2 l k) = upCol m c l (5632 + (512 * (t.val % 11) + k.val)) := by
  obtain ⟨e0, e1, e2, e3, e4, e5⟩ := places t
  unfold upCol
  blk_simp [iblk, e4]
  entry_read
  pointwise
  blk_ext [e4]

theorem read5 (c : Dev nD) (t : Fin cfg0.N) (k : Fin 512) (n : Fin 2048) :
    iblk m c 5 t (ix2 k n) = downRow m c (512 * (t.val % 11) + k.val) n := by
  obtain ⟨e0, e1, e2, e3, e4, e5⟩ := places t
  unfold downRow
  blk_simp [iblk, e5]
  entry_read
  pointwise
  blk_ext [e5]

theorem read1 (c : Dev nD) (t : Fin cfg0.N) (l : Fin 2048) :
    iblk m c 1 t (ix2 0 l) = (m ((c : Thread nD τ).loc main_arg1)) (ix2 0 l) := by
  obtain ⟨e0, e1, e2, e3, e4, e5⟩ := places t
  blk_simp [iblk, e1]
  blk_ext [e1, V]

theorem read2 (c : Dev nD) (t : Fin cfg0.N) (l : Fin 2048) :
    iblk m c 2 t (ix2 0 l) = (m ((c : Thread nD τ).loc main_arg2)) (ix2 0 l) := by
  obtain ⟨e0, e1, e2, e3, e4, e5⟩ := places t
  blk_simp [iblk, e2]
  blk_ext [e2, V]

/-- Row `R` of the input, normed. -/
def normRow (c : Dev nD) (R : ℕ) (k : Fin 2048) : EReal :=
  rms (inRow m c R) (fun l => (m ((c : Thread nD τ).loc main_arg1)) (ix2 0 l)) k

/-- Hidden activation `k` of row `R`. -/
def hidden (c : Dev nD) (R k : ℕ) : EReal :=
  act (∑ l, normRow m c R l * upCol m c l k) (∑ l, normRow m c R l * upCol m c l (5632 + k))

/-- What the hidden columns of block `s` contribute to row `R`. -/
def contrib (c : Dev nD) (R s : ℕ) (n : Fin 2048) : EReal :=
  ∑ k : Fin 512, hidden m c R (512 * s + k.val) * downRow m c (512 * s + k.val) n

theorem normed_eq (c : Dev nD) (t : Fin cfg0.N) (r : Fin 1024) (k : Fin 2048) :
    normed m c t r k = normRow m c (1024 * (t.val / 11) + r.val) k :=
  rms_congr (fun l => read0 m c t r l) (fun l => read1 m c t l) k

theorem downAt_eq (c : Dev nD) (t : Fin cfg0.N) (R : ℕ) (h : Fin 2048 → EReal) (hh : ∀ l, h l = normRow m c R l)
    (n : Fin 2048) : downAt m c t h n = contrib m c R (t.val % 11) n := by
  obtain rfl : h = normRow m c R := funext hh
  unfold downAt down contrib hid hidden
  refine Finset.sum_congr rfl fun k _ => ?_
  rw [read5]
  congr 2 <;> refine Finset.sum_congr rfl fun l _ => ?_
  · rw [read3]
  · rw [read4]

/-- After step `j` of a run of points, the scratch holds the normed rows and the output the sum of the contributions of
    the blocks so far. -/
theorem upto (c : Dev nD) (i : ℕ) (hi : i < 8) : ∀ (j : ℕ) (hj : j ≤ 9) (r : Fin 1024) (n : Fin 2048),
    (outsAt0 m c (11 * i + j) (show 11 * i + j < 88 by omega)).2 (ix2 r n) = normRow m c (1024 * i + r.val) n
    ∧ (outsAt0 m c (11 * i + j) (show 11 * i + j < 88 by omega)).1 (ix2 r n)
        = ∑ s ∈ Finset.range (j + 1), contrib m c (1024 * i + r.val) s n := by
  intro j
  induction j with
  | zero =>
    intro hj r n
    have hN : 11 * i + 0 < cfg0.N := show 11 * i + 0 < 88 by omega
    have hd : (11 * i + 0) / 11 = i := by omega
    have hm : (11 * i + 0) % 11 = 0 := by omega
    have e := fun r k => normed_eq m c ⟨11 * i + 0, hN⟩ r k
    simp only [hd] at e
    refine ⟨(first_scratch m c ⟨11 * i + 0, hN⟩ hm (by simp only []; omega) (by simp only []; omega) r n).trans (e r n), ?_⟩
    refine (first_out m c ⟨11 * i + 0, hN⟩ hm (by simp only []; omega) (by simp only []; omega) r n).trans ?_
    rw [downAt_eq m c ⟨11 * i + 0, hN⟩ _ _ (e r) n, Finset.sum_range_one]
    simp only [hm]
  | succ j ih =>
    intro hj r n
    have hN : 11 * i + (j + 1) < cfg0.N := show 11 * i + (j + 1) < 88 by omega
    have hm : (11 * i + (j + 1)) % 11 = j + 1 := by omega
    have h0 : ¬(11 * i + (j + 1)) % 11 = 0 := by omega
    have h1 : 1 ≤ (11 * i + (j + 1)) % 11 ∧ (11 * i + (j + 1)) % 11 ≤ 9 := by omega
    have h2 : ¬(11 * i + (j + 1)) % 11 = 10 := by omega
    have ih := fun r n => ih (by omega) r n
    refine ⟨(congrFun (mid_scratch m c ⟨11 * i + (j + 1), hN⟩ h0 h1 h2) _).trans (ih r n).1, ?_⟩
    refine (mid_out m c ⟨11 * i + (j + 1), hN⟩ h0 h1 h2 r n).trans ?_
    refine (congrArg₂ (· + ·) (ih r n).2
      (downAt_eq m c ⟨11 * i + (j + 1), hN⟩ (1024 * i + r.val) _ (fun l => (ih r l).1) n)).trans ?_
    rw [Finset.sum_range_succ _ (j + 1)]
    simp only [hm]

/-- Row `R` of the result. -/
def outRow (c : Dev nD) (R : ℕ) (n : Fin 2048) : EReal :=
  fin (inRow m c R) (fun l => ∑ s ∈ Finset.range 11, contrib m c R s l)
    (fun l => (m ((c : Thread nD τ).loc main_arg2)) (ix2 0 l)) n

theorem last_eq (c : Dev nD) (i : ℕ) (hi : i < 8) (r : Fin 1024) (n : Fin 2048) :
    (outsAt0 m c (11 * i + 10) (show 11 * i + 10 < 88 by omega)).1 (ix2 r n) = outRow m c (1024 * i + r.val) n := by
  have hN : 11 * i + 10 < cfg0.N := show 11 * i + 10 < 88 by omega
  have hd : (11 * i + 10) / 11 = i := by omega
  have hm : (11 * i + 10) % 11 = 10 := by omega
  refine (last_out m c ⟨11 * i + 10, hN⟩ (by simp only []; omega) (by simp only []; omega) hm r n).trans ?_
  refine fin_congr (fun l => ?_) (fun l => ?_) (fun l => read2 m c _ l) n
  · rw [read0]; simp only [hd]
  · unfold added
    refine (congrArg₂ (· + ·) (upto m c i hi 9 (le_refl 9) r l).2
      (downAt_eq m c ⟨11 * i + 10, hN⟩ (1024 * i + r.val) _ (fun l => (upto m c i hi 9 (le_refl 9) r l).1) l)).trans ?_
    rw [Finset.sum_range_succ _ 10]
    simp only [hm]

/-- The array the region leaves. -/
theorem result_rows (c : Dev nD) (R : Fin 8192) (n : Fin 2048) :
    Value.G6 m c (ix2 R n) = outRow m c R.val n := by
  have hR := R.isLt
  have hi : R.val / 1024 < 8 := by omega
  have hp : Value.pt6Of (ix2 R n) = 11 * (R.val / 1024) + 10 := by
    show 11 * (1 * (R.val / 1024 - 0) + 1 * (n.val / 2048 - 0)) + 10 = _
    have := n.isLt
    omega
  have hl : Value.loc6Of (ix2 R n) = ix2 ⟨R.val % 1024, Nat.mod_lt _ (by decide)⟩ n := by
    funext a
    apply Fin.ext
    match a with
    | ⟨0, _⟩ => rfl
    | ⟨1, _⟩ => show n.val % 2048 = n.val; have := n.isLt; omega
  have hlt : Value.pt6Of (ix2 R n) < cfg0.N := by rw [hp]; show _ < 88; omega
  unfold Value.G6
  rw [dif_pos hlt, ← Value.outsAt0_sweep m c _ hlt, hl]
  simp only [hp]
  rw [last_eq m c _ hi]
  congr 1
  show 1024 * (R.val / 1024) + R.val % 1024 = R.val
  omega

/-- The reference's result, row by row. -/
theorem reference_rows (c : Dev nD) (R : Fin 8192) (n : Fin 2048) :
    Reference2Ideal.Read.val_main_v39 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) (ix2 R n)
      = outRow m c R.val n := by
  have hR := R.isLt
  have hn := n.isLt
  have ei : Reference2Ideal.Read.idx_main_v39 (ix2 R n)
      = ix3 ⟨R.val / 2048 % 4, Nat.mod_lt _ (by decide)⟩ ⟨R.val % 2048, Nat.mod_lt _ (by decide)⟩ n := by
    funext a
    apply Fin.ext
    match a with
    | ⟨0, _⟩ => show (R.val * 2048 + n.val) / 4194304 = R.val / 2048 % 4; omega
    | ⟨1, _⟩ => show (R.val * 2048 + n.val) / 2048 % 2048 = R.val % 2048; omega
    | ⟨2, _⟩ => show (R.val * 2048 + n.val) % 2048 = n.val; omega
  rw [Reference2Ideal.Read.val_main_v39_apply, ei, Reference2Ideal.Rows.result_at]
  refine fin_congr (fun _ => rfl) (fun l => ?_) (fun _ => rfl) n
  rw [Reference2Ideal.Rows.down_at, Finset.sum_range]
  refine (Fin.sum_mul_add_congr (S := 11) (n := 512) (fun s k hl => ?_)).symm
  rw [Reference2Ideal.Rows.act_at, Reference2Ideal.Rows.up_at, Reference2Ideal.Rows.up_at]
  have es : 512 * s.val + k.val = s.val * 512 + k.val := by omega
  unfold hidden downRow upCol normRow inRow
  rw [es]
  have e1 : (s.val * 512 + k.val) % 5632 = s.val * 512 + k.val := Nat.mod_eq_of_lt hl
  have e2 : (s.val * 512 + k.val) % 11264 = s.val * 512 + k.val := Nat.mod_eq_of_lt (by omega)
  have e3 : (5632 + (s.val * 512 + k.val)) % 11264 = 5632 + (s.val * 512 + k.val) := Nat.mod_eq_of_lt (by omega)
  simp only [e1, e2, e3]

end Cert.Kernel2Ideal.Rows

end
-- ==== Proof.FfnClaim.lean ====
/- The feed-forward call against its reference. -/
module

public import proofs.«01_k».proof.Defs
public import proofs.«01_k».proof.Proof.FfnValue
public import Idealize.ShloMosaic.Lib.Claim

@[expose] public section

set_option maxRecDepth 16384

noncomputable section

namespace Cert.FfnClaim

open Idealize.ShloMosaic Idealize.SL.Sem

/-- The array the call leaves is the reference's. -/
theorem final (m : (ℓ : Loc Cert.Kernel2Ideal.nD Cert.Kernel2Ideal.τ Cert.Kernel2Ideal.sig) → Buf (Elt Ideal) ℓ)
    (c : Dev Cert.Kernel2Ideal.nD) :
    Cert.Reference2Ideal.Read.val_main_v39 (F := Ideal) (m ((c.tc : Thread _ _).loc Cert.Kernel2Ideal.main_arg0))
        (m ((c.tc : Thread _ _).loc Cert.Kernel2Ideal.main_arg1)) (m ((c.tc : Thread _ _).loc Cert.Kernel2Ideal.main_arg2))
        (m ((c.tc : Thread _ _).loc Cert.Kernel2Ideal.main_arg3)) (m ((c.tc : Thread _ _).loc Cert.Kernel2Ideal.main_arg4))
      = Cert.Kernel2Ideal.Value.G6 m c := by
  funext i
  obtain ⟨R, n, rfl⟩ : ∃ (R : Fin 8192) (n : Fin 2048), i = ix2 R n := ⟨i 0, i 1, by
    funext a; match a with | ⟨0, _⟩ => rfl | ⟨1, _⟩ => rfl⟩
  exact (Cert.Kernel2Ideal.Rows.reference_rows m c R n).trans (Cert.Kernel2Ideal.Rows.result_rows m c R n).symm

theorem algebraic : Cert.algebraic_Kernel2Ideal_Reference2Ideal := by
  pair_intro
  · run_from Cert.Kernel2Ideal.Value.run m g
  · run_from Cert.Reference2Ideal.Value.run m' g'
    rw [Cert.Reference2Ideal.Read.val_main_v39_eq, (hagree c).1, (hagree c).2.1, (hagree c).2.2.1, (hagree c).2.2.2.1, (hagree c).2.2.2.2]
    exact final m c

end Cert.FfnClaim

end
-- ==== Proof.ProjValue.lean ====
/- The input projection call: each group of 128 columns of the product, for every token. -/
module

public import proofs.«01_k».proof.Proof.Gen.Kernel3Ideal.Value
public import proofs.«01_k».proof.Proof.Gen.Reference3Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel3Ideal.Cols

open Cert.Kernel3Ideal Cert.Kernel3Ideal.Gen Cert.Kernel3Ideal.Value

variable (m : (ℓ : Loc nD τ sig) → Buf (Elt Ideal) ℓ)

/-- The column block of the weight that a column block of the result is taken from: the two gates' blocks are passed over. -/
def shift (j : ℕ) : ℕ := if j < 4 then j else j + 4

/-- Every window's block at every grid point. -/
theorem places : ∀ t : Fin cfg0.N, win0_0.index t = ![t.val / 9, 0] ∧ win0_1.index t = ![0, shift (t.val % 9)]
    ∧ win0_2.index t = ![t.val % 9, t.val / 9, 0] :=
  (by decide +kernel : ∀ t : Fin grid0.N, _)

theorem lt_N (t : Fin cfg0.N) : t.val < 18 := t.isLt

/-- Row `R` of the activations, the batch and the position taken together. -/
def inRow (c : Dev nD) (R : ℕ) (l : Fin 2048) : EReal :=
  (m ((c : Thread nD τ).loc main_arg0)) (ix3 ⟨R / 2048 % 4, Nat.mod_lt _ (by decide)⟩ ⟨R % 2048, Nat.mod_lt _ (by decide)⟩ l)

/-- Column `k` of the weight. -/
def col (c : Dev nD) (l : Fin 2048) (k : ℕ) : EReal :=
  (m ((c : Thread nD τ).loc main_arg1)) (ix3 0 l ⟨k % 6656, Nat.mod_lt _ (by decide)⟩)

theorem read0 (c : Dev nD) (t : Fin cfg0.N) (r : Fin 4096) (l : Fin 2048) :
    iblk m c 0 t (ix2 r l) = inRow m c (4096 * (t.val / 9) + r.val) l := by
  obtain ⟨e0, e1, e2⟩ := places t
  have ht := lt_N t
  unfold inRow
  blk_simp [iblk, e0]
  entry_read
  pointwise
  blk_ext [e0]

theorem shift_lt (t : Fin cfg0.N) : shift (t.val % 9) < 13 := by
  have : t.val % 9 < 9 := Nat.mod_lt _ (by decide)
  unfold shift; split <;> omega

theorem read1 (c : Dev nD) (t : Fin cfg0.N) (l : Fin 2048) (k : Fin 512) :
    iblk m c 1 t (ix2 l k) = col m c l (512 * shift (t.val % 9) + k.val) := by
  obtain ⟨e0, e1, e2⟩ := places t
  have ht := shift_lt t
  unfold col
  blk_simp [iblk, e1]
  entry_read
  pointwise
  blk_ext [e1]

/-- The result: group `a` of 128 columns, token `R`, column `n` of the group. -/
def outAt (c : Dev nD) (a R n : ℕ) : EReal :=
  ∑ l, inRow m c R l * col m c l (512 * shift (a / 4) + 128 * (a % 4) + n)

/-- The product of one block. -/
theorem tile (X : Vec Ideal S4096x2048 .bf16) (W : Vec Ideal S2048x512 .f32) (r : Fin 4096) (k : Fin 512) :
    k0_pay1 (F := Ideal) X W (ix2 r k) = ∑ l, X (ix2 r l) * W (ix2 l k) := by
  pointwise [k0_pay1]

theorem ld_whole0 (X : Vec Ideal S4096x2048 .bf16) (i : S4096x2048.Idx) : View.ld (Val := Elt Ideal) X r0_0 i = X i := by
  exact congrFun (View.ld_unit_zero (funext fun a => by match a with | ⟨0, _⟩ => rfl | ⟨1, _⟩ => rfl) _ X) i

theorem ld_whole1 (X : Vec Ideal S2048x512 .f32) (i : S2048x512.Idx) : View.ld (Val := Elt Ideal) X r0_1 i = X i := by
  exact congrFun (View.ld_unit_zero (funext fun a => by match a with | ⟨0, _⟩ => rfl | ⟨1, _⟩ => rfl) _ X) i

theorem final (c : Dev nD) :
    (dats m 0 c).arrAt 2 cfg0.N = fun i => outAt m c (i 0).val (i 1).val (i 2).val := by
  refine (dats m 0 c).arrAt_eq_of_covers 2 _ (by decide +kernel) fun t _ y => ?_
  obtain ⟨e0, e1, e2⟩ := places t
  have ht := lt_N t
  blk_simp
  rw [after0_2]
  unfold out0_2
  refine (canon2_eq _ _ y).trans ((tile _ _ ⟨(y 1).val, (y 1).isLt⟩ _).trans ?_)
  have hy0 : (y 0).val < 4 := (y 0).isLt
  have hy1 : (y 1).val < 4096 := (y 1).isLt
  have hy2 : (y 2).val < 128 := (y 2).isLt
  unfold outAt
  refine Finset.sum_congr rfl fun l _ => congrArg₂ (· * ·) ?_ ?_
  · refine (ld_whole0 _ _).trans ((read0 m c t _ _).trans (congrArg (inRow m c · l) ?_))
    rw [e2]; show _ = t.val / 9 * 4096 + (y 1).val; simp only []; omega
  · refine (ld_whole1 _ _).trans ((read1 m c t _ _).trans (congrArg (col m c l) ?_))
    rw [e2]; show _ = 512 * shift ((t.val % 9 * 4 + (y 0).val) / 4) + 128 * ((t.val % 9 * 4 + (y 0).val) % 4) + (0 * 128 + (y 2).val)
    have : (t.val % 9 * 4 + (y 0).val) / 4 = t.val % 9 := by omega
    rw [this]; simp only []; omega

end Cert.Kernel3Ideal.Cols

namespace Cert.Reference3Ideal.Cols

open Cert.Reference3Ideal Cert.Reference3Ideal.Read

theorem out_at (x0 : (⟨S4x2048x2048, .f32⟩ : BufTy).Contents (Elt Ideal)) (x1 : (⟨S1x2048x6656, .f32⟩ : BufTy).Contents (Elt Ideal))
    (a : Fin 36) (R : Fin 8192) (n : Fin 128) :
    val_main_v9 (F := Ideal) x0 x1 (ix3 a R n) = ∑ l, x0 (ix3 ⟨R / 2048 % 4, Nat.mod_lt _ (by decide)⟩ ⟨R % 2048, Nat.mod_lt _ (by decide)⟩ l)
      * x1 (ix3 0 l ⟨(512 * Cert.Kernel3Ideal.Cols.shift (a.val / 4) + 128 * (a.val % 4) + n.val) % 6656, Nat.mod_lt _ (by decide)⟩) := by
  unfold val_main_v9 val_main_v8 val_main_v7 val_main_v6 val_main_v5 val_main_v4 val_main_v3 val_main_v2 val_main_v1 val_main_v0
  pointwise
  have ha := a.isLt
  have hR := R.isLt
  have hn := n.isLt
  have hs : (a.val < 16 → Cert.Kernel3Ideal.Cols.shift (a.val / 4) = a.val / 4) ∧ (16 ≤ a.val → Cert.Kernel3Ideal.Cols.shift (a.val / 4) = a.val / 4 + 4) :=
    ⟨fun h => if_pos (by omega), fun h => if_neg (by omega)⟩
  generalize Cert.Kernel3Ideal.Cols.shift (a.val / 4) = g at hs
  obtain ⟨hs, hs'⟩ := hs
  split_ifs <;> first
    | omega
    | refine Finset.sum_congr rfl fun l _ => congrArg₂ (· * ·) (congrArg x0 ?_) (congrArg x1 ?_) <;> congr 1 <;> refine Fin.ext ?_ <;> simp only [] <;> omega

end Cert.Reference3Ideal.Cols
end
end
-- ==== Proof.OutProjValue.lean ====
/- The output projection call: the two mixers' outputs through one weight, normed and added to the residual stream. -/
module

public import proofs.«01_k».proof.Proof.FeedForward
public import proofs.«01_k».proof.Proof.Gen.Kernel4Ideal.Value
public import proofs.«01_k».proof.Proof.Gen.Reference4Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open Cert.FeedForward

namespace Cert.OutProj

/-- One row of the two mixers' outputs through one column of the weight. -/
def mix (h a : Fin 1024 → EReal) (w : Fin 2048 → EReal) : EReal :=
  ∑ k : Fin 1024, h k * w ⟨k.val, by omega⟩ + ∑ k : Fin 1024, a k * w ⟨1024 + k.val, by omega⟩

/-- One row of the result. -/
def row (h a : Fin 1024 → EReal) (x g : Fin 2048 → EReal) (w : Fin 2048 → Fin 2048 → EReal) (n : Fin 2048) : EReal :=
  x n + rms (fun l => mix h a (w l)) g n

theorem mix_eq (h a : Fin 1024 → EReal) (w : Fin 2048 → EReal) :
    ∑ k : Fin 2048, (if e : k.val < 1024 then h ⟨k.val, e⟩ else a ⟨k.val - 1024, by omega⟩) * w k = mix h a w := by
  unfold mix
  rw [show (2048 : ℕ) = 1024 + 1024 from rfl] at *
  refine (Fin.sum_univ_add (a := 1024) (b := 1024) _).trans (congrArg₂ (· + ·) ?_ ?_)
  · refine Finset.sum_congr rfl fun k _ => ?_
    rw [dif_pos (show (Fin.castAdd 1024 k).val < 1024 from k.isLt)]; rfl
  · refine Finset.sum_congr rfl fun k _ => ?_
    rw [dif_neg (show ¬ (Fin.natAdd 1024 k).val < 1024 by simp)]
    exact congrArg₂ (· * ·) (congrArg a (Fin.ext (by simp))) rfl

end Cert.OutProj

open Cert.OutProj

namespace Cert.Reference4Ideal.Rows

open Cert.Reference4Ideal Cert.Reference4Ideal.Read

variable (x0 x1 : FVec Ideal S4x2048x1024 .f32) (x2 : FVec Ideal S4x2048x2048 .f32) (x3 : FVec Ideal S1x2048x2048 .f32) (x4 : FVec Ideal S1x2048 .f32)

theorem mixed_at (b : Fin 4) (s : Fin 2048) (n : Fin 2048) :
    val_main_v2 (F := Ideal) x0 x1 x3 (ix3 b s n)
      = mix (fun k => x0 (ix3 b s k)) (fun k => x1 (ix3 b s k)) (fun l => x3 (ix3 0 l n)) := by
  rw [← mix_eq]
  unfold val_main_v2 val_main_v1 val_main_v0
  pointwise

theorem out_at (R : Fin 8192) (n : Fin 2048) :
    val_main_v18 (F := Ideal) x0 x1 x2 x3 x4 (ix2 R n)
      = row (fun k => x0 (ix3 ⟨R / 2048 % 4, Nat.mod_lt _ (by decide)⟩ ⟨R % 2048, Nat.mod_lt _ (by decide)⟩ k))
          (fun k => x1 (ix3 ⟨R / 2048 % 4, Nat.mod_lt _ (by decide)⟩ ⟨R % 2048, Nat.mod_lt _ (by decide)⟩ k))
          (fun k => x2 (ix3 ⟨R / 2048 % 4, Nat.mod_lt _ (by decide)⟩ ⟨R % 2048, Nat.mod_lt _ (by decide)⟩ k))
          (fun k => x4 (ix2 0 k)) (fun n l => x3 (ix3 0 l n)) n := by
  have e : ∀ h, (⟨R / 2048 % 4, h⟩ : Fin 4) = ⟨R / 2048, by omega⟩ := fun h => Fin.ext (by simp only []; omega)
  unfold row
  simp only [e, ← mixed_at]
  unfold val_main_v18 val_main_v17 val_main_v16 val_main_v15 val_main_v14 val_main_v13 val_main_v12 val_main_v11 val_main_v10
    val_main_v9 val_main_v8 val_main_v7 val_main_v6 val_main_v5 val_main_v4 val_main_v3 val_main_cst val_main_cst_0 val_main_cst_1 rms
  pointwise

end Cert.Reference4Ideal.Rows

namespace Cert.Kernel4Ideal.Rows

open Cert.Kernel4Ideal Cert.Kernel4Ideal.Gen Cert.Kernel4Ideal.Value

theorem stack (X : Vec Ideal S8x512x128 .bf16) (r : Fin 512) (k : Fin 1024) :
    k0_pay1 (F := Ideal) (View.ld (Val := Elt Ideal) X r0_0) (View.ld (Val := Elt Ideal) X r0_1) (View.ld (Val := Elt Ideal) X r0_2) (View.ld (Val := Elt Ideal) X r0_3) (View.ld (Val := Elt Ideal) X r0_4)
        (View.ld (Val := Elt Ideal) X r0_5) (View.ld (Val := Elt Ideal) X r0_6) (View.ld (Val := Elt Ideal) X r0_7) (ix2 r k)
      = X (ix3 ⟨k.val / 128, by omega⟩ r ⟨k.val % 128, Nat.mod_lt _ (by decide)⟩) := by
  have e : ∀ (g g' : Fin 8) (d d' : Fin 128), g.val = g'.val → d.val = d'.val → X (ix3 g r d) = X (ix3 g' r d') := by
    intro g g' d d' hg hd
    rw [Fin.ext hg, Fin.ext hd]
  pointwise [k0_pay1]
  split_ifs <;> refine e _ _ _ _ ?_ ?_ <;> (try simp only [Fin.isValue, Fin.val_zero, Fin.val_one, Fin.coe_ofNat_eq_mod]) <;> omega

theorem tile (A : FVec Ideal S512x1024 .bf16) (b0 b1 b2 b3 b4 b5 b6 b7 : Vec Ideal S1x512x128 .bf16) (W1 W2 : Vec Ideal S1024x2048 .bf16)
    (X : Vec Ideal S512x2048 .f32) (G : Vec Ideal S1x2048 .f32) (r : Fin 512) (n : Fin 2048) :
    k0_pay5 (F := Ideal) A (k0_pay2 b0) (k0_pay3 b1) (k0_pay4 b2) b3 b4 b5 b6 b7 W1 W2 X G (ix2 r n)
      = X (ix2 r n) + rms (fun l => ∑ k, A (ix2 r k) * W1 (ix2 k l) + ∑ k, k0_pay1 b0 b1 b2 b3 b4 b5 b6 b7 (ix2 r k) * W2 (ix2 k l))
          (fun l => G (ix2 0 l)) n := by
  unfold rms
  pointwise [k0_pay5, k0_pay1, k0_pay2, k0_pay3, k0_pay4]

variable (m : (ℓ : Loc nD τ sig) → Buf (Elt Ideal) ℓ)

theorem places : ∀ t : Fin cfg0.N, win0_0.index t = ![0, t.val, 0] ∧ win0_1.index t = ![0, t.val, 0] ∧ win0_2.index t = ![t.val, 0]
    ∧ win0_3.index t = ![0, 0] ∧ win0_4.index t = ![1, 0] ∧ win0_5.index t = ![0, 0] ∧ win0_6.index t = ![t.val, 0] :=
  (by decide +kernel : ∀ t : Fin grid0.N, _)

theorem lt_N (t : Fin cfg0.N) : t.val < 16 := t.isLt

/-- Row `R` of one mixer's output, the batch and the position taken together. -/
def hRow (c : Dev nD) (R : ℕ) (k : Fin 1024) : EReal :=
  (m ((c : Thread nD τ).loc main_arg0)) (ix3 ⟨R / 2048 % 4, Nat.mod_lt _ (by decide)⟩ ⟨R % 2048, Nat.mod_lt _ (by decide)⟩ k)

/-- Row `R` of the other mixer's output. -/
def aRow (c : Dev nD) (R : ℕ) (k : Fin 1024) : EReal :=
  (m ((c : Thread nD τ).loc main_arg1)) (ix3 ⟨R / 2048 % 4, Nat.mod_lt _ (by decide)⟩ ⟨R % 2048, Nat.mod_lt _ (by decide)⟩ k)

/-- Row `R` of the residual stream. -/
def xRow (c : Dev nD) (R : ℕ) (k : Fin 2048) : EReal :=
  (m ((c : Thread nD τ).loc main_arg2)) (ix3 ⟨R / 2048 % 4, Nat.mod_lt _ (by decide)⟩ ⟨R % 2048, Nat.mod_lt _ (by decide)⟩ k)

/-- Column `n` of the weight. -/
def wCol (c : Dev nD) (n k : Fin 2048) : EReal := (m ((c : Thread nD τ).loc main_arg3)) (ix3 0 k n)

/-- The norm's gain. -/
def gain (c : Dev nD) (k : Fin 2048) : EReal := (m ((c : Thread nD τ).loc main_arg4)) (ix2 0 k)

theorem read0 (c : Dev nD) (t : Fin cfg0.N) (s : Fin 8) (r : Fin 512) (d : Fin 128) :
    iblk m c 0 t (ix3 s r d) = hRow m c (512 * t.val + r.val) ⟨128 * s.val + d.val, by omega⟩ := by
  have e0 := (places t).1
  have ht := lt_N t
  unfold hRow
  blk_simp [iblk, e0]
  entry_read
  pointwise
  blk_ext [e0]

theorem read1 (c : Dev nD) (t : Fin cfg0.N) (s : Fin 8) (r : Fin 512) (d : Fin 128) :
    iblk m c 1 t (ix3 s r d) = aRow m c (512 * t.val + r.val) ⟨128 * s.val + d.val, by omega⟩ := by
  have e0 := (places t).2.1
  have ht := lt_N t
  unfold aRow
  blk_simp [iblk, e0]
  entry_read
  pointwise
  blk_ext [e0]

theorem read2 (c : Dev nD) (t : Fin cfg0.N) (r : Fin 512) (k : Fin 2048) :
    iblk m c 2 t (ix2 r k) = xRow m c (512 * t.val + r.val) k := by
  have e0 := (places t).2.2.1
  have ht := lt_N t
  unfold xRow
  blk_simp [iblk, e0]
  entry_read
  pointwise
  blk_ext [e0]

theorem read3 (c : Dev nD) (t : Fin cfg0.N) (k : Fin 1024) (n : Fin 2048) :
    iblk m c 3 t (ix2 k n) = wCol m c n ⟨k.val, by omega⟩ := by
  have e0 := (places t).2.2.2.1
  unfold wCol
  blk_simp [iblk, e0]
  entry_read
  pointwise
  blk_ext [e0]

theorem read4 (c : Dev nD) (t : Fin cfg0.N) (k : Fin 1024) (n : Fin 2048) :
    iblk m c 4 t (ix2 k n) = wCol m c n ⟨1024 + k.val, by omega⟩ := by
  have e0 := (places t).2.2.2.2.1
  unfold wCol
  blk_simp [iblk, e0]
  entry_read
  pointwise
  blk_ext [e0]

theorem read5 (c : Dev nD) (t : Fin cfg0.N) (k : Fin 2048) : iblk m c 5 t (ix2 0 k) = gain m c k := by
  have e0 := (places t).2.2.2.2.2.1
  unfold gain
  blk_simp [iblk, e0]
  blk_ext [e0, V]

theorem ld_rows (X : Vec Ideal S512x2048 .f32) (i : S512x2048.Idx) : View.ld (Val := Elt Ideal) X r0_9 i = X i := by
  exact congrFun (View.ld_unit_zero (funext fun a => by match a with | ⟨0, _⟩ => rfl | ⟨1, _⟩ => rfl) _ X) i

theorem ld_half (X : Vec Ideal S1024x2048 .bf16) (i : S1024x2048.Idx) : View.ld (Val := Elt Ideal) X r0_8 i = X i := by
  exact congrFun (View.ld_unit_zero (funext fun a => by match a with | ⟨0, _⟩ => rfl | ⟨1, _⟩ => rfl) _ X) i

theorem ld_gain (X : Vec Ideal S1x2048 .f32) (i : S1x2048.Idx) : View.ld (Val := Elt Ideal) X r0_10 i = X i := by
  exact congrFun (View.ld_unit_zero (funext fun a => by match a with | ⟨0, _⟩ => rfl | ⟨1, _⟩ => rfl) _ X) i

/-- The block the body stores, from the blocks it loads. -/
theorem block (x0 x1 : Vec Ideal S8x512x128 .bf16) (x2 : Vec Ideal S512x2048 .f32) (x3 x4 : Vec Ideal S1024x2048 .bf16)
    (x5 : Vec Ideal S1x2048 .f32) (r : Fin 512) (n : Fin 2048) :
    out0_6 (F := Ideal) x0 x1 x2 x3 x4 x5 (ix2 r n)
      = x2 (ix2 r n) + rms (fun l => ∑ k : Fin 1024, x0 (ix3 ⟨k.val / 128, by omega⟩ r ⟨k.val % 128, Nat.mod_lt _ (by decide)⟩) * x3 (ix2 k l)
          + ∑ k : Fin 1024, x1 (ix3 ⟨k.val / 128, by omega⟩ r ⟨k.val % 128, Nat.mod_lt _ (by decide)⟩) * x4 (ix2 k l))
          (fun l => x5 (ix2 0 l)) n := by
  unfold out0_6
  rw [View.canon_unit_zero (funext fun a => by match a with | ⟨0, _⟩ => rfl | ⟨1, _⟩ => rfl)]
  refine (tile _ _ _ _ _ _ _ _ _ _ _ _ _ r n).trans ?_
  refine congrArg₂ (· + ·) (ld_rows _ _) (congrFun (congrArg₂ rms (funext fun l => congrArg₂ (· + ·) ?_ ?_) (funext fun l => ld_gain _ _)) n)
  · exact Finset.sum_congr rfl fun k _ => congrArg₂ (· * ·) (stack _ r k) (ld_half _ _)
  · exact Finset.sum_congr rfl fun k _ => congrArg₂ (· * ·) (stack _ r k) (ld_half _ _)

/-- One row of the call's result. -/
def outAt (c : Dev nD) (R : ℕ) (n : Fin 2048) : EReal := row (hRow m c R) (aRow m c R) (xRow m c R) (gain m c) (wCol m c) n

theorem final (c : Dev nD) :
    (dats m 0 c).arrAt 6 cfg0.N = fun i => outAt m c (i 0).val (i 1) := by
  refine (dats m 0 c).arrAt_eq_of_covers 6 _ (by decide +kernel) fun t _ y => ?_
  have e6 := (places t).2.2.2.2.2.2
  have ht := lt_N t
  have hy0 : (y 0).val < 512 := (y 0).isLt
  have hy1 : (y 1).val < 2048 := (y 1).isLt
  blk_simp
  rw [after0_6]
  have e60 : win0_6.index t 0 = t.val := congrFun e6 0
  have e61 : win0_6.index t 1 = 0 := congrFun e6 1
  have hR : win0_6.index t 0 * 512 + (y 0).val = 512 * t.val + (y 0).val := by rw [e60, Nat.mul_comm]
  have hn : ((win0_6.blk t).view.emb y 1).val = (y 1).val := by
    blk_simp
    show win0_6.index t 1 * 2048 + (y 1).val = (y 1).val
    rw [e61, Nat.zero_mul, Nat.zero_add]
  have hsl : ∀ k : Fin 1024, 128 * (k.val / 128) + k.val % 128 = k.val := fun k => by omega
  have key : ∀ (q q' : ℕ) (a a' : Fin 2048), q = q' → a.val = a'.val → outAt m c q a = outAt m c q' a' := by
    intro q q' a a' h h'
    rw [h, Fin.ext h']
  refine Eq.trans (b := outAt m c (512 * t.val + (y 0).val) ⟨(y 1).val, hy1⟩) ?_ (key _ _ _ _ hR.symm hn.symm)
  obtain ⟨r, n, rfl⟩ : ∃ (r : Fin 512) (n : Fin 2048), y = ix2 r n := ⟨y 0, y 1, by
    funext a; match a with | ⟨0, _⟩ => rfl | ⟨1, _⟩ => rfl⟩
  refine (block _ _ _ _ _ _ r n).trans ?_
  simp only [read0, read1, read2, read3, read4, read5, hsl]
  rfl

end Cert.Kernel4Ideal.Rows
end
end
-- ==== Proof.LinearClaims.lean ====
/- The input projection call and the output projection call against their references. -/
module

public import proofs.«01_k».proof.Defs
public import proofs.«01_k».proof.Proof.ProjValue
public import proofs.«01_k».proof.Proof.OutProjValue
public import Idealize.ShloMosaic.Lib.Claim

@[expose] public section

set_option maxRecDepth 16384

noncomputable section

namespace Cert.LinearClaims

open Idealize.ShloMosaic Idealize.SL.Sem

/-- The array the input projection leaves is the reference's. -/
theorem proj (m : (ℓ : Loc Cert.Kernel3Ideal.nD Cert.Kernel3Ideal.τ Cert.Kernel3Ideal.sig) → Buf (Elt Ideal) ℓ)
    (c : Dev Cert.Kernel3Ideal.nD) :
    Cert.Reference3Ideal.Read.val_main_v9 (F := Ideal) (m ((c.tc : Thread _ _).loc Cert.Kernel3Ideal.main_arg0))
        (m ((c.tc : Thread _ _).loc Cert.Kernel3Ideal.main_arg1))
      = (Cert.Kernel3Ideal.Gen.dats m 0 c).arrAt 2 Cert.Kernel3Ideal.cfg0.N := by
  rw [Cert.Kernel3Ideal.Cols.final]
  funext i
  obtain ⟨a, R, n, rfl⟩ : ∃ (a : Fin 36) (R : Fin 8192) (n : Fin 128), i = ix3 a R n := ⟨i 0, i 1, i 2, by
    funext a; match a with | ⟨0, _⟩ => rfl | ⟨1, _⟩ => rfl | ⟨2, _⟩ => rfl⟩
  exact Cert.Reference3Ideal.Cols.out_at _ _ a R n

/-- The array the output projection leaves is the reference's. -/
theorem outProj (m : (ℓ : Loc Cert.Kernel4Ideal.nD Cert.Kernel4Ideal.τ Cert.Kernel4Ideal.sig) → Buf (Elt Ideal) ℓ)
    (c : Dev Cert.Kernel4Ideal.nD) :
    Cert.Reference4Ideal.Read.val_main_v18 (F := Ideal) (m ((c.tc : Thread _ _).loc Cert.Kernel4Ideal.main_arg0))
        (m ((c.tc : Thread _ _).loc Cert.Kernel4Ideal.main_arg1)) (m ((c.tc : Thread _ _).loc Cert.Kernel4Ideal.main_arg2))
        (m ((c.tc : Thread _ _).loc Cert.Kernel4Ideal.main_arg3)) (m ((c.tc : Thread _ _).loc Cert.Kernel4Ideal.main_arg4))
      = (Cert.Kernel4Ideal.Gen.dats m 0 c).arrAt 6 Cert.Kernel4Ideal.cfg0.N := by
  rw [Cert.Kernel4Ideal.Rows.final]
  funext i
  obtain ⟨R, n, rfl⟩ : ∃ (R : Fin 8192) (n : Fin 2048), i = ix2 R n := ⟨i 0, i 1, by
    funext a; match a with | ⟨0, _⟩ => rfl | ⟨1, _⟩ => rfl⟩
  exact Cert.Reference4Ideal.Rows.out_at _ _ _ _ _ R n

theorem algebraicProj : Cert.algebraic_Kernel3Ideal_Reference3Ideal := by
  pair_intro
  · run_from Cert.Kernel3Ideal.Value.run_blocks m g
  · run_from Cert.Reference3Ideal.Value.run m' g'
    rw [Cert.Reference3Ideal.Read.val_main_v9_eq]
    exact proj m c

theorem algebraicOutProj : Cert.algebraic_Kernel4Ideal_Reference4Ideal := by
  pair_intro
  · run_from Cert.Kernel4Ideal.Value.run_blocks m g
  · run_from Cert.Reference4Ideal.Value.run m' g'
    rw [Cert.Reference4Ideal.Read.val_main_v18_eq]
    exact outProj m c

end Cert.LinearClaims

end
end
-- ==== Proof.RestRows.lean ====
/- What one step of the call over the remaining rows makes of the blocks it is given, a row at a time. -/
module

public import proofs.«01_k».proof.Proof.Gen.Kernel5Ideal.Skeleton
public import proofs.«01_k».proof.Proof.FfnRows
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Cert.FeedForward Cert.RowStores
open Cert.Kernel2Ideal.Rows (hid down down_congr)

namespace Cert.Kernel5Ideal.Rest

open Cert.Kernel5Ideal Cert.Kernel5Ideal.Gen

/-- Two slabs of columns side by side. -/
theorem wide_at (a b : FVec Ideal S1x2048x256 .bf16) (l : Fin 2048) (k : Fin 512) :
    k0_pay4 (F := Ideal) a b (ix2 l k)
      = if h : k.val < 256 then a (ix3 0 l ⟨k.val, h⟩) else b (ix3 0 l ⟨k.val - 256, by omega⟩) := by
  unfold k0_pay4
  pointwise

/-- Two slabs of rows on top of each other. -/
theorem tall_at (a b : FVec Ideal S1x256x2048 .bf16) (k : Fin 512) (n : Fin 2048) :
    k0_pay6 (F := Ideal) a b (ix2 k n)
      = if h : k.val < 256 then a (ix3 0 ⟨k.val, h⟩ n) else b (ix3 0 ⟨k.val - 256, by omega⟩ n) := by
  unfold k0_pay6
  pointwise

/-- Thirty-two normed rows. -/
theorem norm_tile (v : FVec Ideal S32x2048 .f32) (g : FVec Ideal S1x2048 .f32) (r : Fin 32) (k : Fin 2048) :
    k0_pay7 (F := Ideal) v g (ix2 r k) = rms (fun l => v (ix2 r l)) (fun l => g (ix2 0 l)) k := by
  unfold k0_pay7 rms
  pointwise

/-- Thirty-two finished rows, normed for the next block. -/
theorem next_tile (v : FVec Ideal S32x2048 .f32) (g : FVec Ideal S1x2048 .f32) (r : Fin 32) (k : Fin 2048) :
    k0_pay152 (F := Ideal) v g (ix2 r k) = rms (fun l => v (ix2 r l)) (fun l => g (ix2 0 l)) k := by
  unfold k0_pay152 rms
  pointwise

/-- Two hundred and fifty-six rows of one block of hidden columns. -/
theorem act_tile (wg wu : FVec Ideal S2048x512 .bf16) (h : FVec Ideal S256x2048 .bf16) (r : Fin 256) (k : Fin 512) :
    k0_pay20 (F := Ideal) wg wu h (ix2 r k) = hid wg wu (fun l => h (ix2 r l)) k := by
  unfold k0_pay20 hid act
  pointwise

/-- All rows of one block of hidden columns. -/
theorem act_rows (a b a' b' : FVec Ideal S1x2048x256 .bf16) (h : FVec Ideal S1024x2048 .bf16) (r : Fin 1024) (k : Fin 512) :
    k0_pay67 (F := Ideal) a b a' b' h (ix2 r k)
      = hid (k0_pay4 (F := Ideal) a b) (k0_pay4 (F := Ideal) a' b') (fun l => h (ix2 r l)) k := by
  unfold k0_pay67 hid act k0_pay4
  pointwise

/-- Thirty-two finished rows, row by row. -/
theorem fin_tile (x o : FVec Ideal S32x2048 .f32) (g : FVec Ideal S1x2048 .f32) (r : Fin 32) (k : Fin 2048) :
    k0_pay71 (F := Ideal) x o g (ix2 r k)
      = fin (fun l => x (ix2 r l)) (fun l => o (ix2 r l)) (fun l => g (ix2 0 l)) k := by
  unfold k0_pay71 fin rms
  pointwise

/-- A middle point adds one block's contribution to every row. -/
theorem mid_rows (a b a' b' : FVec Ideal S1x2048x256 .bf16) (d d' : FVec Ideal S1x256x2048 .bf16)
    (h : FVec Ideal S1024x2048 .bf16) (o : FVec Ideal S1024x2048 .f32) (r : Fin 1024) (n : Fin 2048) :
    k0_pay2 (F := Ideal) (k0_pay64 o) (k0_pay65 a b a' b' d d' h) (ix2 r n)
      = o (ix2 r n) + down (k0_pay4 (F := Ideal) a b) (k0_pay4 (F := Ideal) a' b') (k0_pay6 (F := Ideal) d d')
          (fun l => h (ix2 r l)) n := by
  unfold k0_pay2 k0_pay64 k0_pay65 down hid act k0_pay4 k0_pay6
  pointwise

/-- The first block's contribution, its hidden rows made a quarter at a time. -/
theorem first_rows (wg wu : FVec Ideal S2048x512 .bf16) (wd : FVec Ideal S512x2048 .bf16) (a b c : FVec Ideal S256x512 .bf16)
    (h : FVec Ideal S256x2048 .bf16) (H : Fin 1024 → Fin 512 → EReal)
    (ha : ∀ (x : Fin 256) (r : Fin 1024) k, r.val = 0 + x.val → a (ix2 x k) = H r k)
    (hb : ∀ (x : Fin 256) (r : Fin 1024) k, r.val = 256 + x.val → b (ix2 x k) = H r k)
    (hc : ∀ (x : Fin 256) (r : Fin 1024) k, r.val = 512 + x.val → c (ix2 x k) = H r k)
    (hd : ∀ (x : Fin 256) (r : Fin 1024) k, r.val = 768 + x.val → hid wg wu (fun l => h (ix2 x l)) k = H r k)
    (r : Fin 1024) (n : Fin 2048) :
    k0_pay1 (F := Ideal) wg wu wd a b c h (ix2 r n) = ∑ k, H r k * wd (ix2 k n) := by
  unfold k0_pay1
  pointwise
  refine Finset.sum_congr rfl fun k _ => congrArg (· * _) ?_
  have hr := r.isLt
  split_ifs
  all_goals first
    | exact absurd rfl ‹¬_›
    | exact ha _ r k (by simp only []; omega)
    | exact hb _ r k (by simp only []; omega)
    | exact hc _ r k (by simp only []; omega)
    | exact hd _ r k (by simp only []; omega)

/-- A quarter of the rows of the last block's contribution, added to what was there. -/
theorem quarter0 (wd : FVec Ideal S512x2048 .bf16) (a b a' b' : FVec Ideal S1x2048x256 .bf16) (h : FVec Ideal S1024x2048 .bf16)
    (o : FVec Ideal S256x2048 .f32) (r : Fin 1024) (x : Fin 256) (n : Fin 2048) (hr : r.val = 0 + x.val) :
    k0_pay70 (F := Ideal) wd (k0_pay68 o) (k0_pay69 a b a' b' h) (constant S256x2048 .f32 0x00000000#32) (ix2 x n)
      = o (ix2 x n) + ∑ k, k0_pay67 (F := Ideal) a b a' b' h (ix2 r k) * wd (ix2 k n) := by
  obtain ⟨r, hlt⟩ := r
  obtain rfl : r = x.val := by simp only [] at hr; omega
  unfold k0_pay70 k0_pay68 k0_pay69
  pointwise

theorem quarter1 (wd : FVec Ideal S512x2048 .bf16) (a : FVec Ideal S1024x512 .bf16)
    (o : FVec Ideal S256x2048 .f32) (r : Fin 1024) (x : Fin 256) (n : Fin 2048) (hr : r.val = 256 + x.val) :
    k0_pay96 (F := Ideal) wd a o (ix2 x n) = o (ix2 x n) + ∑ k, a (ix2 r k) * wd (ix2 k n) := by
  obtain ⟨r, hlt⟩ := r
  obtain rfl : r = 256 + x.val := hr
  unfold k0_pay96
  pointwise

theorem quarter2 (wd : FVec Ideal S512x2048 .bf16) (a : FVec Ideal S1024x512 .bf16)
    (o : FVec Ideal S256x2048 .f32) (r : Fin 1024) (x : Fin 256) (n : Fin 2048) (hr : r.val = 512 + x.val) :
    k0_pay132 (F := Ideal) wd a o (ix2 x n) = o (ix2 x n) + ∑ k, a (ix2 r k) * wd (ix2 k n) := by
  obtain ⟨r, hlt⟩ := r
  obtain rfl : r = 512 + x.val := hr
  unfold k0_pay132
  pointwise

theorem quarter3 (wd : FVec Ideal S512x2048 .bf16) (a : FVec Ideal S1024x512 .bf16)
    (o : FVec Ideal S256x2048 .f32) (r : Fin 1024) (x : Fin 256) (n : Fin 2048) (hr : r.val = 768 + x.val) :
    k0_pay160 (F := Ideal) wd a o (ix2 x n) = o (ix2 x n) + ∑ k, a (ix2 r k) * wd (ix2 k n) := by
  obtain ⟨r, hlt⟩ := r
  obtain rfl : r = 768 + x.val := hr
  unfold k0_pay160
  pointwise

end Cert.Kernel5Ideal.Rest

end
-- ==== Proof.RestCases.lean ====
/- What the two results hold after each kind of point: the first of a tile norms the rows and starts the sum over the
   hidden units, a middle one adds to it, and the last one adds to it and finishes the rows and their next norm. -/
module

public import proofs.«01_k».proof.Proof.RestFrame
public import proofs.«01_k».proof.Proof.RestRows
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)
open Cert.FeedForward Cert.RowStores
open Cert.Kernel2Ideal.Rows (hid down down_congr)

namespace Cert.Kernel5Ideal.Rest

open Cert.Kernel5Ideal Cert.Kernel5Ideal.Gen

variable (m : (ℓ : Loc nD τ sig) → Buf (Elt Ideal) ℓ)

/-- Slab `s` of a point's gate columns. -/
abbrev gateSlab (c : Dev nD) (t : Fin cfg0.N) (s : ℕ)
    (h : ∀ a, (![s, 0, 0] : Fin 3 → ℕ) a + S1x2048x256.size a ≤ S2x2048x256.size a) : FVec Ideal S1x2048x256 .bf16 :=
  View.ld (Val := Elt Ideal) (iblk m c 4 t) (Rect.unit (s := S2x2048x256) ![s, 0, 0] S1x2048x256.size h)

/-- Slab `s` of a point's other columns. -/
abbrev upSlab (c : Dev nD) (t : Fin cfg0.N) (s : ℕ)
    (h : ∀ a, (![s, 0, 0] : Fin 3 → ℕ) a + S1x2048x256.size a ≤ S2x2048x256.size a) : FVec Ideal S1x2048x256 .bf16 :=
  View.ld (Val := Elt Ideal) (iblk m c 5 t) (Rect.unit (s := S2x2048x256) ![s, 0, 0] S1x2048x256.size h)

/-- Slab `s` of a point's rows of the projection down. -/
abbrev downSlab (c : Dev nD) (t : Fin cfg0.N) (s : ℕ)
    (h : ∀ a, (![s, 0, 0] : Fin 3 → ℕ) a + S1x256x2048.size a ≤ S2x256x2048.size a) : FVec Ideal S1x256x2048 .bf16 :=
  View.ld (Val := Elt Ideal) (iblk m c 6 t) (Rect.unit (s := S2x256x2048) ![s, 0, 0] S1x256x2048.size h)

/-- A point's gate columns. -/
def gates (c : Dev nD) (t : Fin cfg0.N) : FVec Ideal S2048x512 .bf16 :=
  k0_pay4 (F := Ideal) (gateSlab m c t 0 (by decide)) (gateSlab m c t 1 (by decide))

/-- A point's other columns. -/
def ups (c : Dev nD) (t : Fin cfg0.N) : FVec Ideal S2048x512 .bf16 :=
  k0_pay4 (F := Ideal) (upSlab m c t 0 (by decide)) (upSlab m c t 1 (by decide))

/-- A point's rows of the projection down. -/
def downs (c : Dev nD) (t : Fin cfg0.N) : FVec Ideal S512x2048 .bf16 :=
  k0_pay6 (F := Ideal) (downSlab m c t 0 (by decide)) (downSlab m c t 1 (by decide))

/-- Row `r` of a point's block of the input, normed. -/
def normed (c : Dev nD) (t : Fin cfg0.N) (r : Fin 1024) (k : Fin 2048) : EReal :=
  rms (fun l => iblk m c 0 t (ix2 r l)) (fun l => iblk m c 1 t (ix2 0 l)) k

/-- What a point's block of hidden units contributes to a row `h`. -/
def downAt (c : Dev nD) (t : Fin cfg0.N) (h : Fin 2048 → EReal) (n : Fin 2048) : EReal :=
  down (gates m c t) (ups m c t) (downs m c t) h n

/-- A row with a point's contribution added. -/
def added (c : Dev nD) (t : Fin cfg0.N) (r : Fin 1024) (n : Fin 2048) : EReal :=
  (prev m c t).1 (ix2 r n) + downAt m c t (fun l => (prev m c t).2 (ix2 r l)) n

/-- A finished row. -/
def finished (c : Dev nD) (t : Fin cfg0.N) (r : Fin 1024) (n : Fin 2048) : EReal :=
  fin (fun l => iblk m c 0 t (ix2 r l)) (added m c t r) (fun l => iblk m c 2 t (ix2 0 l)) n

/-- The second result after the first point of a tile: the normed rows. -/
theorem first_normed (c : Dev nD) (t : Fin cfg0.N) (h : t.val % 11 = 0) (r : Fin 1024) (k : Fin 2048) :
    (outsAt0 m c t.val t.isLt).2 (ix2 r k) = normed m c t r k := by
  rw [outs_first m c t h]
  unfold first8
  frame_out
  refine ((?_ : Upto (Val := Elt Ideal) (e := .bf16) (normed m c t) (normed m c t) _ 1024 1024) r k).1 r.isLt
  repeat' refine Upto.store _ _ ?_ rfl ?_
  all_goals first
    | exact Upto.nil _ _
    | exact fun r x l hr => (norm_tile _ _ _ _).trans (rms_congr (fun l' => ld_band _ _ r x l' hr) (fun _ => rfl) _)

/-- The first result after it: the first contribution. -/
theorem first_sum (c : Dev nD) (t : Fin cfg0.N) (h : t.val % 11 = 0) (r : Fin 1024) (n : Fin 2048) :
    (outsAt0 m c t.val t.isLt).1 (ix2 r n) = downAt m c t (normed m c t r) n := by
  rw [outs_first m c t h]
  unfold first7
  frame_out
  refine (first_rows _ _ _ _ _ _ _ (fun r k => hid (gates m c t) (ups m c t) (normed m c t r) k)
    (fun x r k hr => (act_tile _ _ _ _ _).trans (congrArg (fun h => hid (gates m c t) (ups m c t) h k) (funext fun l => ?_)))
    (fun x r k hr => (act_tile _ _ _ _ _).trans (congrArg (fun h => hid (gates m c t) (ups m c t) h k) (funext fun l => ?_)))
    (fun x r k hr => (act_tile _ _ _ _ _).trans (congrArg (fun h => hid (gates m c t) (ups m c t) h k) (funext fun l => ?_)))
    (fun x r k hr => congrArg (fun h => hid (gates m c t) (ups m c t) h k) (funext fun l => ?_)) r n).trans ?_
  rotate_right
  · rfl
  all_goals
    refine Upto.read (Val := Elt Ideal) (e := .bf16) (A := normed m c t) (G := normed m c t) ?_ _ _ (Nat.le_refl _) r x l hr
    repeat' refine Upto.store _ _ ?_ rfl ?_
  all_goals first
    | exact Upto.nil _ _
    | exact fun r x l hr => (norm_tile _ _ _ _).trans (rms_congr (fun l' => ld_band _ _ r x l' hr) (fun _ => rfl) _)

/-- A middle point adds its block's contribution to every row, and leaves the normed rows as they were. -/
theorem mid_sum (c : Dev nD) (t : Fin cfg0.N) (h : ¬t.val % 11 = 0) (h2 : ¬t.val % 11 = 10) (r : Fin 1024) (n : Fin 2048) :
    (outsAt0 m c t.val t.isLt).1 (ix2 r n) = added m c t r n := by
  rw [outs_mid m c t h h2]
  unfold mid7
  frame_out
  exact mid_rows _ _ _ _ _ _ _ _ r n

theorem mid_normed (c : Dev nD) (t : Fin cfg0.N) (h : ¬t.val % 11 = 0) (h2 : ¬t.val % 11 = 10) :
    (outsAt0 m c t.val t.isLt).2 = (prev m c t).2 := by
  rw [outs_mid m c t h h2]

/-- The two results of a tile while its last point stores them: the first as its rows are added to and then finished, the
    second as the finished rows are normed. -/
def Both (A G : Fin 1024 → Fin 2048 → EReal) (g : FVec Ideal S1x2048 .f32)
    (L7 : List (View.Piece (Elt Ideal) (⟨2, ![1024, 2048]⟩ : Shape) .f32))
    (L8 : List (View.Piece (Elt Ideal) (⟨2, ![1024, 2048]⟩ : Shape) .bf16)) (f a : ℕ) : Prop :=
  Upto (Val := Elt Ideal) (e := .f32) A G L7 f a
    ∧ Upto (Val := Elt Ideal) (e := .bf16) (fun r n => rms (G r) (fun l => g (ix2 0 l)) n)
        (fun r n => rms (G r) (fun l => g (ix2 0 l)) n) L8 f f

variable {A G : Fin 1024 → Fin 2048 → EReal} {g : FVec Ideal S1x2048 .f32}
  {L7 : List (View.Piece (Elt Ideal) (⟨2, ![1024, 2048]⟩ : Shape) .f32)}
  {L8 : List (View.Piece (Elt Ideal) (⟨2, ![1024, 2048]⟩ : Shape) .bf16)} {f f' a a' k : ℕ}

theorem Both.nil : Both A G g [] [] 0 0 := ⟨Upto.nil _ _, Upto.nil _ _⟩

theorem Both.out (h : Both A G g L7 L8 1024 1024) (r : Fin 1024) (n : Fin 2048) :
    View.canon (Val := Elt Ideal) (e := .f32) L7 (ix2 r n) = G r n
      ∧ View.canon (Val := Elt Ideal) (e := .bf16) L8 (ix2 r n) = rms (G r) (fun l => g (ix2 0 l)) n :=
  ⟨(h.1 r n).1 r.isLt, (h.2 r n).1 r.isLt⟩

theorem Both.next (inb : ∀ a, (![f, 0] : Fin 2 → ℕ) a + (![k, 2048] : Fin 2 → ℕ) a ≤ (⟨2, ![1024, 2048]⟩ : Shape).size a)
    (w : (⟨2, ![k, 2048]⟩ : Shape).Idx → Elt Ideal .f32) (h : Both A G g L7 L8 f f) (ha : a' = f + k)
    (hw : ∀ (r : Fin 1024) (x : Fin k) (n : Fin 2048), r.val = f + x.val → w (ix2 x n) = A r n) :
    Both A G g ((⟨Rect.unit (s := (⟨2, ![1024, 2048]⟩ : Shape)) ![f, 0] ![k, 2048] inb, w⟩ : View.Piece (Elt Ideal) (⟨2, ![1024, 2048]⟩ : Shape) .f32) :: L7)
      L8 f a' :=
  ⟨Upto.next inb w h.1 ha hw, h.2⟩

/-- Thirty-two rows finished, and normed as they are finished. -/
theorem Both.finish (inb inb' : ∀ a, (![f, 0] : Fin 2 → ℕ) a + (![32, 2048] : Fin 2 → ℕ) a ≤ (⟨2, ![1024, 2048]⟩ : Shape).size a)
    (w : (⟨2, ![32, 2048]⟩ : Shape).Idx → Elt Ideal .f32) (w' : (⟨2, ![32, 2048]⟩ : Shape).Idx → Elt Ideal .bf16)
    (h : Both A G g L7 L8 f a) (hf : f' = f + 32) (ha : f + 32 ≤ a)
    (hn : w' = k0_pay152 (F := Ideal) w g)
    (hw : ∀ (r : Fin 1024) (x : Fin 32) (n : Fin 2048), r.val = f + x.val →
      (∀ (X : (⟨2, ![1024, 2048]⟩ : Shape).Idx → Elt Ideal .f32) (n' : Fin 2048),
        View.ld X (Rect.unit (s := (⟨2, ![1024, 2048]⟩ : Shape)) ![f, 0] ![32, 2048] inb) (ix2 x n' : (⟨2, ![32, 2048]⟩ : Shape).Idx) = X (ix2 r n')) →
      (∀ {sig : RefSig} {κ : Kind} {sp : Space} (v : View sig κ sp (⟨2, ![1024, 2048]⟩ : Shape) .f32) (n' : Fin 2048),
        v.readCov L7 (Rect.unit (s := (⟨2, ![1024, 2048]⟩ : Shape)) ![f, 0] ![32, 2048] inb).toLoadRect (ix2 x n' : (⟨2, ![32, 2048]⟩ : Shape).Idx)
          = A r n') → w (ix2 x n) = G r n) :
    Both A G g ((⟨Rect.unit (s := (⟨2, ![1024, 2048]⟩ : Shape)) ![f, 0] ![32, 2048] inb, w⟩ : View.Piece (Elt Ideal) (⟨2, ![1024, 2048]⟩ : Shape) .f32) :: L7)
      ((⟨Rect.unit (s := (⟨2, ![1024, 2048]⟩ : Shape)) ![f, 0] ![32, 2048] inb', w'⟩ : View.Piece (Elt Ideal) (⟨2, ![1024, 2048]⟩ : Shape) .bf16) :: L8) f' a := by
  have h7 := Upto.finish inb w h.1 hf ha hw
  refine ⟨h7, Upto.store inb' w' h.2 hf fun r x n hr => ?_⟩
  subst hn
  refine (next_tile w g x n).trans (rms_congr (fun l => ?_) (fun _ => rfl) n)
  have hx := x.isLt
  exact (canon_on inb w L7 r l x hr).symm.trans ((h7 r l).1 (by omega))

theorem added_of (c : Dev nD) (t : Fin cfg0.N) (h : FVec Ideal S1024x2048 .bf16) (hh : h = (prev m c t).2)
    (o : FVec Ideal S256x2048 .f32) (r : Fin 1024) (x : Fin 256)
    (n : Fin 2048) (ho : o (ix2 x n) = (prev m c t).1 (ix2 r n)) :
    o (ix2 x n) + ∑ k, k0_pay67 (F := Ideal) (gateSlab m c t 0 (by decide)) (gateSlab m c t 1 (by decide))
        (upSlab m c t 0 (by decide)) (upSlab m c t 1 (by decide)) h (ix2 r k) * downs m c t (ix2 k n) = added m c t r n := by
  subst hh
  rw [ho]
  exact congrArg (_ + ·) (Finset.sum_congr rfl fun k _ => congrArg (· * _) (act_rows _ _ _ _ _ _ _))

set_option maxHeartbeats 4000000 in
/-- The last point adds its block's contribution, finishes every row and norms it. -/
theorem last_rows (c : Dev nD) (t : Fin cfg0.N) (h : t.val % 11 = 10) (r : Fin 1024) (n : Fin 2048) :
    (outsAt0 m c t.val t.isLt).1 (ix2 r n) = finished m c t r n
      ∧ (outsAt0 m c t.val t.isLt).2 (ix2 r n) = rms (finished m c t r) (fun l => iblk m c 3 t (ix2 0 l)) n := by
  rw [outs_last m c t h]
  unfold last7 last8
  frame_out
  refine Both.out (A := added m c t) (G := finished m c t) (g := iblk m c 3 t) ?_ r n
  iterate 4
    iterate 8 refine Both.finish _ _ _ _ ?_ rfl (by decide) rfl ?_
    refine Both.next _ _ ?_ rfl ?_
  · exact Both.nil
  · exact fun r x n hr => (quarter0 _ _ _ _ _ _ _ r x n hr).trans
      (added_of m c t _ rfl _ r x n (ld_band _ _ r x n hr))
  all_goals try
    intro r x n hr hx ho
    replace ho := ho (ms0_7 t).view
    replace hx := hx (iblk m c 0 t)
    revert ho hx
    generalize View.readCov (Val := Elt Ideal) (ms0_7 t).view _ _ = O
    generalize View.ld (Val := Elt Ideal) (iblk m c 0 t) _ = X
    intro ho hx
    exact (fin_tile X O _ x n).trans (fin_congr hx ho (fun _ => rfl) n)
  · exact fun r x n hr => (quarter1 _ _ _ r x n hr).trans
      (added_of m c t _ rfl _ r x n (ld_band _ _ r x n hr))
  · exact fun r x n hr => (quarter2 _ _ _ r x n hr).trans
      (added_of m c t _ rfl _ r x n (ld_band _ _ r x n hr))
  · exact fun r x n hr => (quarter3 _ _ _ r x n hr).trans
      (added_of m c t _ rfl _ r x n (ld_band _ _ r x n hr))

end Cert.Kernel5Ideal.Rest

end
-- ==== Proof.RestReference.lean ====
/- The reference of the call over the remaining rows, read at an index. Up to the finished rows it is the other
   feed-forward block's, word for word. -/
module

public import proofs.«01_k».proof.Proof.Gen.Reference5Ideal.Read
public import proofs.«01_k».proof.Proof.FfnReference
public import Idealize.ShloMosaic.Lib.Pointwise

@[expose] public section

set_option maxRecDepth 16384

noncomputable section

namespace Cert.Reference5Ideal.Rest

open Idealize.ShloMosaic Cert.FeedForward
open Cert.Reference5Ideal Cert.Reference5Ideal.Read

variable (x : FVec Ideal S4x2048x2048 .f32) (g p q : FVec Ideal S1x2048 .f32) (w : FVec Ideal S1x2048x11264 .f32)
  (d : FVec Ideal S1x5632x2048 .f32) (o : FVec Ideal S1024x2048 .f32)

/-- The finished rows. -/
theorem same : val_main_v38 (F := Ideal) x g p w d = Cert.Reference2Ideal.Read.val_main_v38 (F := Ideal) x g p w d := rfl

/-- Their norm for the mixers. -/
theorem next_at (b : Fin 4) (s : Fin 2048) (n : Fin 2048) :
    val_main_v52 (F := Ideal) x g p q w d (ix3 b s n)
      = rms (fun l => val_main_v38 (F := Ideal) x g p w d (ix3 b s l)) (fun l => q (ix2 0 l)) n := by
  unfold val_main_v52 val_main_v51 val_main_v50 val_main_v49 val_main_v48 val_main_v47 val_main_v46 val_main_v45 val_main_v44
    val_main_v43 val_main_v42 val_main_v41 val_main_v40 val_main_v39 val_main_cst_6 val_main_cst_7 val_main_cst_8 rms
  pointwise

/-- Row `R` of an array over batches and positions. -/
theorem index_eq (R : Fin 8192) (n : Fin 2048) :
    idx_main_v53 (ix2 R n) = ix3 ⟨R.val / 2048 % 4, Nat.mod_lt _ (by decide)⟩ ⟨R.val % 2048, Nat.mod_lt _ (by decide)⟩ n := by
  have hR := R.isLt
  have hn := n.isLt
  funext a
  apply Fin.ext
  match a with
  | ⟨0, _⟩ => show (R.val * 2048 + n.val) / 4194304 = R.val / 2048 % 4; omega
  | ⟨1, _⟩ => show (R.val * 2048 + n.val) / 2048 % 2048 = R.val % 2048; omega
  | ⟨2, _⟩ => show (R.val * 2048 + n.val) % 2048 = n.val; omega

/-- Two arrays of rows, one on top of the other. -/
theorem stack_at (hc : Shape.Concatenates [S1024x2048, S7168x2048] S8192x2048 0) (a : FVec Ideal S1024x2048 .f32) (b : FVec Ideal S7168x2048 .f32) (R : Fin 8192) (n : Fin 2048) :
    concatenate S8192x2048 0 [⟨S1024x2048, a⟩, ⟨S7168x2048, b⟩] hc (ix2 R n)
      = if h : R.val < 1024 then a (ix2 ⟨R.val, h⟩ n) else b (ix2 ⟨R.val - 1024, by omega⟩ n) := by
  pointwise

theorem tail_eq (R : Fin 8192) (h : ¬R.val < 1024) (n : Fin 2048) :
    idx_main_v54 (ix2 ⟨R.val - 1024, by omega⟩ n) = ix2 R n := by
  funext a
  apply Fin.ext
  match a with
  | ⟨0, _⟩ => show 1024 + (R.val - 1024) = R.val; omega
  | ⟨1, _⟩ => rfl

/-- The first result. -/
theorem out_at (R : Fin 8192) (n : Fin 2048) :
    val_main_v55 (F := Ideal) x g p w d o (ix2 R n)
      = if h : R.val < 1024 then o (ix2 ⟨R.val, h⟩ n)
        else val_main_v38 (F := Ideal) x g p w d
          (ix3 ⟨R.val / 2048 % 4, Nat.mod_lt _ (by decide)⟩ ⟨R.val % 2048, Nat.mod_lt _ (by decide)⟩ n) := by
  unfold val_main_v55
  rw [stack_at]
  refine dite_congr rfl (fun _ => rfl) fun h => ?_
  rw [val_main_v54_apply, tail_eq R h n, val_main_v53_apply, index_eq]

/-- The second result. -/
theorem out_next_at (R : Fin 8192) (n : Fin 2048) :
    val_main_v59 (F := Ideal) x g p q w d o (ix2 R n)
      = if h : R.val < 1024 then o (ix2 ⟨R.val, h⟩ n)
        else val_main_v52 (F := Ideal) x g p q w d
          (ix3 ⟨R.val / 2048 % 4, Nat.mod_lt _ (by decide)⟩ ⟨R.val % 2048, Nat.mod_lt _ (by decide)⟩ n) := by
  rw [val_main_v59_apply]
  show val_main_v58 (F := Ideal) x g p q w d o (ix2 R n) = _
  unfold val_main_v58
  rw [stack_at]
  refine dite_congr rfl (fun _ => rfl) fun h => ?_
  rw [val_main_v57_apply, show idx_main_v57 = idx_main_v54 from rfl, tail_eq R h n, val_main_v56_apply,
    show idx_main_v56 = idx_main_v53 from rfl, index_eq]

end Cert.Reference5Ideal.Rest

end
-- ==== Proof.RestValue.lean ====
/- The two arrays the call over the remaining rows leaves, row by row, beside the reference's. -/
module

public import proofs.«01_k».proof.Proof.RestCases
public import proofs.«01_k».proof.Proof.RestReference
public import Idealize.ShloMosaic.Lib.Pipeline.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open Cert.FeedForward Cert.RowStores
open Cert.Kernel2Ideal.Rows (hid down down_congr)

namespace Cert.Kernel5Ideal.Rest

open Cert.Kernel5Ideal Cert.Kernel5Ideal.Gen

variable (m : (ℓ : Loc nD τ sig) → Buf (Elt Ideal) ℓ)

/-- Every window's block at every grid point. -/
theorem places : ∀ t : Fin cfg0.N, win0_0.index t = ![t.val / 11 + 1, 0] ∧ win0_1.index t = ![0, 0] ∧ win0_2.index t = ![0, 0]
    ∧ win0_3.index t = ![0, 0] ∧ win0_4.index t = ![t.val % 11, 0, 0] ∧ win0_5.index t = ![t.val % 11, 0, 0]
    ∧ win0_6.index t = ![t.val % 11, 0, 0] ∧ win0_7.index t = ![t.val / 11 + 1, 0] ∧ win0_8.index t = ![t.val / 11 + 1, 0] :=
  (by decide +kernel : ∀ t : Fin grid0.N, _)

/-- Row `R` of the input, the batch and the position taken together. -/
def inRow (c : Dev nD) (R : ℕ) (l : Fin 2048) : EReal :=
  (m ((c : Thread nD τ).loc main_arg0)) (ix3 ⟨R / 2048 % 4, Nat.mod_lt _ (by decide)⟩ ⟨R % 2048, Nat.mod_lt _ (by decide)⟩ l)

/-- Column `k` of the up projections, the gates first. -/
def upCol (c : Dev nD) (l : Fin 2048) (k : ℕ) : EReal :=
  (m ((c : Thread nD τ).loc main_arg4)) (ix3 0 l ⟨k % 11264, Nat.mod_lt _ (by decide)⟩)

/-- Row `k` of the down projection. -/
def downRow (c : Dev nD) (k : ℕ) (n : Fin 2048) : EReal :=
  (m ((c : Thread nD τ).loc main_arg5)) (ix3 0 ⟨k % 5632, Nat.mod_lt _ (by decide)⟩ n)

/-- The gain of the norm before the block, of the one after it, and of the next block's. -/
def pre (c : Dev nD) (l : Fin 2048) : EReal := (m ((c : Thread nD τ).loc main_arg1)) (ix2 0 l)
def post (c : Dev nD) (l : Fin 2048) : EReal := (m ((c : Thread nD τ).loc main_arg2)) (ix2 0 l)
def next (c : Dev nD) (l : Fin 2048) : EReal := (m ((c : Thread nD τ).loc main_arg3)) (ix2 0 l)

theorem read0 (c : Dev nD) (t : Fin cfg0.N) (r : Fin 1024) (l : Fin 2048) :
    iblk m c 0 t (ix2 r l) = inRow m c (1024 * (t.val / 11 + 1) + r.val) l := by
  have e0 := (places t).1
  have ht := lt_N t
  unfold inRow
  blk_simp [iblk, e0]
  entry_read
  pointwise
  blk_ext [e0]

theorem read1 (c : Dev nD) (t : Fin cfg0.N) (l : Fin 2048) : iblk m c 1 t (ix2 0 l) = pre m c l := by
  have e1 := (places t).2.1
  unfold pre
  blk_simp [iblk, e1]
  blk_ext [e1, V]

theorem read2 (c : Dev nD) (t : Fin cfg0.N) (l : Fin 2048) : iblk m c 2 t (ix2 0 l) = post m c l := by
  have e2 := (places t).2.2.1
  unfold post
  blk_simp [iblk, e2]
  blk_ext [e2, V]

theorem read3 (c : Dev nD) (t : Fin cfg0.N) (l : Fin 2048) : iblk m c 3 t (ix2 0 l) = next m c l := by
  have e3 := (places t).2.2.2.1
  unfold next
  blk_simp [iblk, e3]
  blk_ext [e3, V]

theorem read4 (c : Dev nD) (t : Fin cfg0.N) (s : Fin 2) (l : Fin 2048) (k : Fin 256) :
    iblk m c 4 t (ix3 s l k) = upCol m c l (512 * (t.val % 11) + 256 * s.val + k.val) := by
  have e4 := (places t).2.2.2.2.1
  unfold upCol
  blk_simp [iblk, e4]
  entry_read
  pointwise
  blk_ext [e4]

theorem read5 (c : Dev nD) (t : Fin cfg0.N) (s : Fin 2) (l : Fin 2048) (k : Fin 256) :
    iblk m c 5 t (ix3 s l k) = upCol m c l (5632 + (512 * (t.val % 11) + 256 * s.val + k.val)) := by
  have e5 := (places t).2.2.2.2.2.1
  unfold upCol
  blk_simp [iblk, e5]
  entry_read
  pointwise
  blk_ext [e5]

theorem read6 (c : Dev nD) (t : Fin cfg0.N) (s : Fin 2) (k : Fin 256) (n : Fin 2048) :
    iblk m c 6 t (ix3 s k n) = downRow m c (512 * (t.val % 11) + 256 * s.val + k.val) n := by
  have e6 := (places t).2.2.2.2.2.2.1
  unfold downRow
  blk_simp [iblk, e6]
  entry_read
  pointwise
  blk_ext [e6]

end Cert.Kernel5Ideal.Rest

end
-- ==== Proof.RestResult.lean ====
/- What the two results hold after every point of a tile, the arrays they end as, and the reference's rows. -/
module

public import proofs.«01_k».proof.Proof.RestValue

@[expose] public section

set_option maxRecDepth 16384

noncomputable section

open Idealize.ShloMosaic Idealize.ShloMosaic.TcCoe Idealize.SL.Sem
open Idealize.ShloMosaic.Pipeline (Dat)
open Cert.FeedForward Cert.RowStores
open Cert.Kernel2Ideal.Rows (hid down down_congr)

namespace Cert.Kernel5Ideal.Rest

open Cert.Kernel5Ideal Cert.Kernel5Ideal.Gen

variable (m : (ℓ : Loc nD τ sig) → Buf (Elt Ideal) ℓ)

theorem gateSlab_at (c : Dev nD) (t : Fin cfg0.N) (s : Fin 2) (h) (l : Fin 2048) (k : Fin 256) :
    gateSlab m c t s.val h (ix3 0 l k) = upCol m c l (512 * (t.val % 11) + 256 * s.val + k.val) := by
  rw [← read4]
  refine congrArg (iblk m c 4 t) (funext fun a => Fin.ext ?_)
  match a with
  | ⟨0, _⟩ => show s.val + 1 * 0 = s.val; omega
  | ⟨1, _⟩ => show 0 + 1 * l.val = l.val; omega
  | ⟨2, _⟩ => show 0 + 1 * k.val = k.val; omega

theorem upSlab_at (c : Dev nD) (t : Fin cfg0.N) (s : Fin 2) (h) (l : Fin 2048) (k : Fin 256) :
    upSlab m c t s.val h (ix3 0 l k) = upCol m c l (5632 + (512 * (t.val % 11) + 256 * s.val + k.val)) := by
  rw [← read5]
  refine congrArg (iblk m c 5 t) (funext fun a => Fin.ext ?_)
  match a with
  | ⟨0, _⟩ => show s.val + 1 * 0 = s.val; omega
  | ⟨1, _⟩ => show 0 + 1 * l.val = l.val; omega
  | ⟨2, _⟩ => show 0 + 1 * k.val = k.val; omega

theorem downSlab_at (c : Dev nD) (t : Fin cfg0.N) (s : Fin 2) (h) (k : Fin 256) (n : Fin 2048) :
    downSlab m c t s.val h (ix3 0 k n) = downRow m c (512 * (t.val % 11) + 256 * s.val + k.val) n := by
  rw [← read6]
  refine congrArg (iblk m c 6 t) (funext fun a => Fin.ext ?_)
  match a with
  | ⟨0, _⟩ => show s.val + 1 * 0 = s.val; omega
  | ⟨1, _⟩ => show 0 + 1 * k.val = k.val; omega
  | ⟨2, _⟩ => show 0 + 1 * n.val = n.val; omega

/-- A point's gate columns are five hundred and twelve columns of the weights. -/
theorem gates_at (c : Dev nD) (t : Fin cfg0.N) (l : Fin 2048) (k : Fin 512) :
    gates m c t (ix2 l k) = upCol m c l (512 * (t.val % 11) + k.val) := by
  unfold gates
  rw [wide_at]
  split
  · exact (gateSlab_at m c t 0 _ l _).trans (congrArg (upCol m c l) (by show _ + 256 * 0 + k.val = _; omega))
  · exact (gateSlab_at m c t 1 _ l _).trans (congrArg (upCol m c l) (by show _ + 256 * 1 + (k.val - 256) = _; omega))

theorem ups_at (c : Dev nD) (t : Fin cfg0.N) (l : Fin 2048) (k : Fin 512) :
    ups m c t (ix2 l k) = upCol m c l (5632 + (512 * (t.val % 11) + k.val)) := by
  unfold ups
  rw [wide_at]
  split
  · exact (upSlab_at m c t 0 _ l _).trans (congrArg (upCol m c l) (by show _ + (_ + 256 * 0 + k.val) = _; omega))
  · exact (upSlab_at m c t 1 _ l _).trans (congrArg (upCol m c l) (by show _ + (_ + 256 * 1 + (k.val - 256)) = _; omega))

theorem downs_at (c : Dev nD) (t : Fin cfg0.N) (k : Fin 512) (n : Fin 2048) :
    downs m c t (ix2 k n) = downRow m c (512 * (t.val % 11) + k.val) n := by
  unfold downs
  rw [tall_at]
  split
  · exact (downSlab_at m c t 0 _ _ n).trans (congrArg (downRow m c · n) (by show _ + 256 * 0 + k.val = _; omega))
  · exact (downSlab_at m c t 1 _ _ n).trans (congrArg (downRow m c · n) (by show _ + 256 * 1 + (k.val - 256) = _; omega))

/-- Row `R` of the input, normed. -/
def normRow (c : Dev nD) (R : ℕ) (k : Fin 2048) : EReal := rms (inRow m c R) (pre m c) k

/-- Hidden activation `k` of row `R`. -/
def hidden (c : Dev nD) (R k : ℕ) : EReal :=
  act (∑ l, normRow m c R l * upCol m c l k) (∑ l, normRow m c R l * upCol m c l (5632 + k))

/-- What the hidden units of block `s` contribute to row `R`. -/
def contrib (c : Dev nD) (R s : ℕ) (n : Fin 2048) : EReal :=
  ∑ k : Fin 512, hidden m c R (512 * s + k.val) * downRow m c (512 * s + k.val) n

theorem normed_eq (c : Dev nD) (t : Fin cfg0.N) (r : Fin 1024) (k : Fin 2048) :
    normed m c t r k = normRow m c (1024 * (t.val / 11 + 1) + r.val) k :=
  rms_congr (fun l => read0 m c t r l) (fun l => read1 m c t l) k

theorem downAt_eq (c : Dev nD) (t : Fin cfg0.N) (R : ℕ) (h : Fin 2048 → EReal) (hh : ∀ l, h l = normRow m c R l)
    (n : Fin 2048) : downAt m c t h n = contrib m c R (t.val % 11) n := by
  obtain rfl : h = normRow m c R := funext hh
  unfold downAt down contrib hid hidden
  refine Finset.sum_congr rfl fun k _ => ?_
  rw [downs_at]
  congr 2 <;> refine Finset.sum_congr rfl fun l _ => ?_
  · rw [gates_at]
  · rw [ups_at]

/-- After step `j` of a tile, the second result holds the normed rows and the first the sum of the contributions of the
    blocks so far. -/
theorem upto (c : Dev nD) (i : ℕ) (hi : i < 7) : ∀ (j : ℕ) (hj : j ≤ 9) (r : Fin 1024) (n : Fin 2048),
    (outsAt0 m c (11 * i + j) (show 11 * i + j < 77 by omega)).2 (ix2 r n) = normRow m c (1024 * (i + 1) + r.val) n
    ∧ (outsAt0 m c (11 * i + j) (show 11 * i + j < 77 by omega)).1 (ix2 r n)
        = ∑ s ∈ Finset.range (j + 1), contrib m c (1024 * (i + 1) + r.val) s n := by
  intro j
  induction j with
  | zero =>
    intro hj r n
    have hN : 11 * i + 0 < cfg0.N := show 11 * i + 0 < 77 by omega
    have hd : (11 * i + 0) / 11 = i := by omega
    have hm : (11 * i + 0) % 11 = 0 := by omega
    have e := fun r k => normed_eq m c ⟨11 * i + 0, hN⟩ r k
    simp only [hd] at e
    refine ⟨(first_normed m c ⟨11 * i + 0, hN⟩ hm r n).trans (e r n), ?_⟩
    refine (first_sum m c ⟨11 * i + 0, hN⟩ hm r n).trans ?_
    rw [downAt_eq m c ⟨11 * i + 0, hN⟩ _ _ (e r) n, Finset.sum_range_one]
    simp only [hm]
  | succ j ih =>
    intro hj r n
    have hN : 11 * i + (j + 1) < cfg0.N := show 11 * i + (j + 1) < 77 by omega
    have hm : (11 * i + (j + 1)) % 11 = j + 1 := by omega
    have h0 : ¬(11 * i + (j + 1)) % 11 = 0 := by omega
    have h2 : ¬(11 * i + (j + 1)) % 11 = 10 := by omega
    have ih := fun r n => ih (by omega) r n
    refine ⟨(congrFun (mid_normed m c ⟨11 * i + (j + 1), hN⟩ h0 h2) _).trans (ih r n).1, ?_⟩
    refine (mid_sum m c ⟨11 * i + (j + 1), hN⟩ h0 h2 r n).trans ?_
    refine (congrArg₂ (· + ·) (ih r n).2
      (downAt_eq m c ⟨11 * i + (j + 1), hN⟩ (1024 * (i + 1) + r.val) _ (fun l => (ih r l).1) n)).trans ?_
    rw [Finset.sum_range_succ _ (j + 1)]
    simp only [hm]

/-- Row `R` of the first result. -/
def outRow (c : Dev nD) (R : ℕ) (n : Fin 2048) : EReal :=
  fin (inRow m c R) (fun l => ∑ s ∈ Finset.range 11, contrib m c R s l) (post m c) n

/-- Row `R` of the second. -/
def nextRow (c : Dev nD) (R : ℕ) (n : Fin 2048) : EReal := rms (outRow m c R) (next m c) n

theorem finished_eq (c : Dev nD) (t : Fin cfg0.N) (h : t.val % 11 = 10) (r : Fin 1024) (n : Fin 2048) :
    finished m c t r n = outRow m c (1024 * (t.val / 11 + 1) + r.val) n := by
  obtain ⟨t, ht⟩ := t
  have ht' : t < 77 := ht
  obtain ⟨i, rfl⟩ : ∃ i, t = 11 * i + 10 := ⟨t / 11, by simp only [] at h; omega⟩
  have hi : i < 7 := by omega
  have hd : (11 * i + 10) / 11 = i := by omega
  refine fin_congr (fun l => read0 m c _ r l) (fun l => ?_) (fun l => read2 m c _ l) n
  unfold added
  simp only [hd]
  refine (congrArg₂ (· + ·) (upto m c i hi 9 (le_refl 9) r l).2
    (downAt_eq m c ⟨11 * i + 10, ht⟩ (1024 * (i + 1) + r.val) _ (fun l => (upto m c i hi 9 (le_refl 9) r l).1) l)).trans ?_
  rw [Finset.sum_range_succ _ 10]
  simp only [h]

theorem last_eq (c : Dev nD) (t : Fin cfg0.N) (h : t.val % 11 = 10) (r : Fin 1024) (n : Fin 2048) :
    (outsAt0 m c t.val t.isLt).1 (ix2 r n) = outRow m c (1024 * (t.val / 11 + 1) + r.val) n
      ∧ (outsAt0 m c t.val t.isLt).2 (ix2 r n) = nextRow m c (1024 * (t.val / 11 + 1) + r.val) n :=
  ⟨(last_rows m c t h r n).1.trans (finished_eq m c t h r n),
    (last_rows m c t h r n).2.trans (rms_congr (fun l => finished_eq m c t h r l) (fun l => read3 m c t l) n)⟩

/-- A row is in the block of the last point of some tile just when it is past the first 1024. -/
theorem in_tile (R : Fin 8192) (n : Fin 2048) :
    (∃ t : Fin cfg0.N, t.val % 11 = 10 ∧ (t.val / 11 + 1) * 1024 ≤ R.val ∧ R.val < (t.val / 11 + 1) * 1024 + 1024)
      ↔ ¬R.val < 1024 := by
  have hR := R.isLt
  constructor
  · rintro ⟨t, -, h1, h2⟩; omega
  · intro h
    have hN : 11 * (R.val / 1024 - 1) + 10 < cfg0.N := show _ < 77 by omega
    exact ⟨⟨11 * (R.val / 1024 - 1) + 10, hN⟩, by simp only []; omega, by simp only []; omega, by simp only []; omega⟩

theorem mem_blk7 (t : Fin cfg0.N) (R : Fin 8192) (n : Fin 2048) :
    (ix2 R n : S8192x2048.Idx) ∈ ((cfg0.win 7).blk t).view.set
      ↔ (t.val / 11 + 1) * 1024 ≤ R.val ∧ R.val < (t.val / 11 + 1) * 1024 + 1024 := by
  have e := (places t).2.2.2.2.2.2.2.1
  show _ ∈ ((View.whole main_v16_0).slice (win0_7.rect t)).set ↔ _
  rw [View.set_slice_whole, Rect.mem_set_unit]
  have h0 : win0_7.index t (0 : Fin 2) = t.val / 11 + 1 := congrFun e 0
  have h1 : win0_7.index t (1 : Fin 2) = 0 := congrFun e 1
  have hn := n.isLt
  constructor
  · intro h
    have b0 : win0_7.index t (0 : Fin 2) * 1024 ≤ R.val ∧ R.val < win0_7.index t (0 : Fin 2) * 1024 + 1024 := h 0
    rwa [h0] at b0
  · intro h a
    match a with
    | ⟨0, _⟩ => show win0_7.index t (0 : Fin 2) * 1024 ≤ R.val ∧ R.val < win0_7.index t (0 : Fin 2) * 1024 + 1024; rw [h0]; exact h
    | ⟨1, _⟩ => show win0_7.index t (1 : Fin 2) * 2048 ≤ n.val ∧ n.val < win0_7.index t (1 : Fin 2) * 2048 + 2048; omega

theorem mem_blk8 (t : Fin cfg0.N) (R : Fin 8192) (n : Fin 2048) :
    (ix2 R n : S8192x2048.Idx) ∈ ((cfg0.win 8).blk t).view.set
      ↔ (t.val / 11 + 1) * 1024 ≤ R.val ∧ R.val < (t.val / 11 + 1) * 1024 + 1024 := by
  have e := (places t).2.2.2.2.2.2.2.2
  show _ ∈ ((View.whole main_v16_1).slice (win0_8.rect t)).set ↔ _
  rw [View.set_slice_whole, Rect.mem_set_unit]
  have h0 : win0_8.index t (0 : Fin 2) = t.val / 11 + 1 := congrFun e 0
  have h1 : win0_8.index t (1 : Fin 2) = 0 := congrFun e 1
  have hn := n.isLt
  constructor
  · intro h
    have b0 : win0_8.index t (0 : Fin 2) * 1024 ≤ R.val ∧ R.val < win0_8.index t (0 : Fin 2) * 1024 + 1024 := h 0
    rwa [h0] at b0
  · intro h a
    match a with
    | ⟨0, _⟩ => show win0_8.index t (0 : Fin 2) * 1024 ≤ R.val ∧ R.val < win0_8.index t (0 : Fin 2) * 1024 + 1024; rw [h0]; exact h
    | ⟨1, _⟩ => show win0_8.index t (1 : Fin 2) * 2048 ≤ n.val ∧ n.val < win0_8.index t (1 : Fin 2) * 2048 + 2048; omega

/-- The rows of the two results, as arrays. -/
def rows7 (c : Dev nD) : Buf (Elt Ideal) ((c : Thread nD τ).loc main_v16_0) := fun i => outRow m c (i 0).val (i 1)
def rows8 (c : Dev nD) : Buf (Elt Ideal) ((c : Thread nD τ).loc main_v16_1) := fun i => nextRow m c (i 0).val (i 1)

/-- What the last point of a tile writes back is a block of them. -/
theorem flushed7 (c : Dev nD) (t : Fin cfg0.N) (hf : (cfg0.win 7).flush t = true) :
    (dats m 0 c).flushed 7 t = ((cfg0.win 7).blk t).view.read (Elt Ideal) (rows7 m c) := by
  have hm := (flush0_7 t).mp hf
  have h0 : win0_7.index t (0 : Fin 2) = t.val / 11 + 1 := congrFun (places t).2.2.2.2.2.2.2.1 0
  have h1 : win0_7.index t (1 : Fin 2) = 0 := congrFun (places t).2.2.2.2.2.2.2.1 1
  show (cfg0.win 7).cut (grid0.coords t) ((dats m 0 c).after 7 t) = _
  rw [after7]
  funext y
  have hx : (cfg0.win 7).xinj (grid0.coords t) y = ix2 (⟨(y 0).val, (y 0).isLt⟩ : Fin 1024) (⟨(y 1).val, (y 1).isLt⟩ : Fin 2048) := by
    funext a; match a with | ⟨0, _⟩ => rfl | ⟨1, _⟩ => rfl
  have b0 : (((cfg0.win 7).blk t).view.emb y 0).val = win0_7.index t (0 : Fin 2) * 1024 + 1 * (y 0).val := rfl
  have b1 : (((cfg0.win 7).blk t).view.emb y 1).val = win0_7.index t (1 : Fin 2) * 2048 + 1 * (y 1).val := rfl
  show (outsAt0 m c t.val t.isLt).1 ((cfg0.win 7).xinj (grid0.coords t) y)
    = outRow m c (((cfg0.win 7).blk t).view.emb y 0).val (((cfg0.win 7).blk t).view.emb y 1)
  rw [hx]
  refine (last_eq m c t hm _ _).1.trans (congrArg₂ (outRow m c) ?_ (Fin.ext ?_))
  · rw [b0, h0]; simp only []; omega
  · rw [b1, h1]; simp only []; omega

theorem flushed8 (c : Dev nD) (t : Fin cfg0.N) (hf : (cfg0.win 8).flush t = true) :
    (dats m 0 c).flushed 8 t = ((cfg0.win 8).blk t).view.read (Elt Ideal) (rows8 m c) := by
  have hm := (flush0_8 t).mp hf
  have h0 : win0_8.index t (0 : Fin 2) = t.val / 11 + 1 := congrFun (places t).2.2.2.2.2.2.2.2 0
  have h1 : win0_8.index t (1 : Fin 2) = 0 := congrFun (places t).2.2.2.2.2.2.2.2 1
  show (cfg0.win 8).cut (grid0.coords t) ((dats m 0 c).after 8 t) = _
  rw [after8]
  funext y
  have hx : (cfg0.win 8).xinj (grid0.coords t) y = ix2 (⟨(y 0).val, (y 0).isLt⟩ : Fin 1024) (⟨(y 1).val, (y 1).isLt⟩ : Fin 2048) := by
    funext a; match a with | ⟨0, _⟩ => rfl | ⟨1, _⟩ => rfl
  have b0 : (((cfg0.win 8).blk t).view.emb y 0).val = win0_8.index t (0 : Fin 2) * 1024 + 1 * (y 0).val := rfl
  have b1 : (((cfg0.win 8).blk t).view.emb y 1).val = win0_8.index t (1 : Fin 2) * 2048 + 1 * (y 1).val := rfl
  show (outsAt0 m c t.val t.isLt).2 ((cfg0.win 8).xinj (grid0.coords t) y)
    = nextRow m c (((cfg0.win 8).blk t).view.emb y 0).val (((cfg0.win 8).blk t).view.emb y 1)
  rw [hx]
  refine (last_eq m c t hm _ _).2.trans (congrArg₂ (nextRow m c) ?_ (Fin.ext ?_))
  · rw [b0, h0]; simp only []; omega
  · rw [b1, h1]; simp only []; omega

/-- The first 1024 rows are the ones given. -/
theorem entry7 (c : Dev nD) (R : Fin 8192) (n : Fin 2048) (h : R.val < 1024) :
    V m c main_v16_0 (ix2 R n) = (m ((c : Thread nD τ).loc main_arg6)) (ix2 ⟨R.val, h⟩ n) := by
  entry_read
  pointwise
  rw [dif_pos h]

theorem entry8 (c : Dev nD) (R : Fin 8192) (n : Fin 2048) (h : R.val < 1024) :
    V m c main_v16_1 (ix2 R n) = (m ((c : Thread nD τ).loc main_arg7)) (ix2 ⟨R.val, h⟩ n) := by
  entry_read
  pointwise
  rw [dif_pos h]

/-- The arrays after every write-back. -/
theorem final7 (c : Dev nD) (R : Fin 8192) (n : Fin 2048) :
    (dats m 0 c).arrAt 7 cfg0.N (ix2 R n : S8192x2048.Idx)
      = if h : R.val < 1024 then (m ((c : Thread nD τ).loc main_arg6)) (ix2 ⟨R.val, h⟩ n) else outRow m c R.val n := by
  refine ((dats m 0 c).arrAt_eq_piecewise 7 (rows7 m c) (flushed7 m c) (ix2 R n : S8192x2048.Idx)).trans ?_
  have hc : (∃ t : Fin cfg0.N, (cfg0.win 7).flush t = true ∧ (ix2 R n : S8192x2048.Idx) ∈ ((cfg0.win 7).blk t).view.set)
      ↔ ¬R.val < 1024 := by
    rw [← in_tile R n]
    exact exists_congr fun t => and_congr (flush0_7 t) (mem_blk7 t R n)
  by_cases h : R.val < 1024
  · rw [dif_pos h, if_neg fun hx => (hc.mp hx) h, A_eq]
    exact entry7 m c R n h
  · rw [dif_neg h, if_pos (hc.mpr h)]
    rfl

theorem final8 (c : Dev nD) (R : Fin 8192) (n : Fin 2048) :
    (dats m 0 c).arrAt 8 cfg0.N (ix2 R n : S8192x2048.Idx)
      = if h : R.val < 1024 then (m ((c : Thread nD τ).loc main_arg7)) (ix2 ⟨R.val, h⟩ n) else nextRow m c R.val n := by
  refine ((dats m 0 c).arrAt_eq_piecewise 8 (rows8 m c) (flushed8 m c) (ix2 R n : S8192x2048.Idx)).trans ?_
  have hc : (∃ t : Fin cfg0.N, (cfg0.win 8).flush t = true ∧ (ix2 R n : S8192x2048.Idx) ∈ ((cfg0.win 8).blk t).view.set)
      ↔ ¬R.val < 1024 := by
    rw [← in_tile R n]
    exact exists_congr fun t => and_congr (flush0_8 t) (mem_blk8 t R n)
  by_cases h : R.val < 1024
  · rw [dif_pos h, if_neg fun hx => (hc.mp hx) h, A_eq]
    exact entry8 m c R n h
  · rw [dif_neg h, if_pos (hc.mpr h)]
    rfl

/-- The reference's row before the last norm. -/
theorem reference_row (c : Dev nD) (R : Fin 8192) (n : Fin 2048) :
    Reference5Ideal.Read.val_main_v38 (F := Ideal) (m ((c : Thread nD τ).loc main_arg0)) (m ((c : Thread nD τ).loc main_arg1))
      (m ((c : Thread nD τ).loc main_arg2)) (m ((c : Thread nD τ).loc main_arg4)) (m ((c : Thread nD τ).loc main_arg5))
        (ix3 ⟨R.val / 2048 % 4, Nat.mod_lt _ (by decide)⟩ ⟨R.val % 2048, Nat.mod_lt _ (by decide)⟩ n)
      = outRow m c R.val n := by
  rw [Reference5Ideal.Rest.same, Reference2Ideal.Rows.result_at]
  refine fin_congr (fun _ => rfl) (fun l => ?_) (fun _ => rfl) n
  rw [Reference2Ideal.Rows.down_at, Finset.sum_range]
  refine (Fin.sum_mul_add_congr (S := 11) (n := 512) (fun s k hl => ?_)).symm
  rw [Reference2Ideal.Rows.act_at, Reference2Ideal.Rows.up_at, Reference2Ideal.Rows.up_at]
  have es : 512 * s.val + k.val = s.val * 512 + k.val := by omega
  unfold hidden downRow upCol normRow inRow pre
  rw [es]
  have e1 : (s.val * 512 + k.val) % 5632 = s.val * 512 + k.val := Nat.mod_eq_of_lt hl
  have e2 : (s.val * 512 + k.val) % 11264 = s.val * 512 + k.val := Nat.mod_eq_of_lt (by omega)
  have e3 : (5632 + (s.val * 512 + k.val)) % 11264 = 5632 + (s.val * 512 + k.val) := Nat.mod_eq_of_lt (by omega)
  simp only [e1, e2, e3]

/-- The first array is the reference's. -/
theorem first_result (c : Dev nD) :
    Reference5Ideal.Read.val_main_v55 (F := Ideal) (m ((c : Thread nD τ).loc main_arg0)) (m ((c : Thread nD τ).loc main_arg1))
      (m ((c : Thread nD τ).loc main_arg2)) (m ((c : Thread nD τ).loc main_arg4)) (m ((c : Thread nD τ).loc main_arg5))
      (m ((c : Thread nD τ).loc main_arg6))
      = (dats m 0 c).arrAt 7 cfg0.N := by
  funext i
  obtain ⟨R, n, rfl⟩ : ∃ (R : Fin 8192) (n : Fin 2048), i = ix2 R n := ⟨i 0, i 1, by
    funext a; match a with | ⟨0, _⟩ => rfl | ⟨1, _⟩ => rfl⟩
  refine Eq.trans ?_ (final7 m c R n).symm
  rw [Reference5Ideal.Rest.out_at]
  exact dite_congr rfl (fun _ => rfl) fun _ => reference_row m c R n

/-- The second array is the reference's. -/
theorem second_result (c : Dev nD) :
    Reference5Ideal.Read.val_main_v59 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg7))
      = (dats m 0 c).arrAt 8 cfg0.N := by
  funext i
  obtain ⟨R, n, rfl⟩ : ∃ (R : Fin 8192) (n : Fin 2048), i = ix2 R n := ⟨i 0, i 1, by
    funext a; match a with | ⟨0, _⟩ => rfl | ⟨1, _⟩ => rfl⟩
  refine Eq.trans ?_ (final8 m c R n).symm
  rw [Reference5Ideal.Rest.out_next_at]
  refine dite_congr rfl (fun _ => rfl) fun _ => ?_
  rw [Reference5Ideal.Rest.next_at]
  exact rms_congr (fun l => reference_row m c R l) (fun _ => rfl) n

end Cert.Kernel5Ideal.Rest

end
-- ==== Proof.RestClaim.lean ====
/- The value claim of the call over the remaining rows. -/
module

public import proofs.«01_k».proof.Defs
public import proofs.«01_k».proof.Proof.RestResult
public import proofs.«01_k».proof.Proof.Gen.Reference5Ideal
public import proofs.«01_k».proof.Proof.Gen.Reference5Ideal.Run
public import Idealize.ShloMosaic.Lib.Pipeline.ValueKit

@[expose] public section

set_option maxRecDepth 16384

noncomputable section

open Idealize.ShloMosaic Idealize.ShloMosaic.TcCoe Idealize.SL.Sem

namespace Cert.Kernel5Ideal.Rest

open Cert.Kernel5Ideal Cert.Kernel5Ideal.Gen

variable {F : FTy → Type} [FloatOps F]
variable (m : (ℓ : Loc nD τ sig) → Buf (Elt F) ℓ) (ρ : Dev nD → PrngReg)

/-- Every run ends with the two results at what the write-backs leave and the arguments as they were. -/
theorem run_blocks : θ_run defs (onTc (τ := τ) (main (F := F))) ⟨m, fun _ => 0, ρ⟩ fun r => ∀ c : Dev nD,
      r.2.mem ((c : Thread nD τ).loc main_v16_0) = (dats m 0 c).arrAt 7 cfg0.N
      ∧ r.2.mem ((c : Thread nD τ).loc main_v16_1) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h.1 c).1 7, (h.1 c).1 8, h.2.1 c⟩) (θ_run_and (run_post m ρ) (frame m ρ))

end Cert.Kernel5Ideal.Rest

namespace Cert.RestClaim

theorem algebraic : Cert.algebraic_Kernel5Ideal_Reference5Ideal := by
  pair_intro
  · run_from Cert.Kernel5Ideal.Rest.run_blocks m g
  · run_from Cert.Reference5Ideal.Value.run m' g'
    · obtain ⟨a0, a1, a2, a3, a4, a5, a6, a7⟩ := hagree c
      rw [Cert.Reference5Ideal.Read.val_main_v55_eq, a0, a1, a2, a4, a5, a6]
      exact Cert.Kernel5Ideal.Rest.first_result m c
    · obtain ⟨a0, a1, a2, a3, a4, a5, a6, a7⟩ := hagree c
      rw [Cert.Reference5Ideal.Read.val_main_v59_eq, a0, a1, a2, a3, a4, a5, a7]
      exact Cert.Kernel5Ideal.Rest.second_result m c

end Cert.RestClaim

end
-- ==== Proof.HeadRows.lean ====
/- What one step of the call over the first rows makes of the blocks it is given, a row at a time. -/
module

public import proofs.«01_k».proof.Proof.Gen.Kernel6Ideal.Skeleton
public import proofs.«01_k».proof.Proof.FeedForward
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Cert.FeedForward

namespace Cert.Kernel6Ideal.Head

open Cert.Kernel6Ideal Cert.Kernel6Ideal.Gen

/-- One hidden activation of a normed row, from a point's columns of the two up projections. -/
def hid (wg wu : FVec Ideal S2048x256 .bf16) (h : Fin 2048 → EReal) (k : Fin 256) : EReal :=
  act (∑ l, h l * wg (ix2 l k)) (∑ l, h l * wu (ix2 l k))

/-- What a point's columns contribute to a row of the down projection. -/
def down (wg wu : FVec Ideal S2048x256 .bf16) (wd : FVec Ideal S256x2048 .bf16) (h : Fin 2048 → EReal) (n : Fin 2048) : EReal :=
  ∑ k, hid wg wu h k * wd (ix2 k n)

/-- The weights' columns and rows, cast, and as slabs. -/
theorem gate_cast (w : FVec Ideal S2048x256 .f32) (l : Fin 2048) (k : Fin 256) : k0_pay4 (F := Ideal) w (ix2 l k) = w (ix2 l k) := by
  unfold k0_pay4
  pointwise

theorem up_cast (w : FVec Ideal S2048x256 .f32) (l : Fin 2048) (k : Fin 256) : k0_pay5 (F := Ideal) w (ix2 l k) = w (ix2 l k) := by
  unfold k0_pay5
  pointwise

theorem down_cast (w : FVec Ideal S256x2048 .f32) (k : Fin 256) (n : Fin 2048) : k0_pay6 (F := Ideal) w (ix2 k n) = w (ix2 k n) := by
  unfold k0_pay6
  pointwise

theorem gate_slab (w : FVec Ideal S2048x256 .f32) (l : Fin 2048) (k : Fin 256) : k0_pay7 (F := Ideal) w (ix3 0 l k) = w (ix2 l k) := by
  unfold k0_pay7 k0_pay4
  pointwise

theorem up_slab (w : FVec Ideal S2048x256 .f32) (l : Fin 2048) (k : Fin 256) : k0_pay8 (F := Ideal) w (ix3 0 l k) = w (ix2 l k) := by
  unfold k0_pay8 k0_pay5
  pointwise

theorem down_slab (w : FVec Ideal S256x2048 .f32) (k : Fin 256) (n : Fin 2048) : k0_pay9 (F := Ideal) w (ix3 0 k n) = w (ix2 k n) := by
  unfold k0_pay9 k0_pay6
  pointwise

/-- Thirty-two normed rows. -/
theorem norm_tile (v : FVec Ideal S32x2048 .f32) (g : FVec Ideal S1x2048 .f32) (r : Fin 32) (k : Fin 2048) :
    k0_pay10 (F := Ideal) v g (ix2 r k) = rms (fun l => v (ix2 r l)) (fun l => g (ix2 0 l)) k := by
  unfold k0_pay10 rms
  pointwise

/-- Two hundred and fifty-six rows of a point's hidden columns. -/
theorem act_tile (wg wu : FVec Ideal S2048x256 .bf16) (h : FVec Ideal S256x2048 .bf16) (r : Fin 256) (k : Fin 256) :
    k0_pay22 (F := Ideal) wg wu h (ix2 r k) = hid wg wu (fun l => h (ix2 r l)) k := by
  unfold k0_pay22 hid act
  pointwise

/-- All rows of a point's hidden columns. -/
theorem act_rows (a b : FVec Ideal S2048x256 .f32) (h : FVec Ideal S1024x2048 .bf16) (r : Fin 1024) (k : Fin 256) :
    k0_pay78 (F := Ideal) a b h (ix2 r k)
      = hid (k0_pay4 (F := Ideal) a) (k0_pay5 (F := Ideal) b) (fun l => h (ix2 r l)) k := by
  unfold k0_pay78 k0_pay72 k0_pay73 hid act k0_pay4 k0_pay5
  pointwise

/-- Thirty-two finished rows, row by row. -/
theorem fin_tile (x o : FVec Ideal S32x2048 .f32) (g : FVec Ideal S1x2048 .f32) (r : Fin 32) (k : Fin 2048) :
    k0_pay80 (F := Ideal) x o g (ix2 r k)
      = fin (fun l => x (ix2 r l)) (fun l => o (ix2 r l)) (fun l => g (ix2 0 l)) k := by
  unfold k0_pay80 fin rms
  pointwise

/-- A middle point adds its contribution to every row. -/
theorem mid_rows (a b : FVec Ideal S2048x256 .f32) (d : FVec Ideal S256x2048 .f32)
    (h : FVec Ideal S1024x2048 .bf16) (o : FVec Ideal S1024x2048 .f32) (r : Fin 1024) (n : Fin 2048) :
    k0_pay2 (F := Ideal) (k0_pay6 d) (k0_pay71 a b h) o (ix2 r n)
      = o (ix2 r n) + down (k0_pay4 (F := Ideal) a) (k0_pay5 (F := Ideal) b) (k0_pay6 (F := Ideal) d)
          (fun l => h (ix2 r l)) n := by
  unfold k0_pay2 k0_pay71 k0_pay65 k0_pay66 down hid act k0_pay4 k0_pay5 k0_pay6
  pointwise

/-- The first contribution, its hidden rows made a quarter at a time. -/
theorem first_rows (wg wu : FVec Ideal S2048x256 .bf16) (wd : FVec Ideal S256x2048 .bf16) (a b c : FVec Ideal S256x256 .bf16)
    (h : FVec Ideal S256x2048 .bf16) (H : Fin 1024 → Fin 256 → EReal)
    (ha : ∀ (x : Fin 256) (r : Fin 1024) k, r.val = 0 + x.val → a (ix2 x k) = H r k)
    (hb : ∀ (x : Fin 256) (r : Fin 1024) k, r.val = 256 + x.val → b (ix2 x k) = H r k)
    (hc : ∀ (x : Fin 256) (r : Fin 1024) k, r.val = 512 + x.val → c (ix2 x k) = H r k)
    (hd : ∀ (x : Fin 256) (r : Fin 1024) k, r.val = 768 + x.val → hid wg wu (fun l => h (ix2 x l)) k = H r k)
    (r : Fin 1024) (n : Fin 2048) :
    k0_pay1 (F := Ideal) wg wu wd a b c h (ix2 r n) = ∑ k, H r k * wd (ix2 k n) := by
  unfold k0_pay1
  pointwise
  refine Finset.sum_congr rfl fun k _ => congrArg (· * _) ?_
  have hr := r.isLt
  split_ifs
  all_goals first
    | exact absurd rfl ‹¬_›
    | exact ha _ r k (by simp only []; omega)
    | exact hb _ r k (by simp only []; omega)
    | exact hc _ r k (by simp only []; omega)
    | exact hd _ r k (by simp only []; omega)

/-- A quarter of the rows of the last contribution, added to what was there. -/
theorem quarter0 (wd : FVec Ideal S256x2048 .bf16) (a : FVec Ideal S1024x256 .bf16)
    (o : FVec Ideal S256x2048 .f32) (r : Fin 1024) (x : Fin 256) (n : Fin 2048) (hr : r.val = 0 + x.val) :
    k0_pay79 (F := Ideal) wd a o (ix2 x n) = o (ix2 x n) + ∑ k, a (ix2 r k) * wd (ix2 k n) := by
  obtain ⟨r, hlt⟩ := r
  obtain rfl : r = x.val := by simp only [] at hr; omega
  unfold k0_pay79
  pointwise

theorem quarter1 (wd : FVec Ideal S256x2048 .bf16) (a : FVec Ideal S1024x256 .bf16)
    (o : FVec Ideal S256x2048 .f32) (r : Fin 1024) (x : Fin 256) (n : Fin 2048) (hr : r.val = 256 + x.val) :
    k0_pay104 (F := Ideal) wd a o (ix2 x n) = o (ix2 x n) + ∑ k, a (ix2 r k) * wd (ix2 k n) := by
  obtain ⟨r, hlt⟩ := r
  obtain rfl : r = 256 + x.val := hr
  unfold k0_pay104
  pointwise

theorem quarter2 (wd : FVec Ideal S256x2048 .bf16) (a : FVec Ideal S1024x256 .bf16)
    (o : FVec Ideal S256x2048 .f32) (r : Fin 1024) (x : Fin 256) (n : Fin 2048) (hr : r.val = 512 + x.val) :
    k0_pay138 (F := Ideal) wd a o (ix2 x n) = o (ix2 x n) + ∑ k, a (ix2 r k) * wd (ix2 k n) := by
  obtain ⟨r, hlt⟩ := r
  obtain rfl : r = 512 + x.val := hr
  unfold k0_pay138
  pointwise

theorem quarter3 (wd : FVec Ideal S256x2048 .bf16) (a : FVec Ideal S1024x256 .bf16)
    (o : FVec Ideal S256x2048 .f32) (r : Fin 1024) (x : Fin 256) (n : Fin 2048) (hr : r.val = 768 + x.val) :
    k0_pay168 (F := Ideal) wd a o (ix2 x n) = o (ix2 x n) + ∑ k, a (ix2 r k) * wd (ix2 k n) := by
  obtain ⟨r, hlt⟩ := r
  obtain rfl : r = 768 + x.val := hr
  unfold k0_pay168
  pointwise

end Cert.Kernel6Ideal.Head

end
-- ==== Proof.HeadCases.lean ====
/- What each of the three kinds of point of the call over the first rows leaves in the results, a row at a time. -/
module

public import proofs.«01_k».proof.Proof.HeadFrame
public import proofs.«01_k».proof.Proof.HeadRows
public import proofs.«01_k».proof.Proof.RestCases
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)
open Cert.FeedForward Cert.RowStores
open Cert.Kernel5Ideal.Rest (Both)

namespace Cert.Kernel6Ideal.Head

open Cert.Kernel6Ideal Cert.Kernel6Ideal.Gen

variable (m : (ℓ : Loc nD τ sig) → Buf (Elt Ideal) ℓ)

/-- A point's columns of the gates and of the other projection, and its rows of the projection down. -/
def gates (c : Dev nD) (t : Fin cfg0.N) : FVec Ideal S2048x256 .bf16 := k0_pay4 (F := Ideal) (iblk m c 4 t)
def ups (c : Dev nD) (t : Fin cfg0.N) : FVec Ideal S2048x256 .bf16 := k0_pay5 (F := Ideal) (iblk m c 5 t)
def downs (c : Dev nD) (t : Fin cfg0.N) : FVec Ideal S256x2048 .bf16 := k0_pay6 (F := Ideal) (iblk m c 6 t)

/-- Row `r` of the input, normed. -/
def normed (c : Dev nD) (t : Fin cfg0.N) (r : Fin 1024) (k : Fin 2048) : EReal :=
  rms (fun l => iblk m c 0 t (ix2 r l)) (fun l => iblk m c 1 t (ix2 0 l)) k

/-- What a point's hidden units contribute to a row `h`. -/
def downAt (c : Dev nD) (t : Fin cfg0.N) (h : Fin 2048 → EReal) (n : Fin 2048) : EReal :=
  down (gates m c t) (ups m c t) (downs m c t) h n

/-- A row with a point's contribution added. -/
def added (c : Dev nD) (t : Fin cfg0.N) (r : Fin 1024) (n : Fin 2048) : EReal :=
  (prev m c t).1 (ix2 r n) + downAt m c t (fun l => (prev m c t).2.1 (ix2 r l)) n

/-- A finished row. -/
def finished (c : Dev nD) (t : Fin cfg0.N) (r : Fin 1024) (n : Fin 2048) : EReal :=
  fin (fun l => iblk m c 0 t (ix2 r l)) (added m c t r) (fun l => iblk m c 2 t (ix2 0 l)) n

/-- The second result after the first point: the normed rows. -/
theorem first_normed (c : Dev nD) (t : Fin cfg0.N) (h : t.val = 0) (r : Fin 1024) (k : Fin 2048) :
    (outsAt0 m c t.val t.isLt).2.1 (ix2 r k) = normed m c t r k := by
  rw [outs_first m c t h]
  unfold firstOuts left atFirst
  frame_out
  refine ((?_ : Upto (Val := Elt Ideal) (e := .bf16) (normed m c t) (normed m c t) _ 1024 1024) r k).1 r.isLt
  repeat' refine Upto.store _ _ ?_ rfl ?_
  all_goals first
    | exact Upto.nil _ _
    | exact fun r x l hr => (norm_tile _ _ _ _).trans (rms_congr (fun l' => ld_band _ _ r x l' hr) (fun _ => rfl) _)

/-- The first result after it: the first contribution. -/
theorem first_sum (c : Dev nD) (t : Fin cfg0.N) (h : t.val = 0) (r : Fin 1024) (n : Fin 2048) :
    (outsAt0 m c t.val t.isLt).1 (ix2 r n) = downAt m c t (normed m c t r) n := by
  rw [outs_first m c t h]
  unfold firstOuts left atFirst
  frame_out
  refine (first_rows _ _ _ _ _ _ _ (fun r k => hid (gates m c t) (ups m c t) (normed m c t r) k)
    (fun x r k hr => (act_tile _ _ _ _ _).trans (congrArg (fun h => hid (gates m c t) (ups m c t) h k) (funext fun l => ?_)))
    (fun x r k hr => (act_tile _ _ _ _ _).trans (congrArg (fun h => hid (gates m c t) (ups m c t) h k) (funext fun l => ?_)))
    (fun x r k hr => (act_tile _ _ _ _ _).trans (congrArg (fun h => hid (gates m c t) (ups m c t) h k) (funext fun l => ?_)))
    (fun x r k hr => congrArg (fun h => hid (gates m c t) (ups m c t) h k) (funext fun l => ?_)) r n).trans ?_
  rotate_right
  · rfl
  all_goals
    refine Upto.read (Val := Elt Ideal) (e := .bf16) (A := normed m c t) (G := normed m c t) ?_ _ _ (Nat.le_refl _) r x l hr
    repeat' refine Upto.store _ _ ?_ rfl ?_
  all_goals first
    | exact Upto.nil _ _
    | exact fun r x l hr => (norm_tile _ _ _ _).trans (rms_congr (fun l' => ld_band _ _ r x l' hr) (fun _ => rfl) _)

/-- A middle point adds its block's contribution to every row, and leaves the normed rows as they were. -/
theorem mid_sum (c : Dev nD) (t : Fin cfg0.N) (h : ¬t.val = 0) (h2 : ¬t.val = 21) (r : Fin 1024) (n : Fin 2048) :
    (outsAt0 m c t.val t.isLt).1 (ix2 r n) = added m c t r n := by
  rw [outs_mid m c t h h2]
  unfold midOuts left atMid
  frame_out
  exact mid_rows _ _ _ _ _ r n

theorem mid_normed (c : Dev nD) (t : Fin cfg0.N) (h : ¬t.val = 0) (h2 : ¬t.val = 21) :
    (outsAt0 m c t.val t.isLt).2.1 = (prev m c t).2.1 := by
  rw [outs_mid m c t h h2]
  dsimp only [midOuts]

/-- The other three results: the point's slabs of the weights. -/
theorem slabs (c : Dev nD) (t : Fin cfg0.N) (l : Fin 2048) (k : Fin 256) :
    (outsAt0 m c t.val t.isLt).2.2.1 (ix3 0 l k) = iblk m c 4 t (ix2 l k)
      ∧ (outsAt0 m c t.val t.isLt).2.2.2.1 (ix3 0 l k) = iblk m c 5 t (ix2 l k)
      ∧ (outsAt0 m c t.val t.isLt).2.2.2.2 (ix3 0 k l) = iblk m c 6 t (ix2 k l) := by
  by_cases h : t.val = 0
  · rw [outs_first m c t h]
    unfold firstOuts left atFirst
    frame_out
    exact ⟨gate_slab _ l k, up_slab _ l k, down_slab _ k l⟩
  · by_cases h2 : t.val = 21
    · rw [outs_last m c t h2]
      unfold lastOuts left atLast
      frame_out
      exact ⟨gate_slab _ l k, up_slab _ l k, down_slab _ k l⟩
    · rw [outs_mid m c t h h2]
      unfold midOuts left atMid
      frame_out
      exact ⟨gate_slab _ l k, up_slab _ l k, down_slab _ k l⟩

theorem added_of (c : Dev nD) (t : Fin cfg0.N) (h : FVec Ideal S1024x2048 .bf16) (hh : h = (prev m c t).2.1)
    (o : FVec Ideal S256x2048 .f32) (r : Fin 1024) (x : Fin 256)
    (n : Fin 2048) (ho : o (ix2 x n) = (prev m c t).1 (ix2 r n)) :
    o (ix2 x n) + ∑ k, k0_pay78 (F := Ideal) (iblk m c 4 t) (iblk m c 5 t) h (ix2 r k) * downs m c t (ix2 k n)
      = added m c t r n := by
  subst hh
  rw [ho]
  exact congrArg (_ + ·) (Finset.sum_congr rfl fun k _ => congrArg (· * _) (act_rows _ _ _ _ _))

set_option maxHeartbeats 4000000 in
/-- The last point adds its block's contribution, finishes every row and norms it. -/
theorem last_rows (c : Dev nD) (t : Fin cfg0.N) (h : t.val = 21) (r : Fin 1024) (n : Fin 2048) :
    (outsAt0 m c t.val t.isLt).1 (ix2 r n) = finished m c t r n
      ∧ (outsAt0 m c t.val t.isLt).2.1 (ix2 r n) = rms (finished m c t r) (fun l => iblk m c 3 t (ix2 0 l)) n := by
  rw [outs_last m c t h]
  unfold lastOuts left atLast
  frame_out
  refine Both.out (A := added m c t) (G := finished m c t) (g := iblk m c 3 t) ?_ r n
  iterate 4
    iterate 8 refine Both.finish _ _ _ _ ?_ rfl (by decide) rfl ?_
    refine Both.next _ _ ?_ rfl ?_
  · exact Both.nil
  · exact fun r x n hr => (quarter0 _ _ _ r x n hr).trans
      (added_of m c t _ rfl _ r x n (ld_band _ _ r x n hr))
  all_goals try
    intro r x n hr hx ho
    replace ho := ho (ms0_7 t).view
    replace hx := hx (iblk m c 0 t)
    revert ho hx
    generalize View.readCov (Val := Elt Ideal) (ms0_7 t).view _ _ = O
    generalize View.ld (Val := Elt Ideal) (iblk m c 0 t) _ = X
    intro ho hx
    exact (fin_tile X O _ x n).trans (fin_congr hx ho (fun _ => rfl) n)
  · exact fun r x n hr => (quarter1 _ _ _ r x n hr).trans
      (added_of m c t _ rfl _ r x n (ld_band _ _ r x n hr))
  · exact fun r x n hr => (quarter2 _ _ _ r x n hr).trans
      (added_of m c t _ rfl _ r x n (ld_band _ _ r x n hr))
  · exact fun r x n hr => (quarter3 _ _ _ r x n hr).trans
      (added_of m c t _ rfl _ r x n (ld_band _ _ r x n hr))

end Cert.Kernel6Ideal.Head

end
-- ==== Proof.HeadReference.lean ====
/- The reference's results for the call over the first rows: its rows and its weights, an entry at a time. -/
module

public import proofs.«01_k».proof.Proof.Gen.Reference6Ideal.Read
public import proofs.«01_k».proof.Proof.FfnReference
public import Idealize.ShloMosaic.Lib.Pointwise

@[expose] public section

set_option maxRecDepth 16384

noncomputable section

open Idealize.ShloMosaic Cert.FeedForward

namespace Cert.Reference6Ideal.Head

open Cert.Reference6Ideal Cert.Reference6Ideal.Read

variable (x : FVec Ideal S4x2048x2048 .f32) (g p q : FVec Ideal S1x2048 .f32) (w : FVec Ideal S1x2048x11264 .f32)
  (d : FVec Ideal S1x5632x2048 .f32)

/-- The finished rows. -/
theorem same : val_main_v38 (F := Ideal) x g p w d = Cert.Reference2Ideal.Read.val_main_v38 (F := Ideal) x g p w d := rfl

/-- Their norm for the mixers. -/
theorem next_at (b : Fin 4) (s : Fin 2048) (n : Fin 2048) :
    val_main_v52 (F := Ideal) x g p q w d (ix3 b s n)
      = rms (fun l => val_main_v38 (F := Ideal) x g p w d (ix3 b s l)) (fun l => q (ix2 0 l)) n := by
  unfold val_main_v52 val_main_v51 val_main_v50 val_main_v49 val_main_v48 val_main_v47 val_main_v46 val_main_v45 val_main_v44
    val_main_v43 val_main_v42 val_main_v41 val_main_v40 val_main_v39 val_main_cst_6 val_main_cst_7 val_main_cst_8 rms
  pointwise

/-- Row `R` of the first 1024 over batches and positions. -/
theorem index_eq (R : Fin 1024) (n : Fin 2048) :
    idx_main_v56 (idx_main_v57 (ix2 R n))
      = ix3 ⟨R.val / 2048 % 4, Nat.mod_lt _ (by decide)⟩ ⟨R.val % 2048, Nat.mod_lt _ (by decide)⟩ n := by
  have hR := R.isLt
  have hn := n.isLt
  funext a
  apply Fin.ext
  match a with
  | ⟨0, _⟩ => show (R.val * 2048 + n.val) / 4194304 = R.val / 2048 % 4; omega
  | ⟨1, _⟩ => show (R.val * 2048 + n.val) / 2048 % 2048 = R.val % 2048; omega
  | ⟨2, _⟩ => show (R.val * 2048 + n.val) % 2048 = n.val; omega

/-- The first two results. -/
theorem out_at (R : Fin 1024) (n : Fin 2048) :
    val_main_v57 (F := Ideal) x g p w d (ix2 R n)
      = val_main_v38 (F := Ideal) x g p w d
          (ix3 ⟨R.val / 2048 % 4, Nat.mod_lt _ (by decide)⟩ ⟨R.val % 2048, Nat.mod_lt _ (by decide)⟩ n) := by
  rw [val_main_v57_apply, val_main_v56_apply, index_eq]

theorem out_next_at (R : Fin 1024) (n : Fin 2048) :
    val_main_v60 (F := Ideal) x g p q w d (ix2 R n)
      = val_main_v52 (F := Ideal) x g p q w d
          (ix3 ⟨R.val / 2048 % 4, Nat.mod_lt _ (by decide)⟩ ⟨R.val % 2048, Nat.mod_lt _ (by decide)⟩ n) := by
  rw [val_main_v60_apply]
  show val_main_v59 (F := Ideal) x g p q w d (ix2 R n) = _
  rw [val_main_v59_apply, val_main_v58_apply, show idx_main_v59 = idx_main_v57 from rfl,
    show idx_main_v58 = idx_main_v56 from rfl, index_eq]

/-- Slab `s` of the gate columns, -/
theorem gate_at (s : Fin 22) (l : Fin 2048) (k : Fin 256) :
    val_main_v63 (F := Ideal) w (ix3 s l k) = w (ix3 0 l ⟨(256 * s.val + k.val) % 11264, Nat.mod_lt _ (by decide)⟩) := by
  rw [val_main_v63_apply]
  show val_main_v62 (F := Ideal) w (ix3 s l k) = _
  rw [val_main_v62_apply, val_main_v61_apply, val_main_v54_apply, val_main_v53_apply]
  have hs := s.isLt
  have hl := l.isLt
  have hk := k.isLt
  have e1 : ((l.val * 22 + s.val) * 256 + k.val) / 5632 = l.val := by omega
  have e2 : ((l.val * 22 + s.val) * 256 + k.val) % 5632 = 256 * s.val + k.val := by omega
  refine congrArg w (funext fun a => Fin.ext ?_)
  match a with
  | ⟨0, _⟩ => rfl
  | ⟨1, _⟩ =>
    show (((l.val * 22 + s.val) * 256 + k.val) / 5632 * 11264 + ((l.val * 22 + s.val) * 256 + k.val) % 5632) / 11264 % 2048 = l.val
    rw [e1, e2]; omega
  | ⟨2, _⟩ =>
    show (((l.val * 22 + s.val) * 256 + k.val) / 5632 * 11264 + ((l.val * 22 + s.val) * 256 + k.val) % 5632) % 11264
      = (256 * s.val + k.val) % 11264
    rw [e1, e2]; omega

/-- of the other columns, -/
theorem up_at (s : Fin 22) (l : Fin 2048) (k : Fin 256) :
    val_main_v66 (F := Ideal) w (ix3 s l k)
      = w (ix3 0 l ⟨(5632 + (256 * s.val + k.val)) % 11264, Nat.mod_lt _ (by decide)⟩) := by
  rw [val_main_v66_apply]
  show val_main_v65 (F := Ideal) w (ix3 s l k) = _
  rw [val_main_v65_apply, val_main_v64_apply, val_main_v55_apply, val_main_v53_apply]
  have hs := s.isLt
  have hl := l.isLt
  have hk := k.isLt
  have e1 : ((l.val * 22 + s.val) * 256 + k.val) / 5632 = l.val := by omega
  have e2 : ((l.val * 22 + s.val) * 256 + k.val) % 5632 = 256 * s.val + k.val := by omega
  refine congrArg w (funext fun a => Fin.ext ?_)
  match a with
  | ⟨0, _⟩ => rfl
  | ⟨1, _⟩ =>
    show (((l.val * 22 + s.val) * 256 + k.val) / 5632 * 11264 + (5632 + ((l.val * 22 + s.val) * 256 + k.val) % 5632)) / 11264 % 2048
      = l.val
    rw [e1, e2]; omega
  | ⟨2, _⟩ =>
    show (((l.val * 22 + s.val) * 256 + k.val) / 5632 * 11264 + (5632 + ((l.val * 22 + s.val) * 256 + k.val) % 5632)) % 11264
      = (5632 + (256 * s.val + k.val)) % 11264
    rw [e1, e2]; omega

/-- and of the rows of the projection down. -/
theorem down_at (s : Fin 22) (k : Fin 256) (n : Fin 2048) :
    val_main_v69 (F := Ideal) d (ix3 s k n) = d (ix3 0 ⟨(256 * s.val + k.val) % 5632, Nat.mod_lt _ (by decide)⟩ n) := by
  rw [val_main_v69_apply]
  show val_main_v68 (F := Ideal) d (ix3 s k n) = _
  rw [val_main_v68_apply, val_main_v67_apply]
  have hs := s.isLt
  have hk := k.isLt
  have hn := n.isLt
  have e1 : ((s.val * 256 + k.val) * 2048 + n.val) / 2048 = 256 * s.val + k.val := by omega
  have e2 : ((s.val * 256 + k.val) * 2048 + n.val) % 2048 = n.val := by omega
  refine congrArg d (funext fun a => Fin.ext ?_)
  match a with
  | ⟨0, _⟩ => rfl
  | ⟨1, _⟩ =>
    show (((s.val * 256 + k.val) * 2048 + n.val) / 2048 * 2048 + ((s.val * 256 + k.val) * 2048 + n.val) % 2048) / 2048 % 5632
      = (256 * s.val + k.val) % 5632
    rw [e1, e2]; omega
  | ⟨2, _⟩ =>
    show (((s.val * 256 + k.val) * 2048 + n.val) / 2048 * 2048 + ((s.val * 256 + k.val) * 2048 + n.val) % 2048) % 2048 = n.val
    rw [e1, e2]; omega

end Cert.Reference6Ideal.Head

end
-- ==== Proof.HeadValue.lean ====
/- Which part of each argument a point of the call over the first rows reads. -/
module

public import proofs.«01_k».proof.Proof.HeadCases
public import proofs.«01_k».proof.Proof.HeadReference
public import Idealize.ShloMosaic.Lib.Pipeline.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open Cert.FeedForward Cert.RowStores
open Cert.Kernel2Ideal.Rows (hid down down_congr)

namespace Cert.Kernel6Ideal.Head

open Cert.Kernel6Ideal Cert.Kernel6Ideal.Gen

variable (m : (ℓ : Loc nD τ sig) → Buf (Elt Ideal) ℓ)

/-- Every window's block at every grid point. -/
theorem places : ∀ t : Fin cfg0.N, win0_0.index t = ![0, 0] ∧ win0_1.index t = ![0, 0] ∧ win0_2.index t = ![0, 0]
    ∧ win0_3.index t = ![0, 0] ∧ win0_4.index t = ![0, t.val] ∧ win0_5.index t = ![0, t.val + 22]
    ∧ win0_6.index t = ![t.val, 0] ∧ win0_7.index t = ![0, 0] ∧ win0_8.index t = ![0, 0]
    ∧ win0_9.index t = ![t.val, 0, 0] ∧ win0_10.index t = ![t.val, 0, 0] ∧ win0_11.index t = ![t.val, 0, 0] :=
  (by decide +kernel : ∀ t : Fin grid0.N, _)

/-- What a buffer holds once the host lines before the call have run. -/
theorem entry_eq (c : Dev nD) (b : Ref sig .tc) :
    V m c b = StableHlo.after hostOps0 (fun b => m (c, b)) (Proc.devRef .tc b) := by
  unfold V V0
  rw [List.flatten_singleton]

/-- Row `R` of the input, the batch and the position taken together. -/
def inRow (c : Dev nD) (R : ℕ) (l : Fin 2048) : EReal :=
  (m ((c : Thread nD τ).loc main_arg0)) (ix3 ⟨R / 2048 % 4, Nat.mod_lt _ (by decide)⟩ ⟨R % 2048, Nat.mod_lt _ (by decide)⟩ l)

/-- Column `k` of the up projections, the gates first. -/
def upCol (c : Dev nD) (l : Fin 2048) (k : ℕ) : EReal :=
  (m ((c : Thread nD τ).loc main_arg4)) (ix3 0 l ⟨k % 11264, Nat.mod_lt _ (by decide)⟩)

/-- Row `k` of the down projection. -/
def downRow (c : Dev nD) (k : ℕ) (n : Fin 2048) : EReal :=
  (m ((c : Thread nD τ).loc main_arg5)) (ix3 0 ⟨k % 5632, Nat.mod_lt _ (by decide)⟩ n)

/-- The gain of the norm before the block, of the one after it, and of the next block's. -/
def pre (c : Dev nD) (l : Fin 2048) : EReal := (m ((c : Thread nD τ).loc main_arg1)) (ix2 0 l)
def post (c : Dev nD) (l : Fin 2048) : EReal := (m ((c : Thread nD τ).loc main_arg2)) (ix2 0 l)
def next (c : Dev nD) (l : Fin 2048) : EReal := (m ((c : Thread nD τ).loc main_arg3)) (ix2 0 l)

theorem read0 (c : Dev nD) (t : Fin cfg0.N) (r : Fin 1024) (l : Fin 2048) :
    iblk m c 0 t (ix2 r l) = inRow m c r.val l := by
  have e0 := (places t).1
  have ht := lt_N t
  unfold inRow
  blk_simp [iblk, e0]
  rw [entry_eq]
  entry_read
  pointwise
  blk_ext [e0]

theorem read1 (c : Dev nD) (t : Fin cfg0.N) (l : Fin 2048) :
    iblk m c 1 t (ix2 0 l) = pre m c l := by
  have e1 := (places t).2.1
  have ht := lt_N t
  unfold pre
  blk_simp [iblk, e1]
  blk_ext [e1, V]

theorem read2 (c : Dev nD) (t : Fin cfg0.N) (l : Fin 2048) :
    iblk m c 2 t (ix2 0 l) = post m c l := by
  have e2 := (places t).2.2.1
  have ht := lt_N t
  unfold post
  blk_simp [iblk, e2]
  blk_ext [e2, V]

theorem read3 (c : Dev nD) (t : Fin cfg0.N) (l : Fin 2048) :
    iblk m c 3 t (ix2 0 l) = next m c l := by
  have e3 := (places t).2.2.2.1
  have ht := lt_N t
  unfold next
  blk_simp [iblk, e3]
  blk_ext [e3, V]

theorem read4 (c : Dev nD) (t : Fin cfg0.N) (l : Fin 2048) (k : Fin 256) :
    iblk m c 4 t (ix2 l k) = upCol m c l (256 * t.val + k.val) := by
  have e4 := (places t).2.2.2.2.1
  have ht := lt_N t
  unfold upCol
  blk_simp [iblk, e4]
  rw [entry_eq]
  entry_read
  pointwise
  blk_ext [e4]

theorem read5 (c : Dev nD) (t : Fin cfg0.N) (l : Fin 2048) (k : Fin 256) :
    iblk m c 5 t (ix2 l k) = upCol m c l (5632 + (256 * t.val + k.val)) := by
  have e5 := (places t).2.2.2.2.2.1
  have ht := lt_N t
  unfold upCol
  blk_simp [iblk, e5]
  rw [entry_eq]
  entry_read
  pointwise
  blk_ext [e5]

theorem read6 (c : Dev nD) (t : Fin cfg0.N) (k : Fin 256) (n : Fin 2048) :
    iblk m c 6 t (ix2 k n) = downRow m c (256 * t.val + k.val) n := by
  have e6 := (places t).2.2.2.2.2.2.1
  have ht := lt_N t
  unfold downRow
  blk_simp [iblk, e6]
  rw [entry_eq]
  entry_read
  pointwise
  blk_ext [e6]

end Cert.Kernel6Ideal.Head

end
-- ==== Proof.HeadResult.lean ====
/- What the two row results hold after every point, the five arrays the call ends with, and the reference's. -/
module

public import proofs.«01_k».proof.Proof.HeadValue

@[expose] public section

set_option maxRecDepth 16384

noncomputable section

open Idealize.ShloMosaic Idealize.ShloMosaic.TcCoe Idealize.SL.Sem
open Idealize.ShloMosaic.Pipeline (Dat)
open Cert.FeedForward Cert.RowStores
open Cert.Kernel2Ideal.Rows (hid down down_congr)

namespace Cert.Kernel6Ideal.Head

open Cert.Kernel6Ideal Cert.Kernel6Ideal.Gen

variable (m : (ℓ : Loc nD τ sig) → Buf (Elt Ideal) ℓ)

/-- A point's gate columns are two hundred and fifty-six columns of the weights. -/
theorem gates_at (c : Dev nD) (t : Fin cfg0.N) (l : Fin 2048) (k : Fin 256) :
    gates m c t (ix2 l k) = upCol m c l (256 * t.val + k.val) :=
  (gate_cast _ l k).trans (read4 m c t l k)

theorem ups_at (c : Dev nD) (t : Fin cfg0.N) (l : Fin 2048) (k : Fin 256) :
    ups m c t (ix2 l k) = upCol m c l (5632 + (256 * t.val + k.val)) :=
  (up_cast _ l k).trans (read5 m c t l k)

theorem downs_at (c : Dev nD) (t : Fin cfg0.N) (k : Fin 256) (n : Fin 2048) :
    downs m c t (ix2 k n) = downRow m c (256 * t.val + k.val) n :=
  (down_cast _ k n).trans (read6 m c t k n)

/-- Row `R` of the input, normed. -/
def normRow (c : Dev nD) (R : ℕ) (k : Fin 2048) : EReal := rms (inRow m c R) (pre m c) k

/-- Hidden activation `k` of row `R`. -/
def hidden (c : Dev nD) (R k : ℕ) : EReal :=
  act (∑ l, normRow m c R l * upCol m c l k) (∑ l, normRow m c R l * upCol m c l (5632 + k))

/-- What the hidden units of block `s` contribute to row `R`. -/
def contrib (c : Dev nD) (R s : ℕ) (n : Fin 2048) : EReal :=
  ∑ k : Fin 256, hidden m c R (256 * s + k.val) * downRow m c (256 * s + k.val) n

theorem normed_eq (c : Dev nD) (t : Fin cfg0.N) (r : Fin 1024) (k : Fin 2048) : normed m c t r k = normRow m c r.val k :=
  rms_congr (fun l => read0 m c t r l) (fun l => read1 m c t l) k

theorem downAt_eq (c : Dev nD) (t : Fin cfg0.N) (R : ℕ) (h : Fin 2048 → EReal) (hh : ∀ l, h l = normRow m c R l)
    (n : Fin 2048) : downAt m c t h n = contrib m c R t.val n := by
  obtain rfl : h = normRow m c R := funext hh
  unfold downAt down contrib hid hidden
  refine Finset.sum_congr rfl fun k _ => ?_
  rw [downs_at]
  congr 2 <;> refine Finset.sum_congr rfl fun l _ => ?_
  · rw [gates_at]
  · rw [ups_at]

/-- After point `j`, the second result holds the normed rows and the first the sum of the contributions of the blocks so
    far. -/
theorem upto (c : Dev nD) : ∀ (j : ℕ) (hj : j ≤ 20) (r : Fin 1024) (n : Fin 2048),
    (outsAt0 m c j (show j < 22 by omega)).2.1 (ix2 r n) = normRow m c r.val n
    ∧ (outsAt0 m c j (show j < 22 by omega)).1 (ix2 r n) = ∑ s ∈ Finset.range (j + 1), contrib m c r.val s n := by
  intro j
  induction j with
  | zero =>
    intro hj r n
    have hN : 0 < cfg0.N := show 0 < 22 by omega
    have e := fun r k => normed_eq m c ⟨0, hN⟩ r k
    refine ⟨(first_normed m c ⟨0, hN⟩ rfl r n).trans (e r n), ?_⟩
    refine (first_sum m c ⟨0, hN⟩ rfl r n).trans ?_
    rw [downAt_eq m c ⟨0, hN⟩ _ _ (e r) n, Finset.sum_range_one]
  | succ j ih =>
    intro hj r n
    have hN : j + 1 < cfg0.N := show j + 1 < 22 by omega
    have h0 : ¬(j + 1) = 0 := by omega
    have h2 : ¬(j + 1) = 21 := by omega
    have ih := fun r n => ih (by omega) r n
    refine ⟨(congrFun (mid_normed m c ⟨j + 1, hN⟩ h0 h2) _).trans (ih r n).1, ?_⟩
    refine (mid_sum m c ⟨j + 1, hN⟩ h0 h2 r n).trans ?_
    refine (congrArg₂ (· + ·) (ih r n).2 (downAt_eq m c ⟨j + 1, hN⟩ r.val _ (fun l => (ih r l).1) n)).trans ?_
    rw [Finset.sum_range_succ _ (j + 1)]

/-- Row `R` of the first result. -/
def outRow (c : Dev nD) (R : ℕ) (n : Fin 2048) : EReal :=
  fin (inRow m c R) (fun l => ∑ s ∈ Finset.range 22, contrib m c R s l) (post m c) n

/-- Row `R` of the second. -/
def nextRow (c : Dev nD) (R : ℕ) (n : Fin 2048) : EReal := rms (outRow m c R) (next m c) n

theorem finished_eq (c : Dev nD) (t : Fin cfg0.N) (h : t.val = 21) (r : Fin 1024) (n : Fin 2048) :
    finished m c t r n = outRow m c r.val n := by
  obtain ⟨t, ht⟩ := t
  obtain ⟨j, rfl⟩ : ∃ j, t = j + 1 := ⟨20, h⟩
  have hj : j = 20 := Nat.succ.inj h
  refine fin_congr (fun l => read0 m c _ r l) (fun l => ?_) (fun l => read2 m c _ l) n
  unfold added
  refine (congrArg₂ (· + ·) (upto m c j (le_of_eq hj) r l).2
    (downAt_eq m c ⟨j + 1, ht⟩ r.val _ (fun l => (upto m c j (le_of_eq hj) r l).1) l)).trans ?_
  rw [← Finset.sum_range_succ _ (j + 1), hj]

theorem last_eq (c : Dev nD) (t : Fin cfg0.N) (h : t.val = 21) (r : Fin 1024) (n : Fin 2048) :
    (outsAt0 m c t.val t.isLt).1 (ix2 r n) = outRow m c r.val n
      ∧ (outsAt0 m c t.val t.isLt).2.1 (ix2 r n) = nextRow m c r.val n :=
  ⟨(last_rows m c t h r n).1.trans (finished_eq m c t h r n),
    (last_rows m c t h r n).2.trans (rms_congr (fun l => finished_eq m c t h r l) (fun l => read3 m c t l) n)⟩

/-- The rows of the first two results, as arrays. -/
def rows7 (c : Dev nD) : Buf (Elt Ideal) ((c : Thread nD τ).loc main_v3_0) := fun i => outRow m c (i 0).val (i 1)
def rows8 (c : Dev nD) : Buf (Elt Ideal) ((c : Thread nD τ).loc main_v3_1) := fun i => nextRow m c (i 0).val (i 1)

theorem mem_blk7 (t : Fin cfg0.N) (R : Fin 8192) (n : Fin 2048) (h : R.val < 1024) :
    (ix2 R n : S8192x2048.Idx) ∈ ((cfg0.win 7).blk t).view.set := by
  have e := (places t).2.2.2.2.2.2.2.1
  show _ ∈ ((View.whole main_v3_0).slice (win0_7.rect t)).set
  rw [View.set_slice_whole, Rect.mem_set_unit]
  have h0 : win0_7.index t (0 : Fin 2) = 0 := congrFun e 0
  have h1 : win0_7.index t (1 : Fin 2) = 0 := congrFun e 1
  have hn := n.isLt
  intro a
  match a with
  | ⟨0, _⟩ => show win0_7.index t (0 : Fin 2) * 1024 ≤ R.val ∧ R.val < win0_7.index t (0 : Fin 2) * 1024 + 1024; omega
  | ⟨1, _⟩ => show win0_7.index t (1 : Fin 2) * 2048 ≤ n.val ∧ n.val < win0_7.index t (1 : Fin 2) * 2048 + 2048; omega

/-- What the last point writes back is the first rows. -/
theorem flushed7 (c : Dev nD) (t : Fin cfg0.N) (hf : (cfg0.win 7).flush t = true) :
    (dats m 0 c).flushed 7 t = ((cfg0.win 7).blk t).view.read (Elt Ideal) (rows7 m c) := by
  have hm : t.val = 21 := by
    have h := (flush0_7 t).mp hf
    have ht := lt_N t
    omega
  have h0 : win0_7.index t (0 : Fin 2) = 0 := congrFun (places t).2.2.2.2.2.2.2.1 0
  have h1 : win0_7.index t (1 : Fin 2) = 0 := congrFun (places t).2.2.2.2.2.2.2.1 1
  show (cfg0.win 7).cut (grid0.coords t) ((dats m 0 c).after 7 t) = _
  rw [after7]
  funext y
  have hx : (cfg0.win 7).xinj (grid0.coords t) y = ix2 (⟨(y 0).val, (y 0).isLt⟩ : Fin 1024) (⟨(y 1).val, (y 1).isLt⟩ : Fin 2048) := by
    funext a; match a with | ⟨0, _⟩ => rfl | ⟨1, _⟩ => rfl
  have b0 : (((cfg0.win 7).blk t).view.emb y 0).val = win0_7.index t (0 : Fin 2) * 1024 + 1 * (y 0).val := rfl
  have b1 : (((cfg0.win 7).blk t).view.emb y 1).val = win0_7.index t (1 : Fin 2) * 2048 + 1 * (y 1).val := rfl
  show (outsAt0 m c t.val t.isLt).1 ((cfg0.win 7).xinj (grid0.coords t) y)
    = outRow m c (((cfg0.win 7).blk t).view.emb y 0).val (((cfg0.win 7).blk t).view.emb y 1)
  rw [hx]
  refine (last_eq m c t hm _ _).1.trans (congrArg₂ (outRow m c) ?_ (Fin.ext ?_))
  · rw [b0, h0]; simp only []; omega
  · rw [b1, h1]; simp only []; omega

theorem final7 (c : Dev nD) (R : Fin 8192) (n : Fin 2048) (h : R.val < 1024) :
    (dats m 0 c).arrAt 7 cfg0.N (ix2 R n : S8192x2048.Idx) = outRow m c R.val n := by
  refine ((dats m 0 c).arrAt_eq_piecewise 7 (rows7 m c) (flushed7 m c) (ix2 R n : S8192x2048.Idx)).trans ?_
  have hN : 21 < cfg0.N := show 21 < 22 by omega
  rw [if_pos ⟨⟨21, hN⟩, (flush0_7 _).mpr rfl, mem_blk7 _ R n h⟩]
  rfl

theorem mem_blk8 (t : Fin cfg0.N) (R : Fin 8192) (n : Fin 2048) (h : R.val < 1024) :
    (ix2 R n : S8192x2048.Idx) ∈ ((cfg0.win 8).blk t).view.set := by
  have e := (places t).2.2.2.2.2.2.2.2.1
  show _ ∈ ((View.whole main_v3_1).slice (win0_8.rect t)).set
  rw [View.set_slice_whole, Rect.mem_set_unit]
  have h0 : win0_8.index t (0 : Fin 2) = 0 := congrFun e 0
  have h1 : win0_8.index t (1 : Fin 2) = 0 := congrFun e 1
  have hn := n.isLt
  intro a
  match a with
  | ⟨0, _⟩ => show win0_8.index t (0 : Fin 2) * 1024 ≤ R.val ∧ R.val < win0_8.index t (0 : Fin 2) * 1024 + 1024; omega
  | ⟨1, _⟩ => show win0_8.index t (1 : Fin 2) * 2048 ≤ n.val ∧ n.val < win0_8.index t (1 : Fin 2) * 2048 + 2048; omega

/-- What the last point writes back is the first rows. -/
theorem flushed8 (c : Dev nD) (t : Fin cfg0.N) (hf : (cfg0.win 8).flush t = true) :
    (dats m 0 c).flushed 8 t = ((cfg0.win 8).blk t).view.read (Elt Ideal) (rows8 m c) := by
  have hm : t.val = 21 := by
    have h := (flush0_8 t).mp hf
    have ht := lt_N t
    omega
  have h0 : win0_8.index t (0 : Fin 2) = 0 := congrFun (places t).2.2.2.2.2.2.2.2.1 0
  have h1 : win0_8.index t (1 : Fin 2) = 0 := congrFun (places t).2.2.2.2.2.2.2.2.1 1
  show (cfg0.win 8).cut (grid0.coords t) ((dats m 0 c).after 8 t) = _
  rw [after8]
  funext y
  have hx : (cfg0.win 8).xinj (grid0.coords t) y = ix2 (⟨(y 0).val, (y 0).isLt⟩ : Fin 1024) (⟨(y 1).val, (y 1).isLt⟩ : Fin 2048) := by
    funext a; match a with | ⟨0, _⟩ => rfl | ⟨1, _⟩ => rfl
  have b0 : (((cfg0.win 8).blk t).view.emb y 0).val = win0_8.index t (0 : Fin 2) * 1024 + 1 * (y 0).val := rfl
  have b1 : (((cfg0.win 8).blk t).view.emb y 1).val = win0_8.index t (1 : Fin 2) * 2048 + 1 * (y 1).val := rfl
  show (outsAt0 m c t.val t.isLt).2.1 ((cfg0.win 8).xinj (grid0.coords t) y)
    = nextRow m c (((cfg0.win 8).blk t).view.emb y 0).val (((cfg0.win 8).blk t).view.emb y 1)
  rw [hx]
  refine (last_eq m c t hm _ _).2.trans (congrArg₂ (nextRow m c) ?_ (Fin.ext ?_))
  · rw [b0, h0]; simp only []; omega
  · rw [b1, h1]; simp only []; omega

theorem final8 (c : Dev nD) (R : Fin 8192) (n : Fin 2048) (h : R.val < 1024) :
    (dats m 0 c).arrAt 8 cfg0.N (ix2 R n : S8192x2048.Idx) = nextRow m c R.val n := by
  refine ((dats m 0 c).arrAt_eq_piecewise 8 (rows8 m c) (flushed8 m c) (ix2 R n : S8192x2048.Idx)).trans ?_
  have hN : 21 < cfg0.N := show 21 < 22 by omega
  rw [if_pos ⟨⟨21, hN⟩, (flush0_8 _).mpr rfl, mem_blk8 _ R n h⟩]
  rfl

/-- The slabs of the weights, as arrays. -/
def slabs9 (c : Dev nD) : Buf (Elt Ideal) ((c : Thread nD τ).loc main_v3_2) := fun i => upCol m c (i 1) (256 * (i 0).val + (i 2).val)
def slabs10 (c : Dev nD) : Buf (Elt Ideal) ((c : Thread nD τ).loc main_v3_3) := fun i =>
  upCol m c (i 1) (5632 + (256 * (i 0).val + (i 2).val))
def slabs11 (c : Dev nD) : Buf (Elt Ideal) ((c : Thread nD τ).loc main_v3_4) := fun i => downRow m c (256 * (i 0).val + (i 1).val) (i 2)

theorem final9 (c : Dev nD) : (dats m 0 c).arrAt 9 cfg0.N = slabs9 m c := by
  refine (dats m 0 c).arrAt_eq_of_covers 9 _ (by decide +kernel) fun t hf y => ?_
  have h0 : win0_9.index t (0 : Fin 3) = t.val := congrFun (places t).2.2.2.2.2.2.2.2.2.1 0
  have h1 : win0_9.index t (1 : Fin 3) = 0 := congrFun (places t).2.2.2.2.2.2.2.2.2.1 1
  have h2 : win0_9.index t (2 : Fin 3) = 0 := congrFun (places t).2.2.2.2.2.2.2.2.2.1 2
  blk_simp
  rw [after9]
  obtain ⟨l, k, rfl⟩ : ∃ (l : Fin 2048) (k : Fin 256), y = ix3 0 l k := ⟨y 1, y 2, by
    funext a
    match a with
    | ⟨0, _⟩ => exact Fin.ext (Nat.lt_one_iff.mp (y 0).isLt)
    | ⟨1, _⟩ => rfl
    | ⟨2, _⟩ => rfl⟩
  have b0 : ((win0_9.blk t).view.emb (ix3 0 l k) 0).val = win0_9.index t (0 : Fin 3) * 1 + 1 * 0 := rfl
  have b1 : ((win0_9.blk t).view.emb (ix3 0 l k) 1).val = win0_9.index t (1 : Fin 3) * 2048 + 1 * l.val := rfl
  have b2 : ((win0_9.blk t).view.emb (ix3 0 l k) 2).val = win0_9.index t (2 : Fin 3) * 256 + 1 * k.val := rfl
  show (outsAt0 m c t.val t.isLt).2.2.1 (ix3 0 l k) = upCol m c ((win0_9.blk t).view.emb (ix3 0 l k) 1) (256 * ((win0_9.blk t).view.emb (ix3 0 l k) 0).val + ((win0_9.blk t).view.emb (ix3 0 l k) 2).val)
  refine ((slabs m c t l k).1.trans (read4 m c t l k)).trans ?_
  refine congrArg₂ (upCol m c) (Fin.ext ?_) ?_
  · rw [b1]; omega
  · rw [b0, b2]; omega

theorem final10 (c : Dev nD) : (dats m 0 c).arrAt 10 cfg0.N = slabs10 m c := by
  refine (dats m 0 c).arrAt_eq_of_covers 10 _ (by decide +kernel) fun t hf y => ?_
  have h0 : win0_10.index t (0 : Fin 3) = t.val := congrFun (places t).2.2.2.2.2.2.2.2.2.2.1 0
  have h1 : win0_10.index t (1 : Fin 3) = 0 := congrFun (places t).2.2.2.2.2.2.2.2.2.2.1 1
  have h2 : win0_10.index t (2 : Fin 3) = 0 := congrFun (places t).2.2.2.2.2.2.2.2.2.2.1 2
  blk_simp
  rw [after10]
  obtain ⟨l, k, rfl⟩ : ∃ (l : Fin 2048) (k : Fin 256), y = ix3 0 l k := ⟨y 1, y 2, by
    funext a
    match a with
    | ⟨0, _⟩ => exact Fin.ext (Nat.lt_one_iff.mp (y 0).isLt)
    | ⟨1, _⟩ => rfl
    | ⟨2, _⟩ => rfl⟩
  have b0 : ((win0_10.blk t).view.emb (ix3 0 l k) 0).val = win0_10.index t (0 : Fin 3) * 1 + 1 * 0 := rfl
  have b1 : ((win0_10.blk t).view.emb (ix3 0 l k) 1).val = win0_10.index t (1 : Fin 3) * 2048 + 1 * l.val := rfl
  have b2 : ((win0_10.blk t).view.emb (ix3 0 l k) 2).val = win0_10.index t (2 : Fin 3) * 256 + 1 * k.val := rfl
  show (outsAt0 m c t.val t.isLt).2.2.2.1 (ix3 0 l k) = upCol m c ((win0_10.blk t).view.emb (ix3 0 l k) 1) (5632 + (256 * ((win0_10.blk t).view.emb (ix3 0 l k) 0).val + ((win0_10.blk t).view.emb (ix3 0 l k) 2).val))
  refine ((slabs m c t l k).2.1.trans (read5 m c t l k)).trans ?_
  refine congrArg₂ (upCol m c) (Fin.ext ?_) ?_
  · rw [b1]; omega
  · rw [b0, b2]; omega

theorem final11 (c : Dev nD) : (dats m 0 c).arrAt 11 cfg0.N = slabs11 m c := by
  refine (dats m 0 c).arrAt_eq_of_covers 11 _ (by decide +kernel) fun t hf y => ?_
  have h0 : win0_11.index t (0 : Fin 3) = t.val := congrFun (places t).2.2.2.2.2.2.2.2.2.2.2 0
  have h1 : win0_11.index t (1 : Fin 3) = 0 := congrFun (places t).2.2.2.2.2.2.2.2.2.2.2 1
  have h2 : win0_11.index t (2 : Fin 3) = 0 := congrFun (places t).2.2.2.2.2.2.2.2.2.2.2 2
  blk_simp
  rw [after11]
  obtain ⟨l, k, rfl⟩ : ∃ (l : Fin 256) (k : Fin 2048), y = ix3 0 l k := ⟨y 1, y 2, by
    funext a
    match a with
    | ⟨0, _⟩ => exact Fin.ext (Nat.lt_one_iff.mp (y 0).isLt)
    | ⟨1, _⟩ => rfl
    | ⟨2, _⟩ => rfl⟩
  have b0 : ((win0_11.blk t).view.emb (ix3 0 l k) 0).val = win0_11.index t (0 : Fin 3) * 1 + 1 * 0 := rfl
  have b1 : ((win0_11.blk t).view.emb (ix3 0 l k) 1).val = win0_11.index t (1 : Fin 3) * 256 + 1 * l.val := rfl
  have b2 : ((win0_11.blk t).view.emb (ix3 0 l k) 2).val = win0_11.index t (2 : Fin 3) * 2048 + 1 * k.val := rfl
  show (outsAt0 m c t.val t.isLt).2.2.2.2 (ix3 0 l k) = downRow m c (256 * ((win0_11.blk t).view.emb (ix3 0 l k) 0).val + ((win0_11.blk t).view.emb (ix3 0 l k) 1).val) ((win0_11.blk t).view.emb (ix3 0 l k) 2)
  refine ((slabs m c t k l).2.2.trans (read6 m c t l k)).trans ?_
  refine congrArg₂ (downRow m c) ?_ (Fin.ext ?_)
  · rw [b0, b1]; omega
  · rw [b2]; omega

/-- The reference's row before the last norm. -/
theorem reference_row (c : Dev nD) (R : Fin 1024) (n : Fin 2048) :
    Reference6Ideal.Read.val_main_v38 (F := Ideal) (m ((c : Thread nD τ).loc main_arg0)) (m ((c : Thread nD τ).loc main_arg1))
      (m ((c : Thread nD τ).loc main_arg2)) (m ((c : Thread nD τ).loc main_arg4)) (m ((c : Thread nD τ).loc main_arg5))
        (ix3 ⟨R.val / 2048 % 4, Nat.mod_lt _ (by decide)⟩ ⟨R.val % 2048, Nat.mod_lt _ (by decide)⟩ n)
      = outRow m c R.val n := by
  rw [Reference6Ideal.Head.same, Reference2Ideal.Rows.result_at]
  refine fin_congr (fun _ => rfl) (fun l => ?_) (fun _ => rfl) n
  rw [Reference2Ideal.Rows.down_at, Finset.sum_range]
  refine (Fin.sum_mul_add_congr (S := 22) (n := 256) (fun s k hl => ?_)).symm
  rw [Reference2Ideal.Rows.act_at, Reference2Ideal.Rows.up_at, Reference2Ideal.Rows.up_at]
  have es : 256 * s.val + k.val = s.val * 256 + k.val := by omega
  unfold hidden downRow upCol normRow inRow pre
  rw [es]
  have e1 : (s.val * 256 + k.val) % 5632 = s.val * 256 + k.val := Nat.mod_eq_of_lt hl
  have e2 : (s.val * 256 + k.val) % 11264 = s.val * 256 + k.val := Nat.mod_eq_of_lt (by omega)
  have e3 : (5632 + (s.val * 256 + k.val)) % 11264 = 5632 + (s.val * 256 + k.val) := Nat.mod_eq_of_lt (by omega)
  simp only [e1, e2, e3]

/-- The host line after the call keeps the rows the call writes. -/
theorem tail4 (c : Dev nD) (R : Fin 1024) (n : Fin 2048) :
    Pipeline.afterTail₀ cfgs (dats m) 0 (V0 m) [hostOps1] c main_v4 (ix2 R n)
      = (dats m 0 c).arrAt 7 cfg0.N (ix2 ⟨R.val, R.isLt.trans (by decide)⟩ n : S8192x2048.Idx) := by
  have hW : Pipeline.withArrays spec0 c (V0 m c) (fun w => (dats m 0 c).arrAt w cfg0.N) (Proc.devRef .tc main_v3_0)
      = (dats m 0 c).arrAt 7 cfg0.N :=
    Pipeline.Dat.withArrays_arrAt (dats m 0 c) sharedIn0 (V0 m c) (A_eq m c) 7
  rw [← hW]
  show StableHlo.after hostOps1 (Pipeline.withArrays spec0 c (V0 m c) (fun w => (dats m 0 c).arrAt w cfg0.N))
    (Proc.devRef .tc main_v4) (ix2 R n) = _
  generalize Pipeline.withArrays spec0 c (V0 m c) (fun w => (dats m 0 c).arrAt w cfg0.N) = W
  entry_read
  pointwise

/-- The host line after the call keeps the rows the call writes. -/
theorem tail5 (c : Dev nD) (R : Fin 1024) (n : Fin 2048) :
    Pipeline.afterTail₀ cfgs (dats m) 0 (V0 m) [hostOps1] c main_v5 (ix2 R n)
      = (dats m 0 c).arrAt 8 cfg0.N (ix2 ⟨R.val, R.isLt.trans (by decide)⟩ n : S8192x2048.Idx) := by
  have hW : Pipeline.withArrays spec0 c (V0 m c) (fun w => (dats m 0 c).arrAt w cfg0.N) (Proc.devRef .tc main_v3_1)
      = (dats m 0 c).arrAt 8 cfg0.N :=
    Pipeline.Dat.withArrays_arrAt (dats m 0 c) sharedIn0 (V0 m c) (A_eq m c) 8
  rw [← hW]
  show StableHlo.after hostOps1 (Pipeline.withArrays spec0 c (V0 m c) (fun w => (dats m 0 c).arrAt w cfg0.N))
    (Proc.devRef .tc main_v5) (ix2 R n) = _
  generalize Pipeline.withArrays spec0 c (V0 m c) (fun w => (dats m 0 c).arrAt w cfg0.N) = W
  entry_read
  pointwise

/-- The first array is the reference's. -/
theorem first_result (c : Dev nD) :
    Reference6Ideal.Read.val_main_v57 (F := Ideal) (m ((c : Thread nD τ).loc main_arg0)) (m ((c : Thread nD τ).loc main_arg1))
      (m ((c : Thread nD τ).loc main_arg2)) (m ((c : Thread nD τ).loc main_arg4))
      (m ((c : Thread nD τ).loc main_arg5))
      = Pipeline.afterTail₀ cfgs (dats m) 0 (V0 m) [hostOps1] c main_v4 := by
  funext i
  obtain ⟨R, n, rfl⟩ : ∃ (R : Fin 1024) (n : Fin 2048), i = ix2 R n := ⟨i 0, i 1, by
    funext a; match a with | ⟨0, _⟩ => rfl | ⟨1, _⟩ => rfl⟩
  refine Eq.trans ?_ ((tail4 m c R n).trans (final7 m c _ n R.isLt)).symm
  rw [Reference6Ideal.Head.out_at]
  exact reference_row m c R n

/-- The second array is the reference's. -/
theorem second_result (c : Dev nD) :
    Reference6Ideal.Read.val_main_v60 (F := Ideal) (m ((c : Thread nD τ).loc main_arg0)) (m ((c : Thread nD τ).loc main_arg1))
      (m ((c : Thread nD τ).loc main_arg2)) (m ((c : Thread nD τ).loc main_arg3))
      (m ((c : Thread nD τ).loc main_arg4)) (m ((c : Thread nD τ).loc main_arg5))
      = Pipeline.afterTail₀ cfgs (dats m) 0 (V0 m) [hostOps1] c main_v5 := by
  funext i
  obtain ⟨R, n, rfl⟩ : ∃ (R : Fin 1024) (n : Fin 2048), i = ix2 R n := ⟨i 0, i 1, by
    funext a; match a with | ⟨0, _⟩ => rfl | ⟨1, _⟩ => rfl⟩
  refine Eq.trans ?_ ((tail5 m c R n).trans (final8 m c _ n R.isLt)).symm
  rw [Reference6Ideal.Head.out_next_at]
  rw [Reference6Ideal.Head.next_at]
  exact rms_congr (fun l => reference_row m c R l) (fun _ => rfl) n

/-- The third array is the reference's. -/
theorem third_result (c : Dev nD) :
    Reference6Ideal.Read.val_main_v63 (F := Ideal) (m ((c : Thread nD τ).loc main_arg4)) = (dats m 0 c).arrAt 9 cfg0.N := by
  rw [final9]
  funext i
  obtain ⟨s, l, k, rfl⟩ : ∃ (s : Fin 22) (l : Fin 2048) (k : Fin 256), i = ix3 s l k := ⟨i 0, i 1, i 2, by
    funext a; match a with | ⟨0, _⟩ => rfl | ⟨1, _⟩ => rfl | ⟨2, _⟩ => rfl⟩
  rw [Reference6Ideal.Head.gate_at]
  rfl

/-- The fourth array is the reference's. -/
theorem fourth_result (c : Dev nD) :
    Reference6Ideal.Read.val_main_v66 (F := Ideal) (m ((c : Thread nD τ).loc main_arg4)) = (dats m 0 c).arrAt 10 cfg0.N := by
  rw [final10]
  funext i
  obtain ⟨s, l, k, rfl⟩ : ∃ (s : Fin 22) (l : Fin 2048) (k : Fin 256), i = ix3 s l k := ⟨i 0, i 1, i 2, by
    funext a; match a with | ⟨0, _⟩ => rfl | ⟨1, _⟩ => rfl | ⟨2, _⟩ => rfl⟩
  rw [Reference6Ideal.Head.up_at]
  rfl

/-- The fifth array is the reference's. -/
theorem fifth_result (c : Dev nD) :
    Reference6Ideal.Read.val_main_v69 (F := Ideal) (m ((c : Thread nD τ).loc main_arg5)) = (dats m 0 c).arrAt 11 cfg0.N := by
  rw [final11]
  funext i
  obtain ⟨s, l, k, rfl⟩ : ∃ (s : Fin 22) (l : Fin 256) (k : Fin 2048), i = ix3 s l k := ⟨i 0, i 1, i 2, by
    funext a; match a with | ⟨0, _⟩ => rfl | ⟨1, _⟩ => rfl | ⟨2, _⟩ => rfl⟩
  rw [Reference6Ideal.Head.down_at]
  rfl

end Cert.Kernel6Ideal.Head

end
-- ==== Proof.HeadClaim.lean ====
/- The value claim of the call over the first rows. -/
module

public import proofs.«01_k».proof.Defs
public import proofs.«01_k».proof.Proof.HeadResult
public import proofs.«01_k».proof.Proof.Gen.Reference6Ideal
public import proofs.«01_k».proof.Proof.Gen.Reference6Ideal.Run
public import Idealize.ShloMosaic.Lib.Pipeline.ValueKit

@[expose] public section

set_option maxRecDepth 16384

noncomputable section

open Idealize.ShloMosaic Idealize.ShloMosaic.TcCoe Idealize.SL.Sem

namespace Cert.Kernel6Ideal.Head

open Cert.Kernel6Ideal Cert.Kernel6Ideal.Gen

variable {F : FTy → Type} [FloatOps F]
variable (m : (ℓ : Loc nD τ sig) → Buf (Elt F) ℓ) (ρ : Dev nD → PrngReg)

/-- Every run ends with the results at what the write-backs and the host lines after them leave and the arguments as they were. -/
theorem run_blocks : θ_run defs (onTc (τ := τ) (main (F := F))) ⟨m, fun _ => 0, ρ⟩ fun r => ∀ c : Dev nD,
      r.2.mem ((c : Thread nD τ).loc main_v4) = Pipeline.afterTail₀ cfgs (dats m) 0 (V0 m) [hostOps1] c main_v4
      ∧ r.2.mem ((c : Thread nD τ).loc main_v5) = Pipeline.afterTail₀ cfgs (dats m) 0 (V0 m) [hostOps1] c main_v5
      ∧ r.2.mem ((c : Thread nD τ).loc main_v3_2) = (dats m 0 c).arrAt 9 cfg0.N
      ∧ r.2.mem ((c : Thread nD τ).loc main_v3_3) = (dats m 0 c).arrAt 10 cfg0.N
      ∧ r.2.mem ((c : Thread nD τ).loc main_v3_4) = (dats m 0 c).arrAt 11 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h.1 c).2 main_v4 (Pipeline.mem_restRefs_of main_v4 (by decide) (by decide)),
    (h.1 c).2 main_v5 (Pipeline.mem_restRefs_of main_v5 (by decide) (by decide)), (h.1 c).1 9, (h.1 c).1 10, (h.1 c).1 11,
    h.2.1 c⟩) (θ_run_and (run_post m ρ) (frame m ρ))

end Cert.Kernel6Ideal.Head

namespace Cert.HeadClaim

theorem algebraic : Cert.algebraic_Kernel6Ideal_Reference6Ideal := by
  pair_intro
  · run_from Cert.Kernel6Ideal.Head.run_blocks m g
  · run_from Cert.Reference6Ideal.Value.run m' g'
    · obtain ⟨a0, a1, a2, a3, a4, a5⟩ := hagree c
      rw [Cert.Reference6Ideal.Read.val_main_v57_eq, a0, a1, a2, a4, a5]
      exact Cert.Kernel6Ideal.Head.first_result m c
    · obtain ⟨a0, a1, a2, a3, a4, a5⟩ := hagree c
      rw [Cert.Reference6Ideal.Read.val_main_v60_eq, a0, a1, a2, a3, a4, a5]
      exact Cert.Kernel6Ideal.Head.second_result m c
    · rw [Cert.Reference6Ideal.Read.val_main_v63_eq]
      exact Cert.Kernel6Ideal.Head.third_result m c
    · rw [Cert.Reference6Ideal.Read.val_main_v66_eq]
      exact Cert.Kernel6Ideal.Head.fourth_result m c
    · rw [Cert.Reference6Ideal.Read.val_main_v69_eq]
      exact Cert.Kernel6Ideal.Head.fifth_result m c

end Cert.HeadClaim

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2Ideal
public import proofs.«01_k».proof.Proof.Gen.Reference2Ideal
public import proofs.«01_k».proof.Proof.Gen.Kernel3
public import proofs.«01_k».proof.Proof.Gen.Kernel3Ideal
public import proofs.«01_k».proof.Proof.Gen.Reference3Ideal
public import proofs.«01_k».proof.Proof.Gen.Kernel4
public import proofs.«01_k».proof.Proof.Gen.Kernel4Ideal
public import proofs.«01_k».proof.Proof.Gen.Reference4Ideal
public import proofs.«01_k».proof.Proof.Gen.Kernel5
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Read
public import proofs.«01_k».proof.Proof.Gen.Kernel6
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Read
public import proofs.«01_k».proof.Proof.Frames
public import proofs.«01_k».proof.Proof.FfnClaim
public import proofs.«01_k».proof.Proof.LinearClaims
public import proofs.«01_k».proof.Proof.RestClaim
public import proofs.«01_k».proof.Proof.HeadClaim

@[expose] public section

noncomputable section

namespace Cert.Proof

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Frames.kernel, Cert.Frames.kernelIdeal, Cert.Frames.referenceIdeal,
    Cert.Frames.kernel2, Cert.Frames.kernel2Ideal, Cert.Frames.reference2Ideal,
    Cert.Frames.kernel3, Cert.Frames.kernel3Ideal, Cert.Frames.reference3Ideal,
    Cert.Frames.kernel4, Cert.Frames.kernel4Ideal, Cert.Frames.reference4Ideal,
    Cert.Frames.kernel5, Cert.Frames.kernel5Ideal, Cert.Frames.reference5Ideal,
    Cert.Frames.kernel6, Cert.Frames.kernel6Ideal, Cert.Frames.reference6Ideal,
    Cert.Frames.preserves, trivial, Cert.FfnClaim.algebraic, trivial, Cert.LinearClaims.algebraicProj,
    trivial, Cert.LinearClaims.algebraicOutProj, trivial, Cert.RestClaim.algebraic,
    trivial, Cert.HeadClaim.algebraic⟩

end Cert.Proof

end

end
